-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Ffa (m : (ℓ : Loc Cert.Ffa.nD Cert.Ffa.τ Cert.Ffa.sig) → Buf (Elt Bits) ℓ) : Prop :=
  True

def Pre_FfaIdeal (m : (ℓ : Loc Cert.FfaIdeal.nD Cert.FfaIdeal.τ Cert.FfaIdeal.sig) → Buf (Elt Ideal) ℓ) : Prop :=
  True

def Pre_FfaRefIdeal (m : (ℓ : Loc Cert.FfaRefIdeal.nD Cert.FfaRefIdeal.τ Cert.FfaRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Ffa [hFfa : Cert.Ffa.Facts] : Prop :=
  ∀ (m : (ℓ : Loc Cert.Ffa.nD Cert.Ffa.τ Cert.Ffa.sig) → Buf (Elt Bits) ℓ) (g : Dev Cert.Ffa.nD → PrngReg), Pre_Ffa m →
    θ_run (Cert.Ffa.defs (F := Bits)) (onTc (τ := Cert.Ffa.τ) (Cert.Ffa.main (F := Bits))) ⟨m, fun _ => 0, g⟩ (fun r => (∀ c : Dev Cert.Ffa.nD,
      r.2.mem ((c.tc : Thread Cert.Ffa.nD Cert.Ffa.τ).loc Cert.Ffa.main_arg0) = m ((c.tc : Thread Cert.Ffa.nD Cert.Ffa.τ).loc Cert.Ffa.main_arg0)
      ∧ r.2.mem ((c.tc : Thread Cert.Ffa.nD Cert.Ffa.τ).loc Cert.Ffa.main_arg1) = m ((c.tc : Thread Cert.Ffa.nD Cert.Ffa.τ).loc Cert.Ffa.main_arg1)
      ∧ r.2.mem ((c.tc : Thread Cert.Ffa.nD Cert.Ffa.τ).loc Cert.Ffa.main_arg2) = m ((c.tc : Thread Cert.Ffa.nD Cert.Ffa.τ).loc Cert.Ffa.main_arg2)
      ∧ r.2.mem ((c.tc : Thread Cert.Ffa.nD Cert.Ffa.τ).loc Cert.Ffa.main_arg3) = m ((c.tc : Thread Cert.Ffa.nD Cert.Ffa.τ).loc Cert.Ffa.main_arg3)
      ∧ r.2.mem ((c.tc : Thread Cert.Ffa.nD Cert.Ffa.τ).loc Cert.Ffa.main_arg4) = m ((c.tc : Thread Cert.Ffa.nD Cert.Ffa.τ).loc Cert.Ffa.main_arg4)
      ∧ r.2.mem ((c.tc : Thread Cert.Ffa.nD Cert.Ffa.τ).loc Cert.Ffa.main_arg5) = m ((c.tc : Thread Cert.Ffa.nD Cert.Ffa.τ).loc Cert.Ffa.main_arg5)
      ∧ r.2.mem ((c.tc : Thread Cert.Ffa.nD Cert.Ffa.τ).loc Cert.Ffa.main_arg6) = m ((c.tc : Thread Cert.Ffa.nD Cert.Ffa.τ).loc Cert.Ffa.main_arg6))
      ∧ r.2.sem = fun _ => 0)

def quiescent_FfaIdeal [hFfaIdeal : Cert.FfaIdeal.Facts] : Prop :=
  ∀ (m : (ℓ : Loc Cert.FfaIdeal.nD Cert.FfaIdeal.τ Cert.FfaIdeal.sig) → Buf (Elt Ideal) ℓ) (g : Dev Cert.FfaIdeal.nD → PrngReg), Pre_FfaIdeal m →
    θ_run (Cert.FfaIdeal.defs (F := Ideal)) (onTc (τ := Cert.FfaIdeal.τ) (Cert.FfaIdeal.main (F := Ideal))) ⟨m, fun _ => 0, g⟩ (fun r => (∀ c : Dev Cert.FfaIdeal.nD,
      r.2.mem ((c.tc : Thread Cert.FfaIdeal.nD Cert.FfaIdeal.τ).loc Cert.FfaIdeal.main_arg0) = m ((c.tc : Thread Cert.FfaIdeal.nD Cert.FfaIdeal.τ).loc Cert.FfaIdeal.main_arg0)
      ∧ r.2.mem ((c.tc : Thread Cert.FfaIdeal.nD Cert.FfaIdeal.τ).loc Cert.FfaIdeal.main_arg1) = m ((c.tc : Thread Cert.FfaIdeal.nD Cert.FfaIdeal.τ).loc Cert.FfaIdeal.main_arg1)
      ∧ r.2.mem ((c.tc : Thread Cert.FfaIdeal.nD Cert.FfaIdeal.τ).loc Cert.FfaIdeal.main_arg2) = m ((c.tc : Thread Cert.FfaIdeal.nD Cert.FfaIdeal.τ).loc Cert.FfaIdeal.main_arg2)
      ∧ r.2.mem ((c.tc : Thread Cert.FfaIdeal.nD Cert.FfaIdeal.τ).loc Cert.FfaIdeal.main_arg3) = m ((c.tc : Thread Cert.FfaIdeal.nD Cert.FfaIdeal.τ).loc Cert.FfaIdeal.main_arg3)
      ∧ r.2.mem ((c.tc : Thread Cert.FfaIdeal.nD Cert.FfaIdeal.τ).loc Cert.FfaIdeal.main_arg4) = m ((c.tc : Thread Cert.FfaIdeal.nD Cert.FfaIdeal.τ).loc Cert.FfaIdeal.main_arg4)
      ∧ r.2.mem ((c.tc : Thread Cert.FfaIdeal.nD Cert.FfaIdeal.τ).loc Cert.FfaIdeal.main_arg5) = m ((c.tc : Thread Cert.FfaIdeal.nD Cert.FfaIdeal.τ).loc Cert.FfaIdeal.main_arg5)
      ∧ r.2.mem ((c.tc : Thread Cert.FfaIdeal.nD Cert.FfaIdeal.τ).loc Cert.FfaIdeal.main_arg6) = m ((c.tc : Thread Cert.FfaIdeal.nD Cert.FfaIdeal.τ).loc Cert.FfaIdeal.main_arg6))
      ∧ r.2.sem = fun _ => 0)

def quiescent_FfaRefIdeal [hFfaRefIdeal : Cert.FfaRefIdeal.Facts] : Prop :=
  ∀ (m : (ℓ : Loc Cert.FfaRefIdeal.nD Cert.FfaRefIdeal.τ Cert.FfaRefIdeal.sig) → Buf (Elt Ideal) ℓ) (g : Dev Cert.FfaRefIdeal.nD → PrngReg), Pre_FfaRefIdeal m →
    θ_run (Cert.FfaRefIdeal.defs (F := Ideal)) (onTc (τ := Cert.FfaRefIdeal.τ) (Cert.FfaRefIdeal.main (F := Ideal))) ⟨m, fun _ => 0, g⟩ (fun r => (∀ c : Dev Cert.FfaRefIdeal.nD,
      r.2.mem ((c.tc : Thread Cert.FfaRefIdeal.nD Cert.FfaRefIdeal.τ).loc Cert.FfaRefIdeal.main_arg0) = m ((c.tc : Thread Cert.FfaRefIdeal.nD Cert.FfaRefIdeal.τ).loc Cert.FfaRefIdeal.main_arg0)
      ∧ r.2.mem ((c.tc : Thread Cert.FfaRefIdeal.nD Cert.FfaRefIdeal.τ).loc Cert.FfaRefIdeal.main_arg1) = m ((c.tc : Thread Cert.FfaRefIdeal.nD Cert.FfaRefIdeal.τ).loc Cert.FfaRefIdeal.main_arg1)
      ∧ r.2.mem ((c.tc : Thread Cert.FfaRefIdeal.nD Cert.FfaRefIdeal.τ).loc Cert.FfaRefIdeal.main_arg2) = m ((c.tc : Thread Cert.FfaRefIdeal.nD Cert.FfaRefIdeal.τ).loc Cert.FfaRefIdeal.main_arg2)
      ∧ r.2.mem ((c.tc : Thread Cert.FfaRefIdeal.nD Cert.FfaRefIdeal.τ).loc Cert.FfaRefIdeal.main_arg3) = m ((c.tc : Thread Cert.FfaRefIdeal.nD Cert.FfaRefIdeal.τ).loc Cert.FfaRefIdeal.main_arg3)
      ∧ r.2.mem ((c.tc : Thread Cert.FfaRefIdeal.nD Cert.FfaRefIdeal.τ).loc Cert.FfaRefIdeal.main_arg4) = m ((c.tc : Thread Cert.FfaRefIdeal.nD Cert.FfaRefIdeal.τ).loc Cert.FfaRefIdeal.main_arg4)
      ∧ r.2.mem ((c.tc : Thread Cert.FfaRefIdeal.nD Cert.FfaRefIdeal.τ).loc Cert.FfaRefIdeal.main_arg5) = m ((c.tc : Thread Cert.FfaRefIdeal.nD Cert.FfaRefIdeal.τ).loc Cert.FfaRefIdeal.main_arg5)
      ∧ r.2.mem ((c.tc : Thread Cert.FfaRefIdeal.nD Cert.FfaRefIdeal.τ).loc Cert.FfaRefIdeal.main_arg6) = m ((c.tc : Thread Cert.FfaRefIdeal.nD Cert.FfaRefIdeal.τ).loc Cert.FfaRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v13)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v13) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v73) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Ffa_FfaIdeal : Prop :=
  True

def algebraic_FfaIdeal_FfaRefIdeal [hFfaIdeal : Cert.FfaIdeal.Facts] [hFfaRefIdeal : Cert.FfaRefIdeal.Facts] : Prop :=
  ∀ (m : (ℓ : Loc Cert.FfaIdeal.nD Cert.FfaIdeal.τ Cert.FfaIdeal.sig) → Buf (Elt Ideal) ℓ) (g : Dev Cert.FfaIdeal.nD → PrngReg)
    (m' : (ℓ : Loc Cert.FfaRefIdeal.nD Cert.FfaRefIdeal.τ Cert.FfaRefIdeal.sig) → Buf (Elt Ideal) ℓ) (g' : Dev Cert.FfaRefIdeal.nD → PrngReg), Pre_FfaIdeal m →
    (∀ c : Dev Cert.FfaIdeal.nD,
      m' ((c.tc : Thread Cert.FfaRefIdeal.nD Cert.FfaRefIdeal.τ).loc Cert.FfaRefIdeal.main_arg0) = m ((c.tc : Thread Cert.FfaIdeal.nD Cert.FfaIdeal.τ).loc Cert.FfaIdeal.main_arg0)
      ∧ m' ((c.tc : Thread Cert.FfaRefIdeal.nD Cert.FfaRefIdeal.τ).loc Cert.FfaRefIdeal.main_arg1) = m ((c.tc : Thread Cert.FfaIdeal.nD Cert.FfaIdeal.τ).loc Cert.FfaIdeal.main_arg1)
      ∧ m' ((c.tc : Thread Cert.FfaRefIdeal.nD Cert.FfaRefIdeal.τ).loc Cert.FfaRefIdeal.main_arg2) = m ((c.tc : Thread Cert.FfaIdeal.nD Cert.FfaIdeal.τ).loc Cert.FfaIdeal.main_arg2)
      ∧ m' ((c.tc : Thread Cert.FfaRefIdeal.nD Cert.FfaRefIdeal.τ).loc Cert.FfaRefIdeal.main_arg3) = m ((c.tc : Thread Cert.FfaIdeal.nD Cert.FfaIdeal.τ).loc Cert.FfaIdeal.main_arg3)
      ∧ m' ((c.tc : Thread Cert.FfaRefIdeal.nD Cert.FfaRefIdeal.τ).loc Cert.FfaRefIdeal.main_arg4) = m ((c.tc : Thread Cert.FfaIdeal.nD Cert.FfaIdeal.τ).loc Cert.FfaIdeal.main_arg4)
      ∧ m' ((c.tc : Thread Cert.FfaRefIdeal.nD Cert.FfaRefIdeal.τ).loc Cert.FfaRefIdeal.main_arg5) = m ((c.tc : Thread Cert.FfaIdeal.nD Cert.FfaIdeal.τ).loc Cert.FfaIdeal.main_arg5)
      ∧ m' ((c.tc : Thread Cert.FfaRefIdeal.nD Cert.FfaRefIdeal.τ).loc Cert.FfaRefIdeal.main_arg6) = m ((c.tc : Thread Cert.FfaIdeal.nD Cert.FfaIdeal.τ).loc Cert.FfaIdeal.main_arg6)) →
    ∃ (v0 : (c : Dev Cert.FfaIdeal.nD) → Buf (Elt Ideal) ((c.tc : Thread Cert.FfaIdeal.nD Cert.FfaIdeal.τ).loc Cert.FfaIdeal.main_v13)),
      θ_run (Cert.FfaIdeal.defs (F := Ideal)) (onTc (τ := Cert.FfaIdeal.τ) (Cert.FfaIdeal.main (F := Ideal))) ⟨m, fun _ => 0, g⟩ (fun r => ∀ c : Dev Cert.FfaIdeal.nD,
          r.2.mem ((c.tc : Thread Cert.FfaIdeal.nD Cert.FfaIdeal.τ).loc Cert.FfaIdeal.main_v13) = v0 c
          ∧ r.2.mem ((c.tc : Thread Cert.FfaIdeal.nD Cert.FfaIdeal.τ).loc Cert.FfaIdeal.main_arg0) = m ((c.tc : Thread Cert.FfaIdeal.nD Cert.FfaIdeal.τ).loc Cert.FfaIdeal.main_arg0)
          ∧ r.2.mem ((c.tc : Thread Cert.FfaIdeal.nD Cert.FfaIdeal.τ).loc Cert.FfaIdeal.main_arg1) = m ((c.tc : Thread Cert.FfaIdeal.nD Cert.FfaIdeal.τ).loc Cert.FfaIdeal.main_arg1)
          ∧ r.2.mem ((c.tc : Thread Cert.FfaIdeal.nD Cert.FfaIdeal.τ).loc Cert.FfaIdeal.main_arg2) = m ((c.tc : Thread Cert.FfaIdeal.nD Cert.FfaIdeal.τ).loc Cert.FfaIdeal.main_arg2)
          ∧ r.2.mem ((c.tc : Thread Cert.FfaIdeal.nD Cert.FfaIdeal.τ).loc Cert.FfaIdeal.main_arg3) = m ((c.tc : Thread Cert.FfaIdeal.nD Cert.FfaIdeal.τ).loc Cert.FfaIdeal.main_arg3)
          ∧ r.2.mem ((c.tc : Thread Cert.FfaIdeal.nD Cert.FfaIdeal.τ).loc Cert.FfaIdeal.main_arg4) = m ((c.tc : Thread Cert.FfaIdeal.nD Cert.FfaIdeal.τ).loc Cert.FfaIdeal.main_arg4)
          ∧ r.2.mem ((c.tc : Thread Cert.FfaIdeal.nD Cert.FfaIdeal.τ).loc Cert.FfaIdeal.main_arg5) = m ((c.tc : Thread Cert.FfaIdeal.nD Cert.FfaIdeal.τ).loc Cert.FfaIdeal.main_arg5)
          ∧ r.2.mem ((c.tc : Thread Cert.FfaIdeal.nD Cert.FfaIdeal.τ).loc Cert.FfaIdeal.main_arg6) = m ((c.tc : Thread Cert.FfaIdeal.nD Cert.FfaIdeal.τ).loc Cert.FfaIdeal.main_arg6))
      ∧ θ_run (Cert.FfaRefIdeal.defs (F := Ideal)) (onTc (τ := Cert.FfaRefIdeal.τ) (Cert.FfaRefIdeal.main (F := Ideal))) ⟨m', fun _ => 0, g'⟩ (fun r => ∀ c : Dev Cert.FfaRefIdeal.nD,
          r.2.mem ((c.tc : Thread Cert.FfaRefIdeal.nD Cert.FfaRefIdeal.τ).loc Cert.FfaRefIdeal.main_v59) = v0 c
          ∧ r.2.mem ((c.tc : Thread Cert.FfaRefIdeal.nD Cert.FfaRefIdeal.τ).loc Cert.FfaRefIdeal.main_arg0) = m' ((c.tc : Thread Cert.FfaRefIdeal.nD Cert.FfaRefIdeal.τ).loc Cert.FfaRefIdeal.main_arg0)
          ∧ r.2.mem ((c.tc : Thread Cert.FfaRefIdeal.nD Cert.FfaRefIdeal.τ).loc Cert.FfaRefIdeal.main_arg1) = m' ((c.tc : Thread Cert.FfaRefIdeal.nD Cert.FfaRefIdeal.τ).loc Cert.FfaRefIdeal.main_arg1)
          ∧ r.2.mem ((c.tc : Thread Cert.FfaRefIdeal.nD Cert.FfaRefIdeal.τ).loc Cert.FfaRefIdeal.main_arg2) = m' ((c.tc : Thread Cert.FfaRefIdeal.nD Cert.FfaRefIdeal.τ).loc Cert.FfaRefIdeal.main_arg2)
          ∧ r.2.mem ((c.tc : Thread Cert.FfaRefIdeal.nD Cert.FfaRefIdeal.τ).loc Cert.FfaRefIdeal.main_arg3) = m' ((c.tc : Thread Cert.FfaRefIdeal.nD Cert.FfaRefIdeal.τ).loc Cert.FfaRefIdeal.main_arg3)
          ∧ r.2.mem ((c.tc : Thread Cert.FfaRefIdeal.nD Cert.FfaRefIdeal.τ).loc Cert.FfaRefIdeal.main_arg4) = m' ((c.tc : Thread Cert.FfaRefIdeal.nD Cert.FfaRefIdeal.τ).loc Cert.FfaRefIdeal.main_arg4)
          ∧ r.2.mem ((c.tc : Thread Cert.FfaRefIdeal.nD Cert.FfaRefIdeal.τ).loc Cert.FfaRefIdeal.main_arg5) = m' ((c.tc : Thread Cert.FfaRefIdeal.nD Cert.FfaRefIdeal.τ).loc Cert.FfaRefIdeal.main_arg5)
          ∧ r.2.mem ((c.tc : Thread Cert.FfaRefIdeal.nD Cert.FfaRefIdeal.τ).loc Cert.FfaRefIdeal.main_arg6) = m' ((c.tc : Thread Cert.FfaRefIdeal.nD Cert.FfaRefIdeal.τ).loc Cert.FfaRefIdeal.main_arg6))

def preserves_Proj_ProjIdeal : Prop :=
  IdealRules.named_const.Statement Cert.ProjIdeal.κ "q_scale" .f32 0x3E0293EE#32 ((((Real.log 2) * (Real.sqrt 128))⁻¹ : ℝ) : EReal)

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v14_0)) (v1 : (c : Dev Cert.ProjIdeal.nD) → Buf (Elt Ideal) ((c.tc : Thread Cert.ProjIdeal.nD Cert.ProjIdeal.τ).loc Cert.ProjIdeal.main_v14_1)) (v2 : (c : Dev Cert.ProjIdeal.nD) → Buf (Elt Ideal) ((c.tc : Thread Cert.ProjIdeal.nD Cert.ProjIdeal.τ).loc Cert.ProjIdeal.main_v14_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v14_0) = v0 c
          ∧ r.2.mem ((c.tc : Thread Cert.ProjIdeal.nD Cert.ProjIdeal.τ).loc Cert.ProjIdeal.main_v14_1) = v1 c
          ∧ r.2.mem ((c.tc : Thread Cert.ProjIdeal.nD Cert.ProjIdeal.τ).loc Cert.ProjIdeal.main_v14_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v54) = v0 c
          ∧ r.2.mem ((c.tc : Thread Cert.ProjRefIdeal.nD Cert.ProjRefIdeal.τ).loc Cert.ProjRefIdeal.main_v55) = v1 c
          ∧ r.2.mem ((c.tc : Thread Cert.ProjRefIdeal.nD Cert.ProjRefIdeal.τ).loc Cert.ProjRefIdeal.main_v62) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def Claim : Prop :=
  ∃ (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hAda : Cert.Ada.Facts) (hAdaIdeal : Cert.AdaIdeal.Facts) (hAdaRefIdeal : Cert.AdaRefIdeal.Facts) (hFfa : Cert.Ffa.Facts) (hFfaIdeal : Cert.FfaIdeal.Facts) (hFfaRefIdeal : Cert.FfaRefIdeal.Facts) (hProj : Cert.Proj.Facts) (hProjIdeal : Cert.ProjIdeal.Facts) (hProjRefIdeal : Cert.ProjRefIdeal.Facts),
    quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_Ada (hAda := hAda)
    ∧ quiescent_AdaIdeal (hAdaIdeal := hAdaIdeal)
    ∧ quiescent_AdaRefIdeal (hAdaRefIdeal := hAdaRefIdeal)
    ∧ quiescent_Ffa (hFfa := hFfa)
    ∧ quiescent_FfaIdeal (hFfaIdeal := hFfaIdeal)
    ∧ quiescent_FfaRefIdeal (hFfaRefIdeal := hFfaRefIdeal)
    ∧ quiescent_Proj (hProj := hProj)
    ∧ quiescent_ProjIdeal (hProjIdeal := hProjIdeal)
    ∧ quiescent_ProjRefIdeal (hProjRefIdeal := hProjRefIdeal)
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_Ada_AdaIdeal
    ∧ algebraic_AdaIdeal_AdaRefIdeal (hAdaIdeal := hAdaIdeal) (hAdaRefIdeal := hAdaRefIdeal)
    ∧ preserves_Ffa_FfaIdeal
    ∧ algebraic_FfaIdeal_FfaRefIdeal (hFfaIdeal := hFfaIdeal) (hFfaRefIdeal := hFfaRefIdeal)
    ∧ preserves_Proj_ProjIdeal
    ∧ algebraic_ProjIdeal_ProjRefIdeal (hProjIdeal := hProjIdeal) (hProjRefIdeal := hProjRefIdeal)
-- ==== KernelIdeal.lean ====
abbrev S2x16384x1024 : Shape := ⟨3, ![2, 16384, 1024]⟩
abbrev S_ : Shape := ⟨0, ![]⟩
abbrev S2x16384x8x128 : Shape := ⟨4, ![2, 16384, 8, 128]⟩
abbrev S2x8x16384x128 : Shape := ⟨4, ![2, 8, 16384, 128]⟩
abbrev S2x24x16384x128 : Shape := ⟨4, ![2, 24, 16384, 128]⟩
abbrev S1x1x1024x128 : Shape := ⟨4, ![1, 1, 1024, 128]⟩
abbrev S1x1x16384x128 : Shape := ⟨4, ![1, 1, 16384, 128]⟩
abbrev S1024x128 : Shape := ⟨2, ![1024, 128]⟩
abbrev S256x256 : Shape := ⟨2, ![256, 256]⟩
abbrev S1x1x256x128 : Shape := ⟨4, ![1, 1, 256, 128]⟩
abbrev S256x128 : Shape := ⟨2, ![256, 128]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 19
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x16384x1024, .f32⟩
  | .hbm, ⟨9, _⟩ => ⟨S2x16384x1024, .f32⟩
  | .hbm, ⟨10, _⟩ => ⟨S2x16384x8x128, .f32⟩
  | .hbm, ⟨11, _⟩ => ⟨S2x8x16384x128, .f32⟩
  | .hbm, ⟨12, _⟩ => ⟨S2x16384x8x128, .f32⟩
  | .hbm, ⟨13, _⟩ => ⟨S2x8x16384x128, .f32⟩
  | .hbm, ⟨14, _⟩ => ⟨S2x16384x8x128, .f32⟩
  | .hbm, ⟨15, _⟩ => ⟨S2x8x16384x128, .f32⟩
  | .hbm, ⟨16, _⟩ => ⟨S2x24x16384x128, .f32⟩
  | .hbm, ⟨17, _⟩ => ⟨S2x24x16384x128, .bf16⟩
  | .hbm, ⟨18, _⟩ => ⟨S2x8x16384x128, .bf16⟩
  | .local _ .vmem, ⟨0, _⟩ => ⟨S1x1x1024x128, .bf16⟩
  | .local _ .vmem, ⟨1, _⟩ => ⟨S1x1x1024x128, .bf16⟩
  | .local _ .vmem, ⟨2, _⟩ => ⟨S1x1x16384x128, .bf16⟩
  | .local _ .vmem, ⟨3, _⟩ => ⟨S1x1x16384x128, .bf16⟩
  | .local _ .vmem, ⟨4, _⟩ => ⟨S1x1x16384x128, .bf16⟩
  | .local _ .vmem, ⟨5, _⟩ => ⟨S1x1x16384x128, .bf16⟩
  | .local _ .vmem, ⟨6, _⟩ => ⟨S1x1x1024x128, .bf16⟩
  | .local _ .vmem, ⟨7, _⟩ => ⟨S1x1x1024x128, .bf16⟩
  | .local _ .vmem, ⟨8, _⟩ => ⟨S1024x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F] [Named F]

def κ : String → Option EReal := fun
  | "log2_e" => some (((Real.log 2)⁻¹ : ℝ) : EReal)
  | "log_dead" => some ⊥
  | "log_zero" => some ⊥
  | _ => none

abbrev grid0 : Pipeline.Grid := ⟨3, ![2, 8, 16], ![false, false, false]⟩

def k0_mult1 (i : grid0.Coords) : BitVec 32 :=
  let arg2 : BitVec 32 := BitVec.ofNat 32 (i 2).val
  let c4_i32 : BitVec 32 := 4#32
  let v8 : BitVec 32 := Scalar.muli arg2 c4_i32
  let c0_i32 : BitVec 32 := 0#32
  let v9 : BitVec 32 := Scalar.addi v8 c0_i32
  let c0_i32_1 : BitVec 32 := 0#32
  let v13 : BitVec 32 := Scalar.maxsi v9 c0_i32_1
  let c256_i32 : BitVec 32 := 256#32
  let v14 : BitVec 32 := Scalar.muli v13 c256_i32
  v14
def k0_off1 (i : grid0.Coords) (c0_i32 : BitVec 32) : Fin 4 → Nat :=
  let c0_5 : Index := 0#32
  let c0_6 : Index := 0#32
  let arg2 : BitVec 32 := BitVec.ofNat 32 (i 2).val
  let c4_i32 : BitVec 32 := 4#32
  let v8 : BitVec 32 := Scalar.muli arg2 c4_i32
  let v9 : BitVec 32 := Scalar.addi v8 c0_i32
  let c0_i32_1 : BitVec 32 := 0#32
  let v13 : BitVec 32 := Scalar.maxsi v9 c0_i32_1
  let c256_i32 : BitVec 32 := 256#32
  let v14 : BitVec 32 := Scalar.muli v13 c256_i32
  let v15 : BitVec 32 := v14
  let v18 : Index := Scalar.indexCast v15
  let c0_7 : Index := 0#32
  ![0, 0, v18.toNat, 0]
def k0_mult2 (i : grid0.Coords) : BitVec 32 :=
  let arg2 : BitVec 32 := BitVec.ofNat 32 (i 2).val
  let c4_i32 : BitVec 32 := 4#32
  let v8 : BitVec 32 := Scalar.muli arg2 c4_i32
  let c1_i32 : BitVec 32 := 1#32
  let v10 : BitVec 32 := Scalar.addi v8 c1_i32
  let c0_i32_12 : BitVec 32 := 0#32
  let v25 : BitVec 32 := Scalar.maxsi v10 c0_i32_12
  let c256_i32_13 : BitVec 32 := 256#32
  let v26 : BitVec 32 := Scalar.muli v25 c256_i32_13
  v26
def k0_mult3 (i : grid0.Coords) : BitVec 32 :=
  let arg2 : BitVec 32 := BitVec.ofNat 32 (i 2).val
  let c4_i32 : BitVec 32 := 4#32
  let v8 : BitVec 32 := Scalar.muli arg2 c4_i32
  let c2_i32 : BitVec 32 := 2#32
  let v11 : BitVec 32 := Scalar.addi v8 c2_i32
  let c0_i32_24 : BitVec 32 := 0#32
  let v37 : BitVec 32 := Scalar.maxsi v11 c0_i32_24
  let c256_i32_25 : BitVec 32 := 256#32
  let v38 : BitVec 32 := Scalar.muli v37 c256_i32_25
  v38
def k0_mult4 (i : grid0.Coords) : BitVec 32 :=
  let arg2 : BitVec 32 := BitVec.ofNat 32 (i 2).val
  let c4_i32 : BitVec 32 := 4#32
  let v8 : BitVec 32 := Scalar.muli arg2 c4_i32
  let c3_i32 : BitVec 32 := 3#32
  let v12 : BitVec 32 := Scalar.addi v8 c3_i32
  let c0_i32_36 : BitVec 32 := 0#32
  let v49 : BitVec 32 := Scalar.maxsi v12 c0_i32_36
  let c256_i32_37 : BitVec 32 := 256#32
  let v50 : BitVec 32 := Scalar.muli v49 c256_i32_37
  v50
def k0_mult5 (i : grid0.Coords) : BitVec 32 :=
  let arg2 : BitVec 32 := BitVec.ofNat 32 (i 2).val
  let c4_i32 : BitVec 32 := 4#32
  let v8 : BitVec 32 := Scalar.muli arg2 c4_i32
  let c0_i32_96 : BitVec 32 := 0#32
  let v181 : BitVec 32 := Scalar.addi v8 c0_i32_96
  let c1_i32_97 : BitVec 32 := 1#32
  let v182 : BitVec 32 := Scalar.subi v181 c1_i32_97
  let c0_i32_104 : BitVec 32 := 0#32
  let v189 : BitVec 32 := Scalar.maxsi v182 c0_i32_104
  let c256_i32_105 : BitVec 32 := 256#32
  let v190 : BitVec 32 := Scalar.muli v189 c256_i32_105
  v190
def k0_off2 (i : grid0.Coords) (c0_i32_96 : BitVec 32) (c1_i32_97 : BitVec 32) : Fin 4 → Nat :=
  let c0_110 : Index := 0#32
  let c0_111 : Index := 0#32
  let arg2 : BitVec 32 := BitVec.ofNat 32 (i 2).val
  let c4_i32 : BitVec 32 := 4#32
  let v8 : BitVec 32 := Scalar.muli arg2 c4_i32
  let v181 : BitVec 32 := Scalar.addi v8 c0_i32_96
  let v182 : BitVec 32 := Scalar.subi v181 c1_i32_97
  let c0_i32_104 : BitVec 32 := 0#32
  let v189 : BitVec 32 := Scalar.maxsi v182 c0_i32_104
  let c256_i32_105 : BitVec 32 := 256#32
  let v190 : BitVec 32 := Scalar.muli v189 c256_i32_105
  let v191 : BitVec 32 := v190
  let v194 : Index := Scalar.indexCast v191
  let c0_112 : Index := 0#32
  ![0, 0, v194.toNat, 0]
def k0_mult6 (i : grid0.Coords) : BitVec 32 :=
  let arg2 : BitVec 32 := BitVec.ofNat 32 (i 2).val
  let c4_i32 : BitVec 32 := 4#32
  let v8 : BitVec 32 := Scalar.muli arg2 c4_i32
  let c1_i32_98 : BitVec 32 := 1#32
  let v183 : BitVec 32 := Scalar.addi v8 c1_i32_98
  let c1_i32_99 : BitVec 32 := 1#32
  let v184 : BitVec 32 := Scalar.subi v183 c1_i32_99
  let c0_i32_117 : BitVec 32 := 0#32
  let v201 : BitVec 32 := Scalar.maxsi v184 c0_i32_117
  let c256_i32_118 : BitVec 32 := 256#32
  let v202 : BitVec 32 := Scalar.muli v201 c256_i32_118
  v202
def k0_mult7 (i : grid0.Coords) : BitVec 32 :=
  let arg2 : BitVec 32 := BitVec.ofNat 32 (i 2).val
  let c4_i32 : BitVec 32 := 4#32
  let v8 : BitVec 32 := Scalar.muli arg2 c4_i32
  let c2_i32_100 : BitVec 32 := 2#32
  let v185 : BitVec 32 := Scalar.addi v8 c2_i32_100
  let c1_i32_101 : BitVec 32 := 1#32
  let v186 : BitVec 32 := Scalar.subi v185 c1_i32_101
  let c0_i32_130 : BitVec 32 := 0#32
  let v213 : BitVec 32 := Scalar.maxsi v186 c0_i32_130
  let c256_i32_131 : BitVec 32 := 256#32
  let v214 : BitVec 32 := Scalar.muli v213 c256_i32_131
  v214
def k0_mult8 (i : grid0.Coords) : BitVec 32 :=
  let arg2 : BitVec 32 := BitVec.ofNat 32 (i 2).val
  let c4_i32 : BitVec 32 := 4#32
  let v8 : BitVec 32 := Scalar.muli arg2 c4_i32
  let c3_i32_102 : BitVec 32 := 3#32
  let v187 : BitVec 32 := Scalar.addi v8 c3_i32_102
  let c1_i32_103 : BitVec 32 := 1#32
  let v188 : BitVec 32 := Scalar.subi v187 c1_i32_103
  let c0_i32_143 : BitVec 32 := 0#32
  let v225 : BitVec 32 := Scalar.maxsi v188 c0_i32_143
  let c256_i32_144 : BitVec 32 := 256#32
  let v226 : BitVec 32 := Scalar.muli v225 c256_i32_144
  v226
def k0_mult9 (i : grid0.Coords) : BitVec 32 :=
  let arg2 : BitVec 32 := BitVec.ofNat 32 (i 2).val
  let c4_i32 : BitVec 32 := 4#32
  let v8 : BitVec 32 := Scalar.muli arg2 c4_i32
  let c0_i32_208 : BitVec 32 := 0#32
  let v369 : BitVec 32 := Scalar.addi v8 c0_i32_208
  let c2_i32_209 : BitVec 32 := 2#32
  let v370 : BitVec 32 := Scalar.subi v369 c2_i32_209
  let c0_i32_216 : BitVec 32 := 0#32
  let v377 : BitVec 32 := Scalar.maxsi v370 c0_i32_216
  let c256_i32_217 : BitVec 32 := 256#32
  let v378 : BitVec 32 := Scalar.muli v377 c256_i32_217
  v378
def k0_mult10 (i : grid0.Coords) : BitVec 32 :=
  let arg2 : BitVec 32 := BitVec.ofNat 32 (i 2).val
  let c4_i32 : BitVec 32 := 4#32
  let v8 : BitVec 32 := Scalar.muli arg2 c4_i32
  let c1_i32_210 : BitVec 32 := 1#32
  let v371 : BitVec 32 := Scalar.addi v8 c1_i32_210
  let c2_i32_211 : BitVec 32 := 2#32
  let v372 : BitVec 32 := Scalar.subi v371 c2_i32_211
  let c0_i32_229 : BitVec 32 := 0#32
  let v389 : BitVec 32 := Scalar.maxsi v372 c0_i32_229
  let c256_i32_230 : BitVec 32 := 256#32
  let v390 : BitVec 32 := Scalar.muli v389 c256_i32_230
  v390
def k0_mult11 (i : grid0.Coords) : BitVec 32 :=
  let arg2 : BitVec 32 := BitVec.ofNat 32 (i 2).val
  let c4_i32 : BitVec 32 := 4#32
  let v8 : BitVec 32 := Scalar.muli arg2 c4_i32
  let c2_i32_212 : BitVec 32 := 2#32
  let v373 : BitVec 32 := Scalar.addi v8 c2_i32_212
  let c2_i32_213 : BitVec 32 := 2#32
  let v374 : BitVec 32 := Scalar.subi v373 c2_i32_213
  let c0_i32_242 : BitVec 32 := 0#32
  let v401 : BitVec 32 := Scalar.maxsi v374 c0_i32_242
  let c256_i32_243 : BitVec 32 := 256#32
  let v402 : BitVec 32 := Scalar.muli v401 c256_i32_243
  v402
def k0_mult12 (i : grid0.Coords) : BitVec 32 :=
  let arg2 : BitVec 32 := BitVec.ofNat 32 (i 2).val
  let c4_i32 : BitVec 32 := 4#32
  let v8 : BitVec 32 := Scalar.muli arg2 c4_i32
  let c3_i32_214 : BitVec 32 := 3#32
  let v375 : BitVec 32 := Scalar.addi v8 c3_i32_214
  let c2_i32_215 : BitVec 32 := 2#32
  let v376 : BitVec 32 := Scalar.subi v375 c2_i32_215
  let c0_i32_255 : BitVec 32 := 0#32
  let v413 : BitVec 32 := Scalar.maxsi v376 c0_i32_255
  let c256_i32_256 : BitVec 32 := 256#32
  let v414 : BitVec 32 := Scalar.muli v413 c256_i32_256
  v414
def k0_mult13 (i : grid0.Coords) (arg8 : BitVec 32) : BitVec 32 :=
  let arg2 : BitVec 32 := BitVec.ofNat 32 (i 2).val
  let c4_i32 : BitVec 32 := 4#32
  let v8 : BitVec 32 := Scalar.muli arg2 c4_i32
  let c0_i32_331 : BitVec 32 := 0#32
  let v582 : BitVec 32 := Scalar.addi v8 c0_i32_331
  let v583 : BitVec 32 := Scalar.subi v582 arg8
  let c0_i32_335 : BitVec 32 := 0#32
  let v590 : BitVec 32 := Scalar.maxsi v583 c0_i32_335
  let c256_i32_336 : BitVec 32 := 256#32
  let v591 : BitVec 32 := Scalar.muli v590 c256_i32_336
  v591

def k0_off3 (i : grid0.Coords) (arg8 : BitVec 32) (c0_i32_331 : BitVec 32) : Fin 4 → Nat :=
  let c0_341 : Index := 0#32
  let c0_342 : Index := 0#32
  let arg2 : BitVec 32 := BitVec.ofNat 32 (i 2).val
  let c4_i32 : BitVec 32 := 4#32
  let v8 : BitVec 32 := Scalar.muli arg2 c4_i32
  let v582 : BitVec 32 := Scalar.addi v8 c0_i32_331
  let v583 : BitVec 32 := Scalar.subi v582 arg8
  let c0_i32_335 : BitVec 32 := 0#32
  let v590 : BitVec 32 := Scalar.maxsi v583 c0_i32_335
  let c256_i32_336 : BitVec 32 := 256#32
  let v591 : BitVec 32 := Scalar.muli v590 c256_i32_336
  let v592 : BitVec 32 := v591
  let v595 : Index := Scalar.indexCast v592
  let c0_343 : Index := 0#32
  ![0, 0, v595.toNat, 0]
def k0_mult14 (i : grid0.Coords) (arg8 : BitVec 32) : BitVec 32 :=
  let arg2 : BitVec 32 := BitVec.ofNat 32 (i 2).val
  let c4_i32 : BitVec 32 := 4#32
  let v8 : BitVec 32 := Scalar.muli arg2 c4_i32
  let c1_i32_332 : BitVec 32 := 1#32
  let v584 : BitVec 32 := Scalar.addi v8 c1_i32_332
  let v585 : BitVec 32 := Scalar.subi v584 arg8
  let c0_i32_348 : BitVec 32 := 0#32
  let v602 : BitVec 32 := Scalar.maxsi v585 c0_i32_348
  let c256_i32_349 : BitVec 32 := 256#32
  let v603 : BitVec 32 := Scalar.muli v602 c256_i32_349
  v603
def k0_mult15 (i : grid0.Coords) (arg8 : BitVec 32) : BitVec 32 :=
  let arg2 : BitVec 32 := BitVec.ofNat 32 (i 2).val
  let c4_i32 : BitVec 32 := 4#32
  let v8 : BitVec 32 := Scalar.muli arg2 c4_i32
  let c2_i32_333 : BitVec 32 := 2#32
  let v586 : BitVec 32 := Scalar.addi v8 c2_i32_333
  let v587 : BitVec 32 := Scalar.subi v586 arg8
  let c0_i32_361 : BitVec 32 := 0#32
  let v614 : BitVec 32 := Scalar.maxsi v587 c0_i32_361
  let c256_i32_362 : BitVec 32 := 256#32
  let v615 : BitVec 32 := Scalar.muli v614 c256_i32_362
  v615
def k0_mult16 (i : grid0.Coords) (arg8 : BitVec 32) : BitVec 32 :=
  let arg2 : BitVec 32 := BitVec.ofNat 32 (i 2).val
  let c4_i32 : BitVec 32 := 4#32
  let v8 : BitVec 32 := Scalar.muli arg2 c4_i32
  let c3_i32_334 : BitVec 32 := 3#32
  let v588 : BitVec 32 := Scalar.addi v8 c3_i32_334
  let v589 : BitVec 32 := Scalar.subi v588 arg8
  let c0_i32_374 : BitVec 32 := 0#32
  let v626 : BitVec 32 := Scalar.maxsi v589 c0_i32_374
  let c256_i32_375 : BitVec 32 := 256#32
  let v627 : BitVec 32 := Scalar.muli v626 c256_i32_375
  v627

def k0_chk1 (i : grid0.Coords) (arg8 : BitVec 32) : Prop :=
  (256 ∣ (k0_mult13 i arg8).toNat) ∧
  (∀ (r : Fin 4), ∀ a, (k0_off3 i arg8 (BitVec.ofNat 32 r.val)) a + S1x1x256x128.size a ≤ S1x1x16384x128.size a) ∧
  (256 ∣ (k0_mult14 i arg8).toNat) ∧
  (256 ∣ (k0_mult15 i arg8).toNat) ∧
  (256 ∣ (k0_mult16 i arg8).toNat)
theorem k0_mult13_dvd : ∀ (i : grid0.Coords) (arg8 : BitVec 32) (k0_hw1 : k0_chk1 i arg8), 256 ∣ (k0_mult13 i arg8).toNat := fun i arg8 k0_hw1 => k0_hw1.1
theorem k0_off3_inb : ∀ (i : grid0.Coords) (arg8 : BitVec 32) (k0_hw1 : k0_chk1 i arg8), ∀ (r : Fin 4), ∀ a, (k0_off3 i arg8 (BitVec.ofNat 32 r.val)) a + S1x1x256x128.size a ≤ S1x1x16384x128.size a := fun i arg8 k0_hw1 r => k0_hw1.2.1 r
theorem k0_mult14_dvd : ∀ (i : grid0.Coords) (arg8 : BitVec 32) (k0_hw1 : k0_chk1 i arg8), 256 ∣ (k0_mult14 i arg8).toNat := fun i arg8 k0_hw1 => k0_hw1.2.2.1
theorem k0_mult15_dvd : ∀ (i : grid0.Coords) (arg8 : BitVec 32) (k0_hw1 : k0_chk1 i arg8), 256 ∣ (k0_mult15 i arg8).toNat := fun i arg8 k0_hw1 => k0_hw1.2.2.2.1
theorem k0_mult16_dvd : ∀ (i : grid0.Coords) (arg8 : BitVec 32) (k0_hw1 : k0_chk1 i arg8), 256 ∣ (k0_mult16 i arg8).toNat := fun i arg8 k0_hw1 => k0_hw1.2.2.2.2

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x16384x1024 : Shape := ⟨3, ![2, 16384, 1024]⟩
abbrev S2x16384x8x128 : Shape := ⟨4, ![2, 16384, 8, 128]⟩
abbrev S_ : Shape := ⟨0, ![]⟩
abbrev S2x8x16384x16384 : Shape := ⟨4, ![2, 8, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x8x16384x128 : Shape := ⟨4, ![2, 8, 16384, 128]⟩

abbrev nBuf : Space → Nat
  | .hbm => 68
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x8x128, .f32⟩
  | .hbm, ⟨4, _⟩ => ⟨S2x16384x8x128, .f32⟩
  | .hbm, ⟨5, _⟩ => ⟨S2x16384x8x128, .f32⟩
  | .hbm, ⟨6, _⟩ => ⟨S_, .f32⟩
  | .hbm, ⟨7, _⟩ => ⟨S_, .f32⟩
  | .hbm, ⟨8, _⟩ => ⟨S2x16384x8x128, .f32⟩
  | .hbm, ⟨9, _⟩ => ⟨S2x16384x8x128, .f32⟩
  | .hbm, ⟨10, _⟩ => ⟨S2x8x16384x16384, .f32⟩
  | .hbm, ⟨11, _⟩ => ⟨S16384, .i32⟩
  | .hbm, ⟨12, _⟩ => ⟨S1x16384, .i32⟩
  | .hbm, ⟨13, _⟩ => ⟨S16384x1, .i32⟩
  | .hbm, ⟨14, _⟩ => ⟨S16384x16384, .i32⟩
  | .hbm, ⟨15, _⟩ => ⟨S16384x16384, .i32⟩
  | .hbm, ⟨16, _⟩ => ⟨S16384x16384, .i1⟩
  | .hbm, ⟨17, _⟩ => ⟨S2x8x16384x16384, .f32⟩
  | .hbm, ⟨18, _⟩ => ⟨S2x8x16384x16384, .f32⟩
  | .hbm, ⟨19, _⟩ => ⟨S_, .f32⟩
  | .hbm, ⟨20, _⟩ => ⟨S2x8x16384x16384, .f32⟩
  | .hbm, ⟨21, _⟩ => ⟨S2x8x16384x16384, .f32⟩
  | .hbm, ⟨22, _⟩ => ⟨S2x8x16384x16384, .f32⟩
  | .hbm, ⟨23, _⟩ => ⟨S2x8x16384x16384, .f32⟩
  | .hbm, ⟨24, _⟩ => ⟨S2x8x16384x16384, .i1⟩
  | .hbm, ⟨25, _⟩ => ⟨S2x8x16384x16384, .f32⟩
  | .hbm, ⟨26, _⟩ => ⟨S2x8x16384x16384, .f32⟩
  | .hbm, ⟨27, _⟩ => ⟨S2x8x16384x16384, .f32⟩
  | .hbm, ⟨28, _⟩ => ⟨S2x8x16384x16384, .f32⟩
  | .hbm, ⟨29, _⟩ => ⟨S2x8x16384x16384, .f32⟩
  | .hbm, ⟨30, _⟩ => ⟨S2x8x16384x16384, .f32⟩
  | .hbm, ⟨31, _⟩ => ⟨S2x8x16384x16384, .f32⟩
  | .hbm, ⟨32, _⟩ => ⟨S2x8x16384x16384, .f32⟩
  | .hbm, ⟨33, _⟩ => ⟨S2x8x16384x16384, .f32⟩
  | .hbm, ⟨34, _⟩ => ⟨S_, .f32⟩
  | .hbm, ⟨35, _⟩ => ⟨S_, .f32⟩
  | .hbm, ⟨36, _⟩ => ⟨S2x8x16384x16384, .i1⟩
  | .hbm, ⟨37, _⟩ => ⟨S2x8x16384x16384, .f32⟩
  | .hbm, ⟨38, _⟩ => ⟨S2x8x16384x16384, .f32⟩
  | .hbm, ⟨39, _⟩ => ⟨S_, .f32⟩
  | .hbm, ⟨40, _⟩ => ⟨S_, .f32⟩
  | .hbm, ⟨41, _⟩ => ⟨S2x8x16384x16384, .f32⟩
  | .hbm, ⟨42, _⟩ => ⟨S2x8x16384x16384, .f32⟩
  | .hbm, ⟨43, _⟩ => ⟨S_, .f32⟩
  | .hbm, ⟨44, _⟩ => ⟨S2x8x16384x16384, .f32⟩
  | .hbm, ⟨45, _⟩ => ⟨S2x8x16384x16384, .f32⟩
  | .hbm, ⟨46, _⟩ => ⟨S2x8x16384x16384, .f32⟩
  | .hbm, ⟨47, _⟩ => ⟨S2x8x16384x16384, .f32⟩
  | .hbm, ⟨48, _⟩ => ⟨S2x8x16384x16384, .i1⟩
  | .hbm, ⟨49, _⟩ => ⟨S2x8x16384x16384, .f32⟩
  | .hbm, ⟨50, _⟩ => ⟨S2x8x16384x16384, .f32⟩
  | .hbm, ⟨51, _⟩ => ⟨S2x8x16384x16384, .f32⟩
  | .hbm, ⟨52, _⟩ => ⟨S2x8x16384x16384, .f32⟩
  | .hbm, ⟨53, _⟩ => ⟨S2x8x16384x16384, .f32⟩
  | .hbm, ⟨54, _⟩ => ⟨S2x8x16384x16384, .f32⟩
  | .hbm, ⟨55, _⟩ => ⟨S2x8x16384x16384, .f32⟩
  | .hbm, ⟨56, _⟩ => ⟨S2x8x16384x16384, .f32⟩
  | .hbm, ⟨57, _⟩ => ⟨S2x8x16384x16384, .f32⟩
  | .hbm, ⟨58, _⟩ => ⟨S2x8x16384x16384, .f32⟩
  | .hbm, ⟨59, _⟩ => ⟨S2x8x16384x16384, .f32⟩
  | .hbm, ⟨60, _⟩ => ⟨S2x8x16384x16384, .f32⟩
  | .hbm, ⟨61, _⟩ => ⟨S_, .f32⟩
  | .hbm, ⟨62, _⟩ => ⟨S_, .f32⟩
  | .hbm, ⟨63, _⟩ => ⟨S2x8x16384x16384, .i1⟩
  | .hbm, ⟨64, _⟩ => ⟨S2x8x16384x16384, .f32⟩
  | .hbm, ⟨65, _⟩ => ⟨S2x8x16384x16384, .f32⟩
  | .hbm, ⟨66, _⟩ => ⟨S2x8x16384x128, .f32⟩
  | .hbm, ⟨67, _⟩ => ⟨S2x8x16384x128, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_call2_cst : Ref sig .tc := ⟨.hbm, 39, rfl⟩
abbrev main_call2_v0 : Ref sig .tc := ⟨.hbm, 40, rfl⟩
abbrev main_v16 : Ref sig .tc := ⟨.hbm, 41, rfl⟩
abbrev main_call3_v0 : Ref sig .tc := ⟨.hbm, 42, rfl⟩
abbrev main_call3_call0_cst : Ref sig .tc := ⟨.hbm, 43, rfl⟩
abbrev main_call3_call0_v0 : Ref sig .tc := ⟨.hbm, 44, rfl⟩
abbrev main_call3_call0_v1 : Ref sig .tc := ⟨.hbm, 45, rfl⟩
abbrev main_call3_call0_v2 : Ref sig .tc := ⟨.hbm, 46, rfl⟩
abbrev main_call3_call0_v3 : Ref sig .tc := ⟨.hbm, 47, rfl⟩
abbrev main_call3_call0_v4 : Ref sig .tc := ⟨.hbm, 48, rfl⟩
abbrev main_call3_call0_v5 : Ref sig .tc := ⟨.hbm, 49, rfl⟩
abbrev main_call3_call0_v6 : Ref sig .tc := ⟨.hbm, 50, rfl⟩
abbrev main_call3_call0_v7 : Ref sig .tc := ⟨.hbm, 51, rfl⟩
abbrev main_call3_call0_v8 : Ref sig .tc := ⟨.hbm, 52, rfl⟩
abbrev main_call3_call0_v9 : Ref sig .tc := ⟨.hbm, 53, rfl⟩
abbrev main_call3_call0_v10 : Ref sig .tc := ⟨.hbm, 54, rfl⟩
abbrev main_call3_call0_v11 : Ref sig .tc := ⟨.hbm, 55, rfl⟩
abbrev main_call3_v1 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩

abbrev nD : Nat := 1
abbrev τ : Topo := Topo.v7x

variable {F : FTy → Type} [FloatOps F]
-- ==== Ffn.lean ====
abbrev S2x16384x2048 : Shape := ⟨3, ![2, 16384, 2048]⟩
abbrev S2x3x3x2048 : Shape := ⟨4, ![2, 3, 3, 2048]⟩
abbrev S1x3x2048 : Shape := ⟨3, ![1, 3, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2x9x2048 : Shape := ⟨3, ![2, 9, 2048]⟩
abbrev S1x1x2048 : Shape := ⟨3, ![1, 1, 2048]⟩
abbrev S2048 : Shape := ⟨1, ![2048]⟩
abbrev S2048x11264 : Shape := ⟨2, ![2048, 11264]⟩
abbrev S5632x2048 : Shape := ⟨2, ![5632, 2048]⟩
abbrev S1x1024x2048 : Shape := ⟨3, ![1, 1024, 2048]⟩
abbrev S1x9x2048 : Shape := ⟨3, ![1, 9, 2048]⟩
abbrev S2048x512 : Shape := ⟨2, ![2048, 512]⟩
abbrev S512x2048 : Shape := ⟨2, ![512, 2048]⟩
abbrev S1024x2048 : Shape := ⟨2, ![1024, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S1024x512 : Shape := ⟨2, ![1024, 512]⟩

abbrev nBuf : Space → Nat
  | .hbm => 21
  | .vmem => 16
  | .smem => 0
  | _ => 0

abbrev bufTy : (tb : Table) → Fin (tcTables nBuf tb) → BufTy
  | .hbm, ⟨0, _⟩ => ⟨S2x16384x2048, .f32⟩
  | .hbm, ⟨1, _⟩ => ⟨S2x3x3x2048, .f32⟩
  | .hbm, ⟨2, _⟩ => ⟨S1x3x2048, .f32⟩
  | .hbm, ⟨3, _⟩ => ⟨S1x3x2048, .f32⟩
  | .hbm, ⟨4, _⟩ => ⟨S1x2048, .f32⟩
  | .hbm, ⟨5, _⟩ => ⟨S1x2048x11264, .f32⟩
  | .hbm, ⟨6, _⟩ => ⟨S1x5632x2048, .f32⟩
  | .hbm, ⟨7, _⟩ => ⟨S2x9x2048, .f32⟩
  | .hbm, ⟨8, _⟩ => ⟨S1x1x2048, .f32⟩
  | .hbm, ⟨9, _⟩ => ⟨S2048, .f32⟩
  | .hbm, ⟨10, _⟩ => ⟨S1x2048, .f32⟩
  | .hbm, ⟨11, _⟩ => ⟨S1x1x2048, .f32⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S2048x11264, .f32⟩
  | .hbm, ⟨17, _⟩ => ⟨S2048x11264, .bf16⟩
  | .hbm, ⟨18, _⟩ => ⟨S5632x2048, .f32⟩
  | .hbm, ⟨19, _⟩ => ⟨S5632x2048, .bf16⟩
  | .hbm, ⟨20, _⟩ => ⟨S2x16384x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .vmem, ⟨12, _⟩ => ⟨S512x2048, .bf16⟩
  | .local _ .vmem, ⟨13, _⟩ => ⟨S1x1024x2048, .f32⟩
  | .local _ .vmem, ⟨14, _⟩ => ⟨S1x1024x2048, .f32⟩
  | .local _ .vmem, ⟨15, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![2, 16, 11], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c10_i32 : BitVec 32 := 10#32
  let v4 : BitVec 1 := Scalar.cmpi .slt arg2 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c10_i32_3 : BitVec 32 := 10#32
  let v8 : BitVec 1 := Scalar.cmpi .eq arg2 c10_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== FfnRefIdeal.lean ====
abbrev S2x16384x2048 : Shape := ⟨3, ![2, 16384, 2048]⟩
abbrev S2x3x3x2048 : Shape := ⟨4, ![2, 3, 3, 2048]⟩
abbrev S1x3x2048 : Shape := ⟨3, ![1, 3, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S1x1x2048 : Shape := ⟨3, ![1, 1, 2048]⟩
abbrev S2048 : Shape := ⟨1, ![2048]⟩
abbrev S2x1x3x2048 : Shape := ⟨4, ![2, 1, 3, 2048]⟩
abbrev S2x3x2048 : Shape := ⟨3, ![2, 3, 2048]⟩
abbrev S2x1x2048 : Shape := ⟨3, ![2, 1, 2048]⟩
abbrev S2x2048 : Shape := ⟨2, ![2, 2048]⟩
abbrev S_ : Shape := ⟨0, ![]⟩
abbrev S2x16384 : Shape := ⟨2, ![2, 16384]⟩
abbrev S2x16384x1 : Shape := ⟨3, ![2, 16384, 1]⟩
abbrev S2048x11264 : Shape := ⟨2, ![2048, 11264]⟩
abbrev S5632x2048 : Shape := ⟨2, ![5632, 2048]⟩
abbrev S2x16384x11264 : Shape := ⟨3, ![2, 16384, 11264]⟩
abbrev S2x16384x5632 : Shape := ⟨3, ![2, 16384, 5632]⟩

abbrev nBuf : Space → Nat
  | .hbm => 100
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x3x3x2048, .f32⟩
  | .hbm, ⟨2, _⟩ => ⟨S1x3x2048, .f32⟩
  | .hbm, ⟨3, _⟩ => ⟨S1x3x2048, .f32⟩
  | .hbm, ⟨4, _⟩ => ⟨S1x2048, .f32⟩
  | .hbm, ⟨5, _⟩ => ⟨S1x2048x11264, .f32⟩
  | .hbm, ⟨6, _⟩ => ⟨S1x5632x2048, .f32⟩
  | .hbm, ⟨7, _⟩ => ⟨S1x1x2048, .f32⟩
  | .hbm, ⟨8, _⟩ => ⟨S2048, .f32⟩
  | .hbm, ⟨9, _⟩ => ⟨S1x1x2048, .f32⟩
  | .hbm, ⟨10, _⟩ => ⟨S2048, .f32⟩
  | .hbm, ⟨11, _⟩ => ⟨S2x1x3x2048, .f32⟩
  | .hbm, ⟨12, _⟩ => ⟨S2x3x2048, .f32⟩
  | .hbm, ⟨13, _⟩ => ⟨S2x1x2048, .f32⟩
  | .hbm, ⟨14, _⟩ => ⟨S2x2048, .f32⟩
  | .hbm, ⟨15, _⟩ => ⟨S2x1x2048, .f32⟩
  | .hbm, ⟨16, _⟩ => ⟨S2x1x2048, .f32⟩
  | .hbm, ⟨17, _⟩ => ⟨S2x2048, .f32⟩
  | .hbm, ⟨18, _⟩ => ⟨S2x1x2048, .f32⟩
  | .hbm, ⟨19, _⟩ => ⟨S2x1x2048, .f32⟩
  | .hbm, ⟨20, _⟩ => ⟨S2x2048, .f32⟩
  | .hbm, ⟨21, _⟩ => ⟨S2x1x2048, .f32⟩
  | .hbm, ⟨22, _⟩ => ⟨S2x16384x2048, .f32⟩
  | .hbm, ⟨23, _⟩ => ⟨S_, .f32⟩
  | .hbm, ⟨24, _⟩ => ⟨S2x16384, .f32⟩
  | .hbm, ⟨25, _⟩ => ⟨S2x16384x1, .f32⟩
  | .hbm, ⟨26, _⟩ => ⟨S_, .f32⟩
  | .hbm, ⟨27, _⟩ => ⟨S2x16384x1, .f32⟩
  | .hbm, ⟨28, _⟩ => ⟨S2x16384x1, .f32⟩
  | .hbm, ⟨29, _⟩ => ⟨S_, .f32⟩
  | .hbm, ⟨30, _⟩ => ⟨S2x16384x1, .f32⟩
  | .hbm, ⟨31, _⟩ => ⟨S2x16384x1, .f32⟩
  | .hbm, ⟨32, _⟩ => ⟨S2x16384x1, .f32⟩
  | .hbm, ⟨33, _⟩ => ⟨S2x16384x2048, .f32⟩
  | .hbm, ⟨34, _⟩ => ⟨S2x16384x2048, .f32⟩
  | .hbm, ⟨35, _⟩ => ⟨S1x1x2048, .f32⟩
  | .hbm, ⟨36, _⟩ => ⟨S2x16384x2048, .f32⟩
  | .hbm, ⟨37, _⟩ => ⟨S2x16384x2048, .f32⟩
  | .hbm, ⟨38, _⟩ => ⟨S_, .f32⟩
  | .hbm, ⟨39, _⟩ => ⟨S2x1x2048, .f32⟩
  | .hbm, ⟨40, _⟩ => ⟨S2x1x2048, .f32⟩
  | .hbm, ⟨41, _⟩ => ⟨S2x16384x2048, .f32⟩
  | .hbm, ⟨42, _⟩ => ⟨S2x16384x2048, .f32⟩
  | .hbm, ⟨43, _⟩ => ⟨S2x16384x2048, .f32⟩
  | .hbm, ⟨44, _⟩ => ⟨S2x16384x2048, .f32⟩
  | .hbm, ⟨45, _⟩ => ⟨S2048x11264, .f32⟩
  | .hbm, ⟨46, _⟩ => ⟨S5632x2048, .f32⟩
  | .hbm, ⟨47, _⟩ => ⟨S2x16384x11264, .f32⟩
  | .hbm, ⟨48, _⟩ => ⟨S2x16384x5632, .f32⟩
  | .hbm, ⟨49, _⟩ => ⟨S2x16384x5632, .f32⟩
  | .hbm, ⟨50, _⟩ => ⟨S2x16384x5632, .f32⟩
  | .hbm, ⟨51, _⟩ => ⟨S2x16384x5632, .f32⟩
  | .hbm, ⟨52, _⟩ => ⟨S_, .f32⟩
  | .hbm, ⟨53, _⟩ => ⟨S2x16384x5632, .f32⟩
  | .hbm, ⟨54, _⟩ => ⟨S2x16384x5632, .f32⟩
  | .hbm, ⟨55, _⟩ => ⟨S_, .f32⟩
  | .hbm, ⟨56, _⟩ => ⟨S2x16384x5632, .f32⟩
  | .hbm, ⟨57, _⟩ => ⟨S2x16384x5632, .f32⟩
  | .hbm, ⟨58, _⟩ => ⟨S2x16384x5632, .f32⟩
  | .hbm, ⟨59, _⟩ => ⟨S2x16384x5632, .f32⟩
  | .hbm, ⟨60, _⟩ => ⟨S2x16384x2048, .f32⟩
  | .hbm, ⟨61, _⟩ => ⟨S2x16384x2048, .f32⟩
  | .hbm, ⟨62, _⟩ => ⟨S_, .f32⟩
  | .hbm, ⟨63, _⟩ => ⟨S2x16384, .f32⟩
  | .hbm, ⟨64, _⟩ => ⟨S2x16384x1, .f32⟩
  | .hbm, ⟨65, _⟩ => ⟨S_, .f32⟩
  | .hbm, ⟨66, _⟩ => ⟨S2x16384x1, .f32⟩
  | .hbm, ⟨67, _⟩ => ⟨S2x16384x1, .f32⟩
  | .hbm, ⟨68, _⟩ => ⟨S_, .f32⟩
  | .hbm, ⟨69, _⟩ => ⟨S2x16384x1, .f32⟩
  | .hbm, ⟨70, _⟩ => ⟨S2x16384x1, .f32⟩
  | .hbm, ⟨71, _⟩ => ⟨S2x16384x1, .f32⟩
  | .hbm, ⟨72, _⟩ => ⟨S2x16384x2048, .f32⟩
  | .hbm, ⟨73, _⟩ => ⟨S2x16384x2048, .f32⟩
  | .hbm, ⟨74, _⟩ => ⟨S1x1x2048, .f32⟩
  | .hbm, ⟨75, _⟩ => ⟨S2x16384x2048, .f32⟩
  | .hbm, ⟨76, _⟩ => ⟨S2x16384x2048, .f32⟩
  | .hbm, ⟨77, _⟩ => ⟨S_, .f32⟩
  | .hbm, ⟨78, _⟩ => ⟨S2x1x2048, .f32⟩
  | .hbm, ⟨79, _⟩ => ⟨S2x1x2048, .f32⟩
  | .hbm, ⟨80, _⟩ => ⟨S2x16384x2048, .f32⟩
  | .hbm, ⟨81, _⟩ => ⟨S2x16384x2048, .f32⟩
  | .hbm, ⟨82, _⟩ => ⟨S2x16384x2048, .f32⟩
  | .hbm, ⟨83, _⟩ => ⟨S2048, .f32⟩
  | .hbm, ⟨84, _⟩ => ⟨S2x16384x2048, .f32⟩
  | .hbm, ⟨85, _⟩ => ⟨S_, .f32⟩
  | .hbm, ⟨86, _⟩ => ⟨S2x16384, .f32⟩
  | .hbm, ⟨87, _⟩ => ⟨S2x16384x1, .f32⟩
  | .hbm, ⟨88, _⟩ => ⟨S_, .f32⟩
  | .hbm, ⟨89, _⟩ => ⟨S2x16384x1, .f32⟩
  | .hbm, ⟨90, _⟩ => ⟨S2x16384x1, .f32⟩
  | .hbm, ⟨91, _⟩ => ⟨S_, .f32⟩
  | .hbm, ⟨92, _⟩ => ⟨S2x16384x1, .f32⟩
  | .hbm, ⟨93, _⟩ => ⟨S2x16384x1, .f32⟩
  | .hbm, ⟨94, _⟩ => ⟨S2x16384x1, .f32⟩
  | .hbm, ⟨95, _⟩ => ⟨S2x16384x2048, .f32⟩
  | .hbm, ⟨96, _⟩ => ⟨S2x16384x2048, .f32⟩
  | .hbm, ⟨97, _⟩ => ⟨S1x1x2048, .f32⟩
  | .hbm, ⟨98, _⟩ => ⟨S2x16384x2048, .f32⟩
  | .hbm, ⟨99, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_3 : Ref sig .tc := ⟨.hbm, 62, rfl⟩
abbrev main_v43 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_6 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_7 : Ref sig .tc := ⟨.hbm, 85, rfl⟩
abbrev main_v62 : Ref sig .tc := ⟨.hbm, 86, rfl⟩
abbrev main_v63 : Ref sig .tc := ⟨.hbm, 87, rfl⟩
abbrev main_cst_8 : Ref sig .tc := ⟨.hbm, 88, rfl⟩
abbrev main_v64 : Ref sig .tc := ⟨.hbm, 89, rfl⟩
abbrev main_v65 : Ref sig .tc := ⟨.hbm, 90, rfl⟩
abbrev main_cst_9 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Ada.lean ====
abbrev S2x2048 : Shape := ⟨2, ![2, 2048]⟩
abbrev S1x2048x18432 : Shape := ⟨3, ![1, 2048, 18432]⟩
abbrev S1x18432 : Shape := ⟨2, ![1, 18432]⟩
abbrev S2048x18432 : Shape := ⟨2, ![2048, 18432]⟩
abbrev S18432 : Shape := ⟨1, ![18432]⟩
abbrev S2048x2 : Shape := ⟨2, ![2048, 2]⟩
abbrev S2x18432 : Shape := ⟨2, ![2, 18432]⟩
abbrev S2048x1024 : Shape := ⟨2, ![2048, 1024]⟩
abbrev S1x1024 : Shape := ⟨2, ![1, 1024]⟩
abbrev S2x1024 : Shape := ⟨2, ![2, 1024]⟩
abbrev S2048x1 : Shape := ⟨2, ![2048, 1]⟩
abbrev S1024 : Shape := ⟨1, ![1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S1x2048x18432, .f32⟩
  | .hbm, ⟨2, _⟩ => ⟨S1x18432, .f32⟩
  | .hbm, ⟨3, _⟩ => ⟨S2048x18432, .f32⟩
  | .hbm, ⟨4, _⟩ => ⟨S18432, .f32⟩
  | .hbm, ⟨5, _⟩ => ⟨S1x18432, .f32⟩
  | .hbm, ⟨6, _⟩ => ⟨S2048x2, .f32⟩
  | .hbm, ⟨7, _⟩ => ⟨S2x18432, .f32⟩
  | .local _ .vmem, ⟨0, _⟩ => ⟨S2048x2, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S2x1024, .f32⟩
  | .local _ .vmem, ⟨6, _⟩ => ⟨S2x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S2x2048 : Shape := ⟨2, ![2, 2048]⟩
abbrev S1x2048x18432 : Shape := ⟨3, ![1, 2048, 18432]⟩
abbrev S1x18432 : Shape := ⟨2, ![1, 18432]⟩
abbrev S_ : Shape := ⟨0, ![]⟩
abbrev S2048x18432 : Shape := ⟨2, ![2048, 18432]⟩
abbrev S2x18432 : Shape := ⟨2, ![2, 18432]⟩
abbrev S18432 : Shape := ⟨1, ![18432]⟩

abbrev nBuf : Space → Nat
  | .hbm => 18
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S1x2048x18432, .f32⟩
  | .hbm, ⟨2, _⟩ => ⟨S1x18432, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S2x2048, .f32⟩
  | .hbm, ⟨7, _⟩ => ⟨S2x2048, .f32⟩
  | .hbm, ⟨8, _⟩ => ⟨S_, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2048x18432, .f32⟩
  | .hbm, ⟨13, _⟩ => ⟨S2x18432, .f32⟩
  | .hbm, ⟨14, _⟩ => ⟨S18432, .f32⟩
  | .hbm, ⟨15, _⟩ => ⟨S1x18432, .f32⟩
  | .hbm, ⟨16, _⟩ => ⟨S2x18432, .f32⟩
  | .hbm, ⟨17, _⟩ => ⟨S2x18432, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Ffa.lean ====
abbrev S2x16384x2048 : Shape := ⟨3, ![2, 16384, 2048]⟩
abbrev S2x3x3x2048 : Shape := ⟨4, ![2, 3, 3, 2048]⟩
abbrev S1x3x2048 : Shape := ⟨3, ![1, 3, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2x9x2048 : Shape := ⟨3, ![2, 9, 2048]⟩
abbrev S1x1x2048 : Shape := ⟨3, ![1, 1, 2048]⟩
abbrev S2048 : Shape := ⟨1, ![2048]⟩
abbrev S2048x11264 : Shape := ⟨2, ![2048, 11264]⟩
abbrev S5632x2048 : Shape := ⟨2, ![5632, 2048]⟩
abbrev S1x1024x2048 : Shape := ⟨3, ![1, 1024, 2048]⟩
abbrev S1x9x2048 : Shape := ⟨3, ![1, 9, 2048]⟩
abbrev S2048x512 : Shape := ⟨2, ![2048, 512]⟩
abbrev S512x2048 : Shape := ⟨2, ![512, 2048]⟩
abbrev S1024x2048 : Shape := ⟨2, ![1024, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S1024x512 : Shape := ⟨2, ![1024, 512]⟩

abbrev nBuf : Space → Nat
  | .hbm => 21
  | .vmem => 16
  | .smem => 0
  | _ => 0

abbrev bufTy : (tb : Table) → Fin (tcTables nBuf tb) → BufTy
  | .hbm, ⟨0, _⟩ => ⟨S2x16384x2048, .f32⟩
  | .hbm, ⟨1, _⟩ => ⟨S2x3x3x2048, .f32⟩
  | .hbm, ⟨2, _⟩ => ⟨S1x3x2048, .f32⟩
  | .hbm, ⟨3, _⟩ => ⟨S1x3x2048, .f32⟩
  | .hbm, ⟨4, _⟩ => ⟨S1x2048, .f32⟩
  | .hbm, ⟨5, _⟩ => ⟨S1x2048x11264, .f32⟩
  | .hbm, ⟨6, _⟩ => ⟨S1x5632x2048, .f32⟩
  | .hbm, ⟨7, _⟩ => ⟨S2x9x2048, .f32⟩
  | .hbm, ⟨8, _⟩ => ⟨S1x1x2048, .f32⟩
  | .hbm, ⟨9, _⟩ => ⟨S2048, .f32⟩
  | .hbm, ⟨10, _⟩ => ⟨S1x2048, .f32⟩
  | .hbm, ⟨11, _⟩ => ⟨S1x1x2048, .f32⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S2048x11264, .f32⟩
  | .hbm, ⟨17, _⟩ => ⟨S2048x11264, .bf16⟩
  | .hbm, ⟨18, _⟩ => ⟨S5632x2048, .f32⟩
  | .hbm, ⟨19, _⟩ => ⟨S5632x2048, .bf16⟩
  | .hbm, ⟨20, _⟩ => ⟨S2x16384x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .vmem, ⟨12, _⟩ => ⟨S512x2048, .bf16⟩
  | .local _ .vmem, ⟨13, _⟩ => ⟨S1x1024x2048, .f32⟩
  | .local _ .vmem, ⟨14, _⟩ => ⟨S1x1024x2048, .f32⟩
  | .local _ .vmem, ⟨15, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![2, 16, 11], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c10_i32 : BitVec 32 := 10#32
  let v4 : BitVec 1 := Scalar.cmpi .slt arg2 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c10_i32_3 : BitVec 32 := 10#32
  let v8 : BitVec 1 := Scalar.cmpi .eq arg2 c10_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== FfaRefIdeal.lean ====
abbrev S2x16384x2048 : Shape := ⟨3, ![2, 16384, 2048]⟩
abbrev S2x3x3x2048 : Shape := ⟨4, ![2, 3, 3, 2048]⟩
abbrev S1x3x2048 : Shape := ⟨3, ![1, 3, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S1x1x2048 : Shape := ⟨3, ![1, 1, 2048]⟩
abbrev S2048 : Shape := ⟨1, ![2048]⟩
abbrev S2x1x3x2048 : Shape := ⟨4, ![2, 1, 3, 2048]⟩
abbrev S2x3x2048 : Shape := ⟨3, ![2, 3, 2048]⟩
abbrev S2x1x2048 : Shape := ⟨3, ![2, 1, 2048]⟩
abbrev S2x2048 : Shape := ⟨2, ![2, 2048]⟩
abbrev S_ : Shape := ⟨0, ![]⟩
abbrev S2x16384 : Shape := ⟨2, ![2, 16384]⟩
abbrev S2x16384x1 : Shape := ⟨3, ![2, 16384, 1]⟩
abbrev S2048x11264 : Shape := ⟨2, ![2048, 11264]⟩
abbrev S5632x2048 : Shape := ⟨2, ![5632, 2048]⟩
abbrev S2x16384x11264 : Shape := ⟨3, ![2, 16384, 11264]⟩
abbrev S2x16384x5632 : Shape := ⟨3, ![2, 16384, 5632]⟩

abbrev nBuf : Space → Nat
  | .hbm => 83
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x3x3x2048, .f32⟩
  | .hbm, ⟨2, _⟩ => ⟨S1x3x2048, .f32⟩
  | .hbm, ⟨3, _⟩ => ⟨S1x3x2048, .f32⟩
  | .hbm, ⟨4, _⟩ => ⟨S1x2048, .f32⟩
  | .hbm, ⟨5, _⟩ => ⟨S1x2048x11264, .f32⟩
  | .hbm, ⟨6, _⟩ => ⟨S1x5632x2048, .f32⟩
  | .hbm, ⟨7, _⟩ => ⟨S1x1x2048, .f32⟩
  | .hbm, ⟨8, _⟩ => ⟨S2048, .f32⟩
  | .hbm, ⟨9, _⟩ => ⟨S1x1x2048, .f32⟩
  | .hbm, ⟨10, _⟩ => ⟨S2048, .f32⟩
  | .hbm, ⟨11, _⟩ => ⟨S2x1x3x2048, .f32⟩
  | .hbm, ⟨12, _⟩ => ⟨S2x3x2048, .f32⟩
  | .hbm, ⟨13, _⟩ => ⟨S2x1x2048, .f32⟩
  | .hbm, ⟨14, _⟩ => ⟨S2x2048, .f32⟩
  | .hbm, ⟨15, _⟩ => ⟨S2x1x2048, .f32⟩
  | .hbm, ⟨16, _⟩ => ⟨S2x1x2048, .f32⟩
  | .hbm, ⟨17, _⟩ => ⟨S2x2048, .f32⟩
  | .hbm, ⟨18, _⟩ => ⟨S2x1x2048, .f32⟩
  | .hbm, ⟨19, _⟩ => ⟨S2x1x2048, .f32⟩
  | .hbm, ⟨20, _⟩ => ⟨S2x2048, .f32⟩
  | .hbm, ⟨21, _⟩ => ⟨S2x1x2048, .f32⟩
  | .hbm, ⟨22, _⟩ => ⟨S2x16384x2048, .f32⟩
  | .hbm, ⟨23, _⟩ => ⟨S_, .f32⟩
  | .hbm, ⟨24, _⟩ => ⟨S2x16384, .f32⟩
  | .hbm, ⟨25, _⟩ => ⟨S2x16384x1, .f32⟩
  | .hbm, ⟨26, _⟩ => ⟨S_, .f32⟩
  | .hbm, ⟨27, _⟩ => ⟨S2x16384x1, .f32⟩
  | .hbm, ⟨28, _⟩ => ⟨S2x16384x1, .f32⟩
  | .hbm, ⟨29, _⟩ => ⟨S_, .f32⟩
  | .hbm, ⟨30, _⟩ => ⟨S2x16384x1, .f32⟩
  | .hbm, ⟨31, _⟩ => ⟨S2x16384x1, .f32⟩
  | .hbm, ⟨32, _⟩ => ⟨S2x16384x1, .f32⟩
  | .hbm, ⟨33, _⟩ => ⟨S2x16384x2048, .f32⟩
  | .hbm, ⟨34, _⟩ => ⟨S2x16384x2048, .f32⟩
  | .hbm, ⟨35, _⟩ => ⟨S1x1x2048, .f32⟩
  | .hbm, ⟨36, _⟩ => ⟨S2x16384x2048, .f32⟩
  | .hbm, ⟨37, _⟩ => ⟨S2x16384x2048, .f32⟩
  | .hbm, ⟨38, _⟩ => ⟨S_, .f32⟩
  | .hbm, ⟨39, _⟩ => ⟨S2x1x2048, .f32⟩
  | .hbm, ⟨40, _⟩ => ⟨S2x1x2048, .f32⟩
  | .hbm, ⟨41, _⟩ => ⟨S2x16384x2048, .f32⟩
  | .hbm, ⟨42, _⟩ => ⟨S2x16384x2048, .f32⟩
  | .hbm, ⟨43, _⟩ => ⟨S2x16384x2048, .f32⟩
  | .hbm, ⟨44, _⟩ => ⟨S2x16384x2048, .f32⟩
  | .hbm, ⟨45, _⟩ => ⟨S2048x11264, .f32⟩
  | .hbm, ⟨46, _⟩ => ⟨S5632x2048, .f32⟩
  | .hbm, ⟨47, _⟩ => ⟨S2x16384x11264, .f32⟩
  | .hbm, ⟨48, _⟩ => ⟨S2x16384x5632, .f32⟩
  | .hbm, ⟨49, _⟩ => ⟨S2x16384x5632, .f32⟩
  | .hbm, ⟨50, _⟩ => ⟨S2x16384x5632, .f32⟩
  | .hbm, ⟨51, _⟩ => ⟨S2x16384x5632, .f32⟩
  | .hbm, ⟨52, _⟩ => ⟨S_, .f32⟩
  | .hbm, ⟨53, _⟩ => ⟨S2x16384x5632, .f32⟩
  | .hbm, ⟨54, _⟩ => ⟨S2x16384x5632, .f32⟩
  | .hbm, ⟨55, _⟩ => ⟨S_, .f32⟩
  | .hbm, ⟨56, _⟩ => ⟨S2x16384x5632, .f32⟩
  | .hbm, ⟨57, _⟩ => ⟨S2x16384x5632, .f32⟩
  | .hbm, ⟨58, _⟩ => ⟨S2x16384x5632, .f32⟩
  | .hbm, ⟨59, _⟩ => ⟨S2x16384x5632, .f32⟩
  | .hbm, ⟨60, _⟩ => ⟨S2x16384x2048, .f32⟩
  | .hbm, ⟨61, _⟩ => ⟨S2x16384x2048, .f32⟩
  | .hbm, ⟨62, _⟩ => ⟨S_, .f32⟩
  | .hbm, ⟨63, _⟩ => ⟨S2x16384, .f32⟩
  | .hbm, ⟨64, _⟩ => ⟨S2x16384x1, .f32⟩
  | .hbm, ⟨65, _⟩ => ⟨S_, .f32⟩
  | .hbm, ⟨66, _⟩ => ⟨S2x16384x1, .f32⟩
  | .hbm, ⟨67, _⟩ => ⟨S2x16384x1, .f32⟩
  | .hbm, ⟨68, _⟩ => ⟨S_, .f32⟩
  | .hbm, ⟨69, _⟩ => ⟨S2x16384x1, .f32⟩
  | .hbm, ⟨70, _⟩ => ⟨S2x16384x1, .f32⟩
  | .hbm, ⟨71, _⟩ => ⟨S2x16384x1, .f32⟩
  | .hbm, ⟨72, _⟩ => ⟨S2x16384x2048, .f32⟩
  | .hbm, ⟨73, _⟩ => ⟨S2x16384x2048, .f32⟩
  | .hbm, ⟨74, _⟩ => ⟨S1x1x2048, .f32⟩
  | .hbm, ⟨75, _⟩ => ⟨S2x16384x2048, .f32⟩
  | .hbm, ⟨76, _⟩ => ⟨S2x16384x2048, .f32⟩
  | .hbm, ⟨77, _⟩ => ⟨S_, .f32⟩
  | .hbm, ⟨78, _⟩ => ⟨S2x1x2048, .f32⟩
  | .hbm, ⟨79, _⟩ => ⟨S2x1x2048, .f32⟩
  | .hbm, ⟨80, _⟩ => ⟨S2x16384x2048, .f32⟩
  | .hbm, ⟨81, _⟩ => ⟨S2x16384x2048, .f32⟩
  | .hbm, ⟨82, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_3 : Ref sig .tc := ⟨.hbm, 62, rfl⟩
abbrev main_v43 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_6 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Proj.lean ====
abbrev S2x16384x2048 : Shape := ⟨3, ![2, 16384, 2048]⟩
abbrev S2x3x3x2048 : Shape := ⟨4, ![2, 3, 3, 2048]⟩
abbrev S1x3x2048 : Shape := ⟨3, ![1, 3, 2048]⟩
abbrev S1x2048x9216 : Shape := ⟨3, ![1, 2048, 9216]⟩
abbrev S2x9x2048 : Shape := ⟨3, ![2, 9, 2048]⟩
abbrev S1x1x2048 : Shape := ⟨3, ![1, 1, 2048]⟩
abbrev S2048 : Shape := ⟨1, ![2048]⟩
abbrev S1x2048 : Shape := ⟨2, ![1, 2048]⟩
abbrev S2048x9216 : Shape := ⟨2, ![2048, 9216]⟩
abbrev S2048x1024 : Shape := ⟨2, ![2048, 1024]⟩
abbrev S2048x7168 : Shape := ⟨2, ![2048, 7168]⟩
abbrev S2048x512 : Shape := ⟨2, ![2048, 512]⟩
abbrev S2x16384x1024 : Shape := ⟨3, ![2, 16384, 1024]⟩
abbrev S2x24x16384x128 : Shape := ⟨4, ![2, 24, 16384, 128]⟩
abbrev S2x16384x4096 : Shape := ⟨3, ![2, 16384, 4096]⟩
abbrev S1x1024x2048 : Shape := ⟨3, ![1, 1024, 2048]⟩
abbrev S1x9x2048 : Shape := ⟨3, ![1, 9, 2048]⟩
abbrev S1x1024x512 : Shape := ⟨3, ![1, 1024, 512]⟩
abbrev S1x8x1024x128 : Shape := ⟨4, ![1, 8, 1024, 128]⟩
abbrev S1x1024x1024 : Shape := ⟨3, ![1, 1024, 1024]⟩
abbrev S1024x2048 : Shape := ⟨2, ![1024, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x512 : Shape := ⟨2, ![256, 512]⟩
abbrev S1x256x512 : Shape := ⟨3, ![1, 256, 512]⟩
abbrev S1024x1024 : Shape := ⟨2, ![1024, 1024]⟩
abbrev S1024x512 : Shape := ⟨2, ![1024, 512]⟩
abbrev S1024x128 : Shape := ⟨2, ![1024, 128]⟩
abbrev S1x1x1024x128 : Shape := ⟨4, ![1, 1, 1024, 128]⟩

abbrev nBuf : Space → Nat
  | .hbm => 21
  | .vmem => 14
  | .smem => 0
  | _ => 0

abbrev bufTy : (tb : Table) → Fin (tcTables nBuf tb) → BufTy
  | .hbm, ⟨0, _⟩ => ⟨S2x16384x2048, .f32⟩
  | .hbm, ⟨1, _⟩ => ⟨S2x3x3x2048, .f32⟩
  | .hbm, ⟨2, _⟩ => ⟨S1x3x2048, .f32⟩
  | .hbm, ⟨3, _⟩ => ⟨S1x2048x9216, .f32⟩
  | .hbm, ⟨4, _⟩ => ⟨S2x9x2048, .f32⟩
  | .hbm, ⟨5, _⟩ => ⟨S1x1x2048, .f32⟩
  | .hbm, ⟨6, _⟩ => ⟨S2048, .f32⟩
  | .hbm, ⟨7, _⟩ => ⟨S1x2048, .f32⟩
  | .hbm, ⟨8, _⟩ => ⟨S2048x9216, .f32⟩
  | .hbm, ⟨9, _⟩ => ⟨S2048x1024, .f32⟩
  | .hbm, ⟨10, _⟩ => ⟨S2048x1024, .f32⟩
  | .hbm, ⟨11, _⟩ => ⟨S2048x7168, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x9216, .f32⟩
  | .hbm, ⟨17, _⟩ => ⟨S2048x9216, .bf16⟩
  | .hbm, ⟨18, _⟩ => ⟨S2x16384x1024, .bf16⟩
  | .hbm, ⟨19, _⟩ => ⟨S2x24x16384x128, .bf16⟩
  | .hbm, ⟨20, _⟩ => ⟨S2x16384x4096, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x8x1024x128, .bf16⟩
  | .local _ .vmem, ⟨10, _⟩ => ⟨S1x8x1024x128, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev main_v14_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 16, 9], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let c4_i32 : BitVec 32 := 4#32
  let v10 : BitVec 1 := Scalar.cmpi .eq arg2 c4_i32
  let v11 : BitVec 1 := Scalar.ori v9 v10
  let v12 : BitVec 32 := Scalar.extui v11
  let c0_i32_3 : BitVec 32 := 0#32
  let v13 : BitVec 1 := Scalar.cmpi .ne v12 c0_i32_3
  v13

def k0_cond5 (i : grid0.Coords) : BitVec 1 :=
  let arg2 : BitVec 32 := BitVec.ofNat 32 (i 2).val
  let c5_i32 : BitVec 32 := 5#32
  let v14 : BitVec 1 := Scalar.cmpi .sge arg2 c5_i32
  let v15 : BitVec 32 := Scalar.extui v14
  let c0_i32_4 : BitVec 32 := 0#32
  let v16 : BitVec 1 := Scalar.cmpi .ne v15 c0_i32_4
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, arg1.toNat, v0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c2_i32_0 : BitVec 32 := 2#32
  let v1 : BitVec 32 := Scalar.maxsi c0_i32 v0
  let v2 : BitVec 32 := Scalar.minsi c2_i32_0 v1
  let c0_i32_1 : BitVec 32 := 0#32
  let c0_i32_2 : BitVec 32 := 0#32
  ![arg0.toNat, v2.toNat, arg1.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.subi arg2 c5_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, arg1.toNat, v2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ProjIdeal.lean ====
variable {F : FTy → Type} [FloatOps F] [Named F]
def κ : String → Option EReal := fun
  | "q_scale" => some ((((Real.log 2) * (Real.sqrt 128))⁻¹ : ℝ) : EReal)
  | _ => none
-- ==== ProjRefIdeal.lean ====
abbrev S2x16384x2048 : Shape := ⟨3, ![2, 16384, 2048]⟩
abbrev S2x3x3x2048 : Shape := ⟨4, ![2, 3, 3, 2048]⟩
abbrev S1x3x2048 : Shape := ⟨3, ![1, 3, 2048]⟩
abbrev S1x2048x9216 : Shape := ⟨3, ![1, 2048, 9216]⟩
abbrev S2x1x1x2048 : Shape := ⟨4, ![2, 1, 1, 2048]⟩
abbrev S2x2048 : Shape := ⟨2, ![2, 2048]⟩
abbrev S2x1x2048 : Shape := ⟨3, ![2, 1, 2048]⟩
abbrev S1x1x2048 : Shape := ⟨3, ![1, 1, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S2048x9216 : Shape := ⟨2, ![2048, 9216]⟩
abbrev S2x16384x9216 : Shape := ⟨3, ![2, 16384, 9216]⟩
abbrev S2x16384x1024 : Shape := ⟨3, ![2, 16384, 1024]⟩
abbrev S2x16384x4096 : Shape := ⟨3, ![2, 16384, 4096]⟩
abbrev S2x16384x8x128 : Shape := ⟨4, ![2, 16384, 8, 128]⟩
abbrev S2x8x16384x128 : Shape := ⟨4, ![2, 8, 16384, 128]⟩
abbrev S2x24x16384x128 : Shape := ⟨4, ![2, 24, 16384, 128]⟩

abbrev nBuf : Space → Nat
  | .hbm => 77
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x3x3x2048, .f32⟩
  | .hbm, ⟨2, _⟩ => ⟨S1x3x2048, .f32⟩
  | .hbm, ⟨3, _⟩ => ⟨S1x2048x9216, .f32⟩
  | .hbm, ⟨4, _⟩ => ⟨S2x1x1x2048, .f32⟩
  | .hbm, ⟨5, _⟩ => ⟨S2x2048, .f32⟩
  | .hbm, ⟨6, _⟩ => ⟨S2x1x2048, .f32⟩
  | .hbm, ⟨7, _⟩ => ⟨S2x1x1x2048, .f32⟩
  | .hbm, ⟨8, _⟩ => ⟨S2x2048, .f32⟩
  | .hbm, ⟨9, _⟩ => ⟨S2x1x2048, .f32⟩
  | .hbm, ⟨10, _⟩ => ⟨S1x1x2048, .f32⟩
  | .hbm, ⟨11, _⟩ => ⟨S2048, .f32⟩
  | .hbm, ⟨12, _⟩ => ⟨S2x16384x2048, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x2048, .f32⟩
  | .hbm, ⟨24, _⟩ => ⟨S2x16384x2048, .f32⟩
  | .hbm, ⟨25, _⟩ => ⟨S1x1x2048, .f32⟩
  | .hbm, ⟨26, _⟩ => ⟨S2x16384x2048, .f32⟩
  | .hbm, ⟨27, _⟩ => ⟨S2x16384x2048, .f32⟩
  | .hbm, ⟨28, _⟩ => ⟨S_, .f32⟩
  | .hbm, ⟨29, _⟩ => ⟨S2x1x2048, .f32⟩
  | .hbm, ⟨30, _⟩ => ⟨S2x1x2048, .f32⟩
  | .hbm, ⟨31, _⟩ => ⟨S2x16384x2048, .f32⟩
  | .hbm, ⟨32, _⟩ => ⟨S2x16384x2048, .f32⟩
  | .hbm, ⟨33, _⟩ => ⟨S2x16384x2048, .f32⟩
  | .hbm, ⟨34, _⟩ => ⟨S2x16384x2048, .f32⟩
  | .hbm, ⟨35, _⟩ => ⟨S2048x9216, .f32⟩
  | .hbm, ⟨36, _⟩ => ⟨S2x16384x9216, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S2x16384x1024, .f32⟩
  | .hbm, ⟨42, _⟩ => ⟨S2x16384x4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2x16384x1024, .f32⟩
  | .hbm, ⟨49, _⟩ => ⟨S2x16384x1024, .f32⟩
  | .hbm, ⟨50, _⟩ => ⟨S2x16384x8x128, .f32⟩
  | .hbm, ⟨51, _⟩ => ⟨S2x8x16384x128, .f32⟩
  | .hbm, ⟨52, _⟩ => ⟨S2x16384x8x128, .f32⟩
  | .hbm, ⟨53, _⟩ => ⟨S2x8x16384x128, .f32⟩
  | .hbm, ⟨54, _⟩ => ⟨S2x16384x8x128, .f32⟩
  | .hbm, ⟨55, _⟩ => ⟨S2x8x16384x128, .f32⟩
  | .hbm, ⟨56, _⟩ => ⟨S2x24x16384x128, .f32⟩
  | .hbm, ⟨57, _⟩ => ⟨S2x16384x1024, .f32⟩
  | .hbm, ⟨58, _⟩ => ⟨S2x16384x1024, .f32⟩
  | .hbm, ⟨59, _⟩ => ⟨S_, .f32⟩
  | .hbm, ⟨60, _⟩ => ⟨S2x16384x1024, .f32⟩
  | .hbm, ⟨61, _⟩ => ⟨S2x16384x1024, .f32⟩
  | .hbm, ⟨62, _⟩ => ⟨S_, .f32⟩
  | .hbm, ⟨63, _⟩ => ⟨S2x16384x1024, .f32⟩
  | .hbm, ⟨64, _⟩ => ⟨S2x16384x1024, .f32⟩
  | .hbm, ⟨65, _⟩ => ⟨S2x16384x1024, .f32⟩
  | .hbm, ⟨66, _⟩ => ⟨S2x16384x1024, .bf16⟩
  | .hbm, ⟨67, _⟩ => ⟨S2x24x16384x128, .bf16⟩
  | .hbm, ⟨68, _⟩ => ⟨S2x16384x4096, .f32⟩
  | .hbm, ⟨69, _⟩ => ⟨S2x16384x4096, .f32⟩
  | .hbm, ⟨70, _⟩ => ⟨S_, .f32⟩
  | .hbm, ⟨71, _⟩ => ⟨S2x16384x4096, .f32⟩
  | .hbm, ⟨72, _⟩ => ⟨S2x16384x4096, .f32⟩
  | .hbm, ⟨73, _⟩ => ⟨S_, .f32⟩
  | .hbm, ⟨74, _⟩ => ⟨S2x16384x4096, .f32⟩
  | .hbm, ⟨75, _⟩ => ⟨S2x16384x4096, .f32⟩
  | .hbm, ⟨76, _⟩ => ⟨S2x16384x4096, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_v59 : Ref sig .tc := ⟨.hbm, 72, rfl⟩
abbrev main_cst_8 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩

abbrev nD : Nat := 1
abbrev τ : Topo := Topo.v7x

variable {F : FTy → Type} [FloatOps F]
-- ==== Proof.Attn.Common.lean ====
module

public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.WritesUnit
public import Idealize.ShloMosaic.Lib.Pointwise
public import Idealize.ShloMosaic.Lib.Pipeline.ValueKit

/-!
The attention kernel's state as plain arrays: the four row blocks of the output tile, the four
columns of running sums, and the step by which one more window of keys and values changes them.
-/

@[expose] public section

set_option maxRecDepth 16384

noncomputable section

namespace Cert.Proof.Attn

open Idealize.ShloMosaic Idealize.ShloMosaic.TcCoe Idealize.ShloMosaic.Tactic
open Cert.KernelIdeal Cert.KernelIdeal.Gen

/-- The number of the window of keys that row block `r` meets at distance `s`. -/
def win (g : ℕ) (r : Fin 4) (s : ℕ) : ℕ := 4 * g + r.val - s

/-- The word of that number before it is held at zero. -/
def mword (g : ℕ) (r : Fin 4) (s : ℕ) : BitVec 32 :=
  Scalar.subi (Scalar.addi (Scalar.muli (BitVec.ofNat 32 g) 4#32) (BitVec.ofNat 32 r.val)) (BitVec.ofNat 32 s)

theorem mword_off (g : Fin 16) (r : Fin 4) (s : Fin 70) :
    (Scalar.indexCast (Scalar.muli (Scalar.maxsi (mword g.val r s.val) 0#32) 256#32)).toNat = 256 * win g.val r s.val := by
  revert g r s; decide +kernel

theorem mword_sge (g : Fin 16) (r : Fin 4) (s : Fin 70) :
    Scalar.cmpi .sge (mword g.val r s.val) 0#32 = BitVec.ofBool (decide (s.val ≤ 4 * g.val + r.val)) := by
  revert g r s; decide +kernel

theorem lt16 (i : grid0.Coords) : (i 2).val < 16 := (i 2).isLt

theorem off3_eq (i : grid0.Coords) (r : Fin 4) (s : ℕ) (hs : s < 70) :
    k0_off3 i (BitVec.ofNat 32 s) (BitVec.ofNat 32 r.val) = ![0, 0, 256 * win (i 2).val r s, 0] := by
  rw [← mword_off ⟨(i 2).val, lt16 i⟩ r ⟨s, hs⟩]; rfl

theorem off2_eq (i : grid0.Coords) (r : Fin 4) (s : ℕ) (hs : s < 70) :
    k0_off2 i (BitVec.ofNat 32 r.val) (BitVec.ofNat 32 s) = ![0, 0, 256 * win (i 2).val r s, 0] := by
  rw [← mword_off ⟨(i 2).val, lt16 i⟩ r ⟨s, hs⟩]; rfl

theorem off1_eq (i : grid0.Coords) (r : Fin 4) :
    k0_off1 i (BitVec.ofNat 32 r.val) = ![0, 0, 256 * win (i 2).val r 0, 0] := by
  rw [k0_off1_eq]
  have : 1024 * (i 2).val + 256 * r.val = 256 * win (i 2).val r 0 := by unfold win; omega
  rw [this]

theorem win_lt (i : grid0.Coords) (r : Fin 4) (s : ℕ) : win (i 2).val r s < 64 := by
  have := lt16 i; unfold win; omega

theorem mult_dvd (g : Fin 16) (r : Fin 4) (s : Fin 70) :
    256 ∣ (Scalar.muli (Scalar.maxsi (mword g.val r s.val) 0#32) 256#32).toNat := by
  revert g r s; decide +kernel

/-- The checks of one trip of the loop, at every distance the loop can reach. -/
theorem chk1 (i : grid0.Coords) (s : ℕ) (hs : s < 70) : k0_chk1 i (BitVec.ofNat 32 s) := by
  refine ⟨mult_dvd ⟨_, lt16 i⟩ 0 ⟨s, hs⟩, ?_, mult_dvd ⟨_, lt16 i⟩ 1 ⟨s, hs⟩, mult_dvd ⟨_, lt16 i⟩ 2 ⟨s, hs⟩, mult_dvd ⟨_, lt16 i⟩ 3 ⟨s, hs⟩⟩
  intro r a
  rw [off3_eq i r s hs]
  have := win_lt i r s
  match a with
  | ⟨0, _⟩ => show 0 + 1 ≤ 1; omega
  | ⟨1, _⟩ => show 0 + 1 ≤ 1; omega
  | ⟨2, _⟩ => show 256 * win (i 2).val r s + 256 ≤ 16384; omega
  | ⟨3, _⟩ => show 0 + 128 ≤ 128; omega

/-- Window `n` of the keys or of the values. -/
def kvB (x : Vec Ideal S1x1x16384x128 .bf16) (n : ℕ) : Vec Ideal S1x1x256x128 .bf16 := fun y =>
  x (ix4 (n0 := 1) (n1 := 1) (n2 := 16384) (n3 := 128) 0 0 ⟨(256 * n + (y 2).val) % 16384, Nat.mod_lt _ (by omega)⟩ (y 3))

theorem ld_kvB (x : Vec Ideal S1x1x16384x128 .bf16) (off : Fin 4 → ℕ) (h) (n : ℕ) (hn : n < 64)
    (ho : off = ![0, 0, 256 * n, 0]) :
    View.ld (Val := Elt Ideal) (S := S1x1x16384x128) x (Rect.unit off S1x1x256x128.size h) = kvB x n := by
  subst ho
  funext y
  refine View.ld_unit_apply_of _ _ _ _ _ _ ?_
  intro a
  have h0 := (y 0).isLt; have h1 := (y 1).isLt
  have h2 : (y 2).val < 256 := (y 2).isLt
  match a with
  | ⟨0, _⟩ => show 0 = 0 + (y 0).val; change (y 0).val < 1 at h0; omega
  | ⟨1, _⟩ => show 0 = 0 + (y 1).val; change (y 1).val < 1 at h1; omega
  | ⟨2, _⟩ => show (256 * n + (y 2).val) % 16384 = 256 * n + (y 2).val; omega
  | ⟨3, _⟩ => show (y 3).val = 0 + (y 3).val; omega

/-- Row block `r` of the queries. -/
def qB (x : Vec Ideal S1x1x1024x128 .bf16) (r : Fin 4) : Vec Ideal S1x1x256x128 .bf16 := fun y =>
  x (ix4 (n0 := 1) (n1 := 1) (n2 := 1024) (n3 := 128) 0 0 ⟨256 * r.val + (y 2).val, by
    have h2 : (y 2).val < 256 := (y 2).isLt
    omega⟩ (y 3))

theorem ld_qB (x : Vec Ideal S1x1x1024x128 .bf16) (off : Fin 4 → ℕ) (h) (r : Fin 4)
    (ho : off = ![0, 0, 256 * r.val, 0]) :
    View.ld (Val := Elt Ideal) (S := S1x1x1024x128) x (Rect.unit off S1x1x256x128.size h) = qB x r := by
  subst ho
  funext y
  refine View.ld_unit_apply_of _ _ _ _ _ _ ?_
  intro a
  have h0 := (y 0).isLt; have h1 := (y 1).isLt
  match a with
  | ⟨0, _⟩ => show 0 = 0 + (y 0).val; change (y 0).val < 1 at h0; omega
  | ⟨1, _⟩ => show 0 = 0 + (y 1).val; change (y 1).val < 1 at h1; omega
  | ⟨2, _⟩ => rfl
  | ⟨3, _⟩ => show (y 3).val = 0 + (y 3).val; omega

/-- The output tile from its four row blocks. -/
def glue (b : Fin 4 → Vec Ideal S256x128 .f32) : Vec Ideal S1024x128 .f32 := fun y =>
  b ⟨(y 0).val / 256, by
    have h0 : (y 0).val < 1024 := (y 0).isLt
    omega⟩
    (ix2 (n0 := 256) (n1 := 128) ⟨(y 0).val % 256, Nat.mod_lt _ (by omega)⟩ (y 1))

theorem ld_glue (b : Fin 4 → Vec Ideal S256x128 .f32) (off : Fin 2 → ℕ) (h) (r : Fin 4)
    (ho : off = ![256 * r.val, 0]) :
    View.ld (Val := Elt Ideal) (S := S1024x128) (glue b) (Rect.unit off S256x128.size h) = b r := by
  subst ho
  funext y
  obtain ⟨y0, y1, rfl⟩ : ∃ (a : Fin 256) (b : Fin 128), y = ix2 a b := ⟨y 0, y 1, eq_ix2 (n0 := 256) (n1 := 128) y⟩
  have hy0 := y0.isLt
  have e : (⟨256 * r.val + y0.val, by omega⟩ : Fin 1024) = ⟨256 * r.val + y0.val, by omega⟩ := rfl
  refine (View.ld_unit_apply_of _ _ _ _ _ (ix2 (n0 := 1024) (n1 := 128) ⟨256 * r.val + y0.val, by omega⟩ y1) ?_).trans ?_
  · intro a
    match a with
    | ⟨0, _⟩ => rfl
    | ⟨1, _⟩ => show y1.val = 0 + y1.val; omega
  · unfold glue
    congr 1
    · congr 1; try apply Fin.ext
      show (256 * r.val + y0.val) / 256 = r.val; omega
    · congr 1; try apply Fin.ext
      show (256 * r.val + y0.val) % 256 = y0.val; omega

/-- The output blocks and the running sums. -/
structure St where
  b : Fin 4 → Vec Ideal S256x128 .f32
  a : Fin 4 → FVec Ideal S256x1 .f32

/-- The logits of a row block against a window. -/
abbrev zOf (qb kb : Vec Ideal S1x1x256x128 .bf16) : FVec Ideal S256x256 .f32 := k0_pay119 qb kb

/-- The softplus of the logits, in base two. -/
abbrev spOf (z : FVec Ideal S256x256 .f32) : FVec Ideal S256x256 .f32 := k0_pay129 (k0_pay127 z) (k0_pay128 z)

/-- The matrix that sums over the later keys of a window. -/
def sufM : FVec Ideal S256x256 .bf16 := k0_pay8 (F := Ideal)

/-- The state before the first window. -/
def init (qb kb vb : Fin 4 → Vec Ideal S1x1x256x128 .bf16) : St where
  b r := k0_pay37 k0_pay7 sufM (k0_pay10 (vb r)) (k0_pay19 (k0_pay9 (qb r) (kb r))) (k0_pay20 k0_pay7 (k0_pay9 (qb r) (kb r)))
  a r := k0_pay38 (k0_pay33 (k0_pay20 k0_pay7 (k0_pay9 (qb r) (kb r))))

/-- One more window: the words say which row blocks have one. -/
def step (m : Fin 4 → BitVec 32) (v7 : FVec Ideal S256x256 .bf16) (qb kb vb : Fin 4 → Vec Ideal S1x1x256x128 .bf16) (S : St) : St where
  b r := k0_pay143 v7 (S.a r) (m r) (k0_pay120 (vb r)) (spOf (zOf (qb r) (kb r)))
    (k0_pay130 (zOf (qb r) (kb r)) (k0_pay127 (zOf (qb r) (kb r))) (k0_pay128 (zOf (qb r) (kb r)))) (S.b r)
  a r := k0_pay144 (S.a r) (m r) (spOf (zOf (qb r) (kb r)))

/-- The largest entry of a column. -/
def colMax (a : FVec Ideal S256x1 .f32) : Ideal .f32 :=
  extractAt ![0, 0, 0] (shapeCast S1x1x1 (multiReduction .maximumf [1, 2] S1 (shapeCast S1x256x1 a shapeCasts_S256x1_S1x256x1) 0xFF800000#32 reduces_S1x256x1_S1 (.inl rfl) rfl) shapeCasts_S1_S1x1x1) inpos_S1x1x1_p0_0_0

/-- The largest running sum of all. -/
def live (a : Fin 4 → FVec Ideal S256x1 .f32) : Ideal .f32 :=
  Scalar.maximumf (Scalar.maximumf (Scalar.maximumf (colMax (a 0)) (colMax (a 1))) (colMax (a 2))) (colMax (a 3))

/-- The state after the windows at distances up to `d`. -/
def stAt (g : ℕ) (q : Vec Ideal S1x1x1024x128 .bf16) (k v : Vec Ideal S1x1x16384x128 .bf16) : ℕ → St
  | 0 => init (qB q) (fun r => kvB k (win g r 0)) (fun r => kvB v (win g r 0))
  | d + 1 => step (fun r => mword g r (d + 1)) sufM (qB q) (fun r => kvB k (win g r (d + 1))) (fun r => kvB v (win g r (d + 1))) (stAt g q k v d)

end Cert.Proof.Attn
-- ==== Proof.Attn.Dead.lean ====
module

public import proofs.«01_k».proof.Proof.Attn.Common

/-!
What it means for the running sums to have fallen to minus infinity: the loop's test fails exactly
then, and a further window changes nothing.
-/

@[expose] public section

set_option maxRecDepth 16384

noncomputable section

namespace Cert.Proof.Attn

open Idealize.ShloMosaic Idealize.ShloMosaic.TcCoe Idealize.ShloMosaic.Tactic
open Cert.KernelIdeal Cert.KernelIdeal.Gen

theorem named_zero : Named.named (F := Ideal) κ (φ := .f32) "log_zero" 0xC3177BA5#32 = (⊥ : EReal) := by
  rfl

theorem named_dead : Named.named (F := Ideal) κ (φ := .f32) "log_dead" 0xF149F2CA#32 = (⊥ : EReal) := by
  rfl

/-- The loop's test. -/
def test (l : Ideal .f32) : BitVec 1 :=
  Scalar.cmpf (F := Ideal) (φ := .f32) .ogt l (Named.named (F := Ideal) κ (φ := .f32) "log_zero" 0xC3177BA5#32)

theorem test_eq (l : Ideal .f32) : test l = BitVec.ofBool (decide ((⊥ : EReal) < (l : EReal))) := by
  unfold test; rw [named_zero]; rfl

theorem ofBits_ninf : Ideal.ofBits .f32 4286578688#32 = (⊥ : EReal) := by
  simp [Ideal.ofBits, Ideal.ieee]

theorem colMax_bot (a : FVec Ideal S256x1 .f32) : colMax a = (⊥ : EReal) ↔ ∀ j, a j = (⊥ : EReal) := by
  unfold colMax
  pointwise
  rw [ofBits_ninf, ← le_bot_iff, Finset.fold_max_le]
  constructor
  · intro h j
    obtain ⟨x, y, rfl⟩ : ∃ (x : Fin 256) (y : Fin 1), j = ix2 x y := ⟨j 0, j 1, eq_ix2 (n0 := 256) (n1 := 1) j⟩
    obtain rfl : y = 0 := Subsingleton.elim _ _
    exact le_bot_iff.mp (h.2 (x, 0) (Finset.mem_univ _))
  · intro h
    exact ⟨le_rfl, fun x _ => le_of_eq (h _)⟩

theorem live_bot (a : Fin 4 → FVec Ideal S256x1 .f32) : live a = (⊥ : EReal) ↔ ∀ r j, a r j = (⊥ : EReal) := by
  show max (max (max (colMax (a 0) : EReal) (colMax (a 1))) (colMax (a 2))) (colMax (a 3)) = ⊥ ↔ _
  rw [max_eq_bot, max_eq_bot, max_eq_bot, colMax_bot, colMax_bot, colMax_bot, colMax_bot]
  constructor
  · rintro ⟨⟨⟨h0, h1⟩, h2⟩, h3⟩ r
    match r with
    | 0 => exact h0
    | 1 => exact h1
    | 2 => exact h2
    | 3 => exact h3
  · intro h
    exact ⟨⟨⟨h 0, h 1⟩, h 2⟩, h 3⟩

theorem acc_dead (a : FVec Ideal S256x1 .f32) (m : BitVec 32) (h : (∀ j, a j = (⊥ : EReal)) ∨ Scalar.cmpi .sge m 0#32 = 0#1) :
    k0_pay142 (F := Ideal) a m = fun _ => (⊥ : EReal) := by
  funext j
  show Scalar.select (Scalar.cmpi .sge m 0#32) a (fun _ => Named.named (F := Ideal) κ (φ := .f32) "log_dead" 0xF149F2CA#32) j = _
  rw [named_dead]
  rcases h with h | h
  · unfold Scalar.select
    split
    · exact h j
    · rfl
  · rw [h]; rfl

theorem step_dead_a (m v7 qb kb vb S) (r : Fin 4) (h : (∀ j, S.a r j = (⊥ : EReal)) ∨ Scalar.cmpi .sge (m r) 0#32 = 0#1) :
    ∀ j, (step m v7 qb kb vb S).a r j = (⊥ : EReal) := by
  intro j
  have e := acc_dead (S.a r) (m r) h
  show k0_pay144 _ _ _ _ = _
  unfold k0_pay144
  rw [e]
  pointwise
  rw [EReal.bot_sub]

theorem step_dead_b (m v7 qb kb vb S) (r : Fin 4) (h : (∀ j, S.a r j = (⊥ : EReal)) ∨ Scalar.cmpi .sge (m r) 0#32 = 0#1) :
    (step m v7 qb kb vb S).b r = S.b r := by
  have e := acc_dead (S.a r) (m r) h
  funext j
  idx_vars j
  show k0_pay143 _ _ _ _ _ _ _ _ = _
  unfold k0_pay143
  rw [e]
  pointwise
  have h2 : FloatOps.exp2 (F := Ideal) (φ := .f32) (⊥ : EReal) = (0 : EReal) := Ideal.exp2_bot
  rw [h2, mul_zero, add_zero]

variable (g : Fin 16) (q : Vec Ideal S1x1x1024x128 .bf16) (k v : Vec Ideal S1x1x16384x128 .bf16)

/-- Past the first window every row block is out of windows. -/
theorem dead_end (j) (r) : (stAt g.val q k v (4 * g.val + 4)).a r j = (⊥ : EReal) := by
  refine step_dead_a _ _ _ _ _ _ r (Or.inr ?_) j
  rw [mword_sge g r ⟨4 * g.val + 3 + 1, by have := g.isLt; omega⟩]
  rw [decide_eq_false (by have := r.isLt; show ¬ (4 * g.val + 3 + 1 ≤ _); omega)]
  rfl

/-- Dead sums stay dead and the output stays as it is. -/
theorem dead_stay (d : ℕ) (h : ∀ r j, (stAt g.val q k v d).a r j = (⊥ : EReal)) (n : ℕ) :
    (stAt g.val q k v (d + n)).b = (stAt g.val q k v d).b ∧ ∀ r j, (stAt g.val q k v (d + n)).a r j = (⊥ : EReal) := by
  induction n with
  | zero => exact ⟨rfl, h⟩
  | succ n ih =>
    refine ⟨?_, fun r j => step_dead_a _ _ _ _ _ _ r (Or.inl (ih.2 r)) j⟩
    rw [← ih.1]
    funext r
    exact step_dead_b _ _ _ _ _ _ r (Or.inl (ih.2 r))

/-- Where the test fails the output is the final one. -/
theorem exit_b (d n : ℕ) (hd : d + n = 4 * g.val + 4) (h : ¬ test (live (stAt g.val q k v d).a) = 1#1) :
    (stAt g.val q k v d).b = (stAt g.val q k v (4 * g.val + 4)).b := by
  rw [← hd]
  refine (dead_stay g q k v d ((live_bot _).mp ?_) n).1.symm
  rw [test_eq] at h
  by_contra hb
  exact h (by rw [decide_eq_true (bot_lt_iff_ne_bot.mpr hb)]; rfl)

theorem exit_end : ¬ test (live (stAt g.val q k v (4 * g.val + 4)).a) = 1#1 := by
  rw [test_eq, (live_bot _).mpr (fun r j => dead_end g q k v j r)]
  simp

end Cert.Proof.Attn
-- ==== Proof.Attn.While.lean ====
module

public import proofs.«01_k».proof.Proof.Attn.Dead

/-!
The loop's label: entered after the windows at distances up to `d`, it leaves the output tile at the
state after all windows.
-/

@[expose] public section

set_option maxRecDepth 16384

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

/-- Four stores of whole row blocks, whatever was there before, leave the tile glued from them. -/
theorem read_four {arg7 : Memref sig .tc .vmem S1024x128 .f32} (f) (L : List (View.Piece (Elt Ideal) S1024x128 .f32)) (b : Fin 4 → Vec Ideal S256x128 .f32) (h0 h1 h2 h3) :
    View.read (Elt Ideal) arg7.view (arg7.view.writes (Elt Ideal) f
      (⟨Rect.unit (s := S1024x128) ![768, 0] S256x128.size h3, b 3⟩ :: ⟨Rect.unit (s := S1024x128) ![512, 0] S256x128.size h2, b 2⟩ ::
       ⟨Rect.unit (s := S1024x128) ![256, 0] S256x128.size h1, b 1⟩ :: ⟨Rect.unit (s := S1024x128) ![0, 0] S256x128.size h0, b 0⟩ :: L))
      = glue b := by
  funext y
  obtain ⟨y0, y1, rfl⟩ : ∃ (a : Fin 1024) (b : Fin 128), y = ix2 a b := ⟨y 0, y 1, eq_ix2 (n0 := 1024) (n1 := 128) y⟩
  have hy0 := y0.isLt
  have key : ∀ (r : Fin 4) (hr : y0.val / 256 = r.val), glue b (ix2 y0 y1) = b r (ix2 ⟨y0.val % 256, Nat.mod_lt _ (by omega)⟩ y1) := by
    intro r hr
    unfold glue
    congr 1
    congr 1
  by_cases c3 : 768 ≤ y0.val
  · rw [key 3 (by show _ = 3; omega)]
    exact View.read_writes_cons_rows_of_mem (o := 768) _ _ h3 _ _ _ (ix2 ⟨y0.val % 256, Nat.mod_lt _ (by omega)⟩ y1) rfl (by show y0.val = 768 + y0.val % 256; omega) rfl
  rw [View.read_writes_cons_rows_of_not_mem (o := 768) (W := 256) _ _ h3 _ _ _ rfl rfl (Or.inl (by show y0.val < 768; omega))]
  by_cases c2 : 512 ≤ y0.val
  · rw [key 2 (by show _ = 2; omega)]
    exact View.read_writes_cons_rows_of_mem (o := 512) _ _ h2 _ _ _ (ix2 ⟨y0.val % 256, Nat.mod_lt _ (by omega)⟩ y1) rfl (by show y0.val = 512 + y0.val % 256; omega) rfl
  rw [View.read_writes_cons_rows_of_not_mem (o := 512) (W := 256) _ _ h2 _ _ _ rfl rfl (Or.inl (by show y0.val < 512; omega))]
  by_cases c1 : 256 ≤ y0.val
  · rw [key 1 (by show _ = 1; omega)]
    exact View.read_writes_cons_rows_of_mem (o := 256) _ _ h1 _ _ _ (ix2 ⟨y0.val % 256, Nat.mod_lt _ (by omega)⟩ y1) rfl (by show y0.val = 256 + y0.val % 256; omega) rfl
  rw [View.read_writes_cons_rows_of_not_mem (o := 256) (W := 256) _ _ h1 _ _ _ rfl rfl (Or.inl (by show y0.val < 256; omega))]
  rw [key 0 (by show _ = 0; omega)]
  exact View.read_writes_cons_rows_of_mem (o := 0) _ _ h0 _ _ _ (ix2 ⟨y0.val % 256, Nat.mod_lt _ (by omega)⟩ y1) rfl (by show y0.val = 0 + y0.val % 256; omega) rfl

/-- The same, the stored blocks by name. -/
theorem read_four' {arg7 : Memref sig .tc .vmem S1024x128 .f32} (f) (L : List (View.Piece (Elt Ideal) S1024x128 .f32)) (b : Fin 4 → Vec Ideal S256x128 .f32)
    (p3 p2 p1 p0 : Vec Ideal S256x128 .f32) (e3 : p3 = b 3) (e2 : p2 = b 2) (e1 : p1 = b 1) (e0 : p0 = b 0) (h0 h1 h2 h3) :
    View.read (Elt Ideal) arg7.view (arg7.view.writes (Elt Ideal) f
      (⟨Rect.unit (s := S1024x128) ![768, 0] S256x128.size h3, p3⟩ :: ⟨Rect.unit (s := S1024x128) ![512, 0] S256x128.size h2, p2⟩ ::
       ⟨Rect.unit (s := S1024x128) ![256, 0] S256x128.size h1, p1⟩ :: ⟨Rect.unit (s := S1024x128) ![0, 0] S256x128.size h0, p0⟩ :: L))
      = glue b := by
  subst e3 e2 e1 e0; exact read_four f L b _ _ _ _

variable (c : Dev nD) (i : grid0.Coords)
  (arg3 : Memref sig .tc .vmem S1x1x1024x128 .bf16) (harg3 : arg3.IsWhole)
  (arg4 : Memref sig .tc .vmem S1x1x16384x128 .bf16) (harg4 : arg4.IsWhole)
  (arg5 : Memref sig .tc .vmem S1x1x16384x128 .bf16) (harg5 : arg5.IsWhole)
  (arg7 : Memref sig .tc .vmem S1024x128 .f32) (harg7 : arg7.IsWhole)
  (q : Vec Ideal S1x1x1024x128 .bf16) (k : Vec Ideal S1x1x16384x128 .bf16) (v : Vec Ideal S1x1x16384x128 .bf16)

/-- What the loop works on: queries, keys and values as they are, the output tile at `o`. -/
def held (o : Vec Ideal S1024x128 .f32) : sProp 𝕄 :=
  iprop(owns (c : Thread nD τ) arg3 fullShare q ∗ owns (c : Thread nD τ) arg4 fullShare k ∗ owns (c : Thread nD τ) arg5 fullShare v
    ∗ owns (c : Thread nD τ) arg7 fullShare o)

/-- The loop's specification on entry at state `d`. -/
def spec (d : ℕ) : sWPT 𝕄 (BitVec 32 × Ideal .f32 × FVec Ideal S256x1 .f32 × FVec Ideal S256x1 .f32 × FVec Ideal S256x1 .f32 × FVec Ideal S256x1 .f32) := do
  sWPT.consume (held c arg3 arg4 arg5 arg7 q k v (glue (stAt (i 2).val q k v d).b))
  let r ← sWPT.arbitrary
  sWPT.produce (held c arg3 arg4 arg5 arg7 q k v (glue (stAt (i 2).val q k v (4 * (i 2).val + 4)).b))
  pure r

theorem spec_apply (d : ℕ) (K) : spec c i arg3 arg4 arg5 arg7 q k v d K
    = iprop(held c arg3 arg4 arg5 arg7 q k v (glue (stAt (i 2).val q k v d).b)
      ∗ ∀ r, held c arg3 arg4 arg5 arg7 q k v (glue (stAt (i 2).val q k v (4 * (i 2).val + 4)).b) -∗ K r) := rfl

section Trip

/-- The loads of the trip, as row blocks and windows. -/
def qL : Fin 4 → Vec Ideal S1x1x256x128 .bf16 := fun r =>
  View.ld (Val := Elt Ideal) (S := S1x1x1024x128) (arg3.view.read (Elt Ideal) (harg3.unread q))
    (Rect.unit ![0, 0, 256 * r.val, 0] S1x1x256x128.size (by revert r; decide))

theorem qL_eq : qL arg3 harg3 q = qB q := by
  funext r; unfold qL; rw [harg3.read_unread]; exact ld_qB q _ _ r rfl

def kL (i : grid0.Coords) (w : BitVec 32) (hc : k0_chk1 i w) : Fin 4 → Vec Ideal S1x1x256x128 .bf16 := fun r =>
  View.ld (Val := Elt Ideal) (S := S1x1x16384x128) (arg4.view.read (Elt Ideal) (harg4.unread k))
    (Rect.unit (k0_off3 i w (BitVec.ofNat 32 r.val)) S1x1x256x128.size (k0_off3_inb i w hc r))

theorem kL_eq (s : ℕ) (hs : s < 70) (hc) : kL arg4 harg4 k i (BitVec.ofNat 32 s) hc = fun r => kvB k (win (i 2).val r s) := by
  funext r; unfold kL; rw [harg4.read_unread]; exact ld_kvB k _ _ _ (win_lt i r s) (off3_eq i r s hs)

def oL (o : Vec Ideal S1024x128 .f32) : Fin 4 → Vec Ideal S256x128 .f32 := fun r =>
  View.ld (Val := Elt Ideal) (S := S1024x128) (arg7.view.read (Elt Ideal) (harg7.unread o))
    (Rect.unit ![256 * r.val, 0] S256x128.size (by revert r; decide))

theorem oL_eq (b : Fin 4 → Vec Ideal S256x128 .f32) : oL arg7 harg7 (glue b) = b := by
  funext r; unfold oL; rw [harg7.read_unread]; exact ld_glue b _ _ r rfl

/-- The buffers after a trip, put back as what the loop works on. -/
theorem fin (d : ℕ) (f0 f1 f2 f3) (K) (h0 : arg3.view.read (Elt Ideal) f0 = q) (h1 : arg4.view.read (Elt Ideal) f1 = k)
    (h2 : arg5.view.read (Elt Ideal) f2 = v) (h3 : arg7.view.read (Elt Ideal) f3 = glue (stAt (i 2).val q k v d).b) :
    (iprop(((((View.loc (c : Thread nD τ) arg3.view ↦[arg3.view.set]{fullShare} f0) ∗
      (View.loc (c : Thread nD τ) arg4.view ↦[arg4.view.set]{fullShare} f1)) ∗
      (View.loc (c : Thread nD τ) arg5.view ↦[arg5.view.set]{fullShare} f2)) ∗
      (View.loc (c : Thread nD τ) arg7.view ↦[arg7.view.set]{fullShare} f3)) ∗
      ∀ r, held c arg3 arg4 arg5 arg7 q k v (glue (stAt (i 2).val q k v (4 * (i 2).val + 4)).b) -∗ K r) : sProp 𝕄)
    ⊢ spec c i arg3 arg4 arg5 arg7 q k v d K := by
  rw [spec_apply]; unfold held owns
  iintro ⟨⟨⟨⟨H0, H1⟩, H2⟩, H3⟩, Hk⟩
  isplitr [Hk]
  · isplitl [H0]
    · iexists _; isplitr; · ipureintro; exact h0
      iexact H0
    isplitl [H1]
    · iexists _; isplitr; · ipureintro; exact h1
      iexact H1
    isplitl [H2]
    · iexists _; isplitr; · ipureintro; exact h2
      iexact H2
    iexists _; isplitr
    · ipureintro; exact h3
    · iexact H3
  · iexact Hk

theorem trip (d n : ℕ) (hd : d + 1 < 70) (E : Set ℕ) (K)
    (hx : test (live (stAt (i 2).val q k v d).a) = 1#1)
    (hcall : ∀ w l a0 a1 a2 a3, w = BitVec.ofNat 32 (d + 1 + 1) → l = live (stAt (i 2).val q k v (d + 1)).a →
      a0 = (stAt (i 2).val q k v (d + 1)).a 0 → a1 = (stAt (i 2).val q k v (d + 1)).a 1 →
      a2 = (stAt (i 2).val q k v (d + 1)).a 2 → a3 = (stAt (i 2).val q k v (d + 1)).a 3 →
      ∀ K, spec c i arg3 arg4 arg5 arg7 q k v (d + 1) K
        ⊢ wp frame (wpE (defs₀ (F := Ideal)) Variants.nat (c : Thread nD τ) (some (n + 1))) E
        (Prog.op (TpuEff.call (1 : (Λ₀ Ideal).Label) ⟨i, arg3, harg3, arg4, harg4, arg5, harg5, sufM, arg7, harg7, w, l, a0, a1, a2, a3⟩) Prog.ret) K) :
    spec c i arg3 arg4 arg5 arg7 q k v d K
    ⊢ wp frame (wpE (defs₀ (F := Ideal)) Variants.nat (c : Thread nD τ) (some (n + 1))) E
      (cc0_while1 (F := Ideal) i arg3 harg3 arg4 harg4 arg5 harg5 sufM arg7 harg7 (BitVec.ofNat 32 (d + 1)) (live (stAt (i 2).val q k v d).a)
        ((stAt (i 2).val q k v d).a 0) ((stAt (i 2).val q k v d).a 1) ((stAt (i 2).val q k v d).a 2) ((stAt (i 2).val q k v d).a 3)) K := by
  have hc := chk1 i (d + 1) hd
  have e1 : stAt (i 2).val q k v (d + 1) = step (fun r => mword (i 2).val r (d + 1)) sufM (qL arg3 harg3 q)
      (kL arg4 harg4 k i (BitVec.ofNat 32 (d + 1)) hc) (kL arg5 harg5 v i (BitVec.ofNat 32 (d + 1)) hc)
      ⟨oL arg7 harg7 (glue (stAt (i 2).val q k v d).b), (stAt (i 2).val q k v d).a⟩ := by
    rw [qL_eq, kL_eq _ _ _ _ _ hd, kL_eq _ _ _ _ _ hd, oL_eq]; rfl
  generalize hS : stAt (i 2).val q k v d = S at hx e1 ⊢
  rw [spec_apply]; unfold held; rw [hS]
  simp only [cc0_while1_eq_skeleton]; unfold cc0_while1_skel
  unfold owns
  iintro ⟨⟨⟨%f0, %hf0, H0⟩, ⟨%f1, %hf1, H1⟩, ⟨%f2, %hf2, H2⟩, ⟨%f3, %hf3, H3⟩⟩, Hk⟩
  obtain rfl := harg3.eq_unread hf0; obtain rfl := harg4.eq_unread hf1; obtain rfl := harg5.eq_unread hf2; obtain rfl := harg7.eq_unread hf3
  unfold test at hx
  sl_exec (disch := first | sl_exact hx | sl_exact hc)
  refine BI.Entails.trans (Q := spec c i arg3 arg4 arg5 arg7 q k v (d + 1) K) ?_ (hcall _ _ _ _ _ _ ?h1 ?h2 ?h3 ?h4 ?h5 ?h6 _)
  case h1 => exact (BitVec.ofNat_add (d + 1) 1).symm
  case h2 => rw [e1]; rfl
  case h3 => rw [e1]; rfl
  case h4 => rw [e1]; rfl
  case h5 => rw [e1]; rfl
  case h6 => rw [e1]; rfl
  refine fin c i arg3 arg4 arg5 arg7 q k v (d + 1) _ _ _ _ K hf0 hf1 hf2 ?_
  rw [e1]
  exact read_four _ [] (step (fun r => mword (i 2).val r (d + 1)) sufM (qL arg3 harg3 q)
    (kL arg4 harg4 k i (BitVec.ofNat 32 (d + 1)) hc) (kL arg5 harg5 v i (BitVec.ofNat 32 (d + 1)) hc)
    ⟨oL arg7 harg7 (glue S.b), S.a⟩).b _ _ _ _

end Trip

theorem spec_le (E : Set ℕ) : ∀ n d, d + n = 4 * (i 2).val + 4 → ∀ K, spec c i arg3 arg4 arg5 arg7 q k v d K
    ⊢ wp frame (wpE (defs₀ (F := Ideal)) Variants.nat (c : Thread nD τ) (some n)) E
        (defs₀ (F := Ideal) .tc 1 ⟨i, arg3, harg3, arg4, harg4, arg5, harg5, sufM, arg7, harg7, BitVec.ofNat 32 (d + 1),
          live (stAt (i 2).val q k v d).a, (stAt (i 2).val q k v d).a 0, (stAt (i 2).val q k v d).a 1,
          (stAt (i 2).val q k v d).a 2, (stAt (i 2).val q k v d).a 3⟩) K := by
  intro n
  induction n with
  | zero =>
    intro d hd K
    rw [spec_apply]
    show _ ⊢ wp frame (wpE (defs₀ (F := Ideal)) Variants.nat (c : Thread nD τ) (some 0)) E
      (cc0_while1 (F := Ideal) i arg3 harg3 arg4 harg4 arg5 harg5 sufM arg7 harg7 (BitVec.ofNat 32 (d + 1)) (live (stAt (i 2).val q k v d).a) _ _ _ _) K
    simp only [cc0_while1_eq_skeleton]; unfold cc0_while1_skel
    have hx : ¬ test (live (stAt (i 2).val q k v d).a) = 1#1 := by
      have := exit_end ⟨_, lt16 i⟩ q k v
      rwa [show d = 4 * (i 2).val + 4 by omega]
    unfold test at hx
    simp only [hx, ↓reduceIte, Prog.pure_eq_ret]
    iintro ⟨H, Hk⟩
    rw [wp_ret]; imodintro
    rw [show d = 4 * (i 2).val + 4 by omega]
    iapply Hk $$ H
  | succ n ih =>
    intro d hd K
    rw [spec_apply]
    show _ ⊢ wp frame (wpE (defs₀ (F := Ideal)) Variants.nat (c : Thread nD τ) (some (n + 1))) E
      (cc0_while1 (F := Ideal) i arg3 harg3 arg4 harg4 arg5 harg5 sufM arg7 harg7 (BitVec.ofNat 32 (d + 1)) (live (stAt (i 2).val q k v d).a) _ _ _ _) K
    by_cases hx : test (live (stAt (i 2).val q k v d).a) = 1#1
    · refine trip c i arg3 harg3 arg4 harg4 arg5 harg5 arg7 harg7 q k v d n (by have := lt16 i; omega) E K hx ?_
      rintro w l a0 a1 a2 a3 rfl rfl rfl rfl rfl rfl K
      rw [spec_apply]
      iintro ⟨H, Hk⟩
      iapply (wp_call_spec Variants.nat (c : Thread nD τ) (some (n + 1)) E (spec c i arg3 arg4 arg5 arg7 q k v (d + 1)) n
        (fun u hu => by cases hu; exact Nat.lt_succ_self n) (ih (d + 1) (by omega)))
      rw [spec_apply]
      isplitl [H]; · iexact H
      iintro %r H
      rw [wp_ret]; imodintro
      iapply Hk $$ H
    · rw [exit_b ⟨_, lt16 i⟩ q k v d (n + 1) hd hx]
      simp only [cc0_while1_eq_skeleton]; unfold cc0_while1_skel
      unfold test at hx
      simp only [hx, ↓reduceIte, Prog.pure_eq_ret]
      iintro ⟨H, Hk⟩
      rw [wp_ret]; imodintro
      iapply Hk $$ H

end Cert.Proof.Attn
-- ==== Proof.Attn.Body.lean ====
module

public import proofs.«01_k».proof.Proof.Attn.While
public import Idealize.ShloMosaic.Lib.Pipeline.RowLoads

/-!
The kernel's body at one grid point: whatever the output block and the scratch tile held, it leaves
the output block at the state after all windows.
-/

@[expose] public section

set_option maxRecDepth 16384

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (c : Dev nD) (i : grid0.Coords)
  (arg3 : Memref sig .tc .vmem S1x1x1024x128 .bf16) (harg3 : arg3.IsWhole)
  (arg4 : Memref sig .tc .vmem S1x1x16384x128 .bf16) (harg4 : arg4.IsWhole)
  (arg5 : Memref sig .tc .vmem S1x1x16384x128 .bf16) (harg5 : arg5.IsWhole)
  (arg6 : Memref sig .tc .vmem S1x1x1024x128 .bf16) (harg6 : arg6.IsWhole)
  (arg7 : Memref sig .tc .vmem S1024x128 .f32) (harg7 : arg7.IsWhole)
  (q : Vec Ideal S1x1x1024x128 .bf16) (k : Vec Ideal S1x1x16384x128 .bf16) (v : Vec Ideal S1x1x16384x128 .bf16)

/-- The call of the loop's label from the body. -/
theorem call_at (E : Set ℕ) (v7) (w l a0 a1 a2 a3) (h7 : v7 = sufM) (hw : w = 3#32) (hl : l = live (stAt (i 2).val q k v 2).a)
    (h0 : a0 = (stAt (i 2).val q k v 2).a 0) (h1 : a1 = (stAt (i 2).val q k v 2).a 1)
    (h2 : a2 = (stAt (i 2).val q k v 2).a 2) (h3 : a3 = (stAt (i 2).val q k v 2).a 3)
    (cont : _ → Prog (TpuEff nD τ sig (Elt Ideal) (Λ₀ Ideal) .tc) PUnit) (K) :
    spec c i arg3 arg4 arg5 arg7 q k v 2 (fun r => wp frame (wpE (defs₀ (F := Ideal)) Variants.nat (c : Thread nD τ) none) E (cont r) K)
    ⊢ wp frame (wpE (defs₀ (F := Ideal)) Variants.nat (c : Thread nD τ) none) E
        (Prog.op (TpuEff.call (1 : (Λ₀ Ideal).Label) ⟨i, arg3, harg3, arg4, harg4, arg5, harg5, v7, arg7, harg7, w, l, a0, a1, a2, a3⟩) cont) K := by
  subst h7 hw hl h0 h1 h2 h3
  have hT := spec_le c i arg3 harg3 arg4 harg4 arg5 harg5 arg7 harg7 q k v E (4 * (i 2).val + 2) 2 (by omega)
  rw [spec_apply]
  iintro ⟨H, Hk⟩
  iapply (wp_call_spec Variants.nat (c : Thread nD τ) none E (spec c i arg3 arg4 arg5 arg7 q k v 2) (4 * (i 2).val + 2)
        (fun u hu => nomatch hu) hT)
  rw [spec_apply]
  isplitl [H]; · iexact H
  iintro %r H
  iapply Hk $$ H

/-- The buffers before the call, handed to the loop. -/
theorem enter (R R' : sProp 𝕄) (f0 f1 f2 f3) (K) (h0 : arg3.view.read (Elt Ideal) f0 = q) (h1 : arg4.view.read (Elt Ideal) f1 = k)
    (h2 : arg5.view.read (Elt Ideal) f2 = v) (h3 : arg7.view.read (Elt Ideal) f3 = glue (stAt (i 2).val q k v 2).b)
    (hk : ∀ r, iprop(held c arg3 arg4 arg5 arg7 q k v (glue (stAt (i 2).val q k v (4 * (i 2).val + 4)).b) ∗ R ∗ R') ⊢ K r) :
    (iprop((((((View.loc (c : Thread nD τ) arg3.view ↦[arg3.view.set]{fullShare} f0) ∗
      (View.loc (c : Thread nD τ) arg4.view ↦[arg4.view.set]{fullShare} f1)) ∗
      (View.loc (c : Thread nD τ) arg5.view ↦[arg5.view.set]{fullShare} f2)) ∗
      (View.loc (c : Thread nD τ) arg7.view ↦[arg7.view.set]{fullShare} f3)) ∗ R) ∗ R') : sProp 𝕄)
    ⊢ spec c i arg3 arg4 arg5 arg7 q k v 2 K := by
  rw [spec_apply]; unfold held owns
  iintro ⟨⟨⟨⟨⟨H0, H1⟩, H2⟩, H3⟩, HR⟩, HR'⟩
  isplitr [HR HR']
  · isplitl [H0]
    · iexists _; isplitr; · ipureintro; exact h0
      iexact H0
    isplitl [H1]
    · iexists _; isplitr; · ipureintro; exact h1
      iexact H1
    isplitl [H2]
    · iexists _; isplitr; · ipureintro; exact h2
      iexact H2
    iexists _; isplitr
    · ipureintro; exact h3
    · iexact H3
  · iintro %r H
    iapply (hk r)
    unfold held owns
    isplitl [H]; · iexact H
    isplitl [HR]; · iexact HR
    iexact HR'

/-- The windows the straight part of the body loads. -/
def kL0 : Fin 4 → Vec Ideal S1x1x256x128 .bf16 := fun r =>
  View.ld (Val := Elt Ideal) (S := S1x1x16384x128) (arg4.view.read (Elt Ideal) (harg4.unread k))
    (Rect.unit (k0_off1 i (BitVec.ofNat 32 r.val)) S1x1x256x128.size (k0_off1_inb i r))

theorem kL0_eq : kL0 i arg4 harg4 k = fun r => kvB k (win (i 2).val r 0) := by
  funext r; unfold kL0; rw [harg4.read_unread]; exact ld_kvB k _ _ _ (win_lt i r 0) (off1_eq i r)

theorem inb2 (s : ℕ) (hs : s < 70) (r : Fin 4) : ∀ a, k0_off2 i (BitVec.ofNat 32 r.val) (BitVec.ofNat 32 s) a + S1x1x256x128.size a ≤ S1x1x16384x128.size a := by
  have := (chk1 i s hs).2.1 r
  rwa [off3_eq i r s hs, ← off2_eq i r s hs] at this

def kL2 (s : ℕ) (hs : s < 70) : Fin 4 → Vec Ideal S1x1x256x128 .bf16 := fun r =>
  View.ld (Val := Elt Ideal) (S := S1x1x16384x128) (arg4.view.read (Elt Ideal) (harg4.unread k))
    (Rect.unit (k0_off2 i (BitVec.ofNat 32 r.val) (BitVec.ofNat 32 s)) S1x1x256x128.size (inb2 i s hs r))

theorem kL2_eq (s : ℕ) (hs : s < 70) : kL2 i arg4 harg4 k s hs = fun r => kvB k (win (i 2).val r s) := by
  funext r; unfold kL2; rw [harg4.read_unread]; exact ld_kvB k _ _ _ (win_lt i r s) (off2_eq i r s hs)

theorem st2_eq : stAt (i 2).val q k v 2 =
    step (fun r => mword (i 2).val r 2) sufM (qL arg3 harg3 q) (kL2 i arg4 harg4 k 2 (by decide)) (kL2 i arg5 harg5 v 2 (by decide))
      (step (fun r => mword (i 2).val r 1) sufM (qL arg3 harg3 q) (kL2 i arg4 harg4 k 1 (by decide)) (kL2 i arg5 harg5 v 1 (by decide))
        (init (qL arg3 harg3 q) (kL0 i arg4 harg4 k) (kL0 i arg5 harg5 v))) := by
  rw [qL_eq, kL2_eq, kL2_eq, kL2_eq, kL2_eq, kL0_eq, kL0_eq]; rfl

/-- The state after the first two windows, by the loads. -/
def st1 : St :=
  step (fun r => mword (i 2).val r 1) sufM (qL arg3 harg3 q) (kL2 i arg4 harg4 k 1 (by decide)) (kL2 i arg5 harg5 v 1 (by decide))
    (init (qL arg3 harg3 q) (kL0 i arg4 harg4 k) (kL0 i arg5 harg5 v))

/-- A row block read back past the three stores of the other row blocks. -/
theorem cov {arg7 : Memref sig .tc .vmem S1024x128 .f32} (o oa ob oc : ℕ) (ha : oa + 256 ≤ o ∨ o + 256 ≤ oa) (hb : ob + 256 ≤ o ∨ o + 256 ≤ ob)
    (hc : oc + 256 ≤ o ∨ o + 256 ≤ oc) (pa pb pc p : Vec Ideal S256x128 .f32) (L : List (View.Piece (Elt Ideal) S1024x128 .f32))
    (ia ib ic io) :
    arg7.view.readCov (⟨Rect.unit (s := S1024x128) ![oa, 0] S256x128.size ia, pa⟩ :: ⟨Rect.unit (s := S1024x128) ![ob, 0] S256x128.size ib, pb⟩ ::
      ⟨Rect.unit (s := S1024x128) ![oc, 0] S256x128.size ic, pc⟩ :: ⟨Rect.unit (s := S1024x128) ![o, 0] S256x128.size io, p⟩ :: L)
      (Rect.unit (s := S1024x128) ![o, 0] S256x128.size io).toLoadRect = p := by
  refine (View.readCov_cons_of_rows_disjoint (m := 1024) (n := 128) (k := 256) (k' := 256) arg7.view oa o ha pa _ ia io).trans ?_
  refine (View.readCov_cons_of_rows_disjoint (m := 1024) (n := 128) (k := 256) (k' := 256) arg7.view ob o hb pb _ ib io).trans ?_
  refine (View.readCov_cons_of_rows_disjoint (m := 1024) (n := 128) (k := 256) (k' := 256) arg7.view oc o hc pc _ ic io).trans ?_
  exact View.readCov_cons_toLoadRect _ _ _ _

/-- The output block read back from the last store. -/
theorem read_out {arg6 : Memref sig .tc .vmem S1x1x1024x128 .bf16} (f) (h) (t u : Vec Ideal S1024x128 .f32) (e : t = u) :
    View.read (Elt Ideal) arg6.view (arg6.view.writes (Elt Ideal) f
      [⟨Rect.unit (s := S1x1x1024x128) ![0, 0, 0, 0] S1x1x1024x128.size h, k0_pay4 t⟩]) = k0_pay4 u := by
  subst e
  funext y
  refine View.read_writes_cons_unit_of_mem (off' := ![0, 0, 0, 0]) _ _ h _ _ y y rfl ?_
  intro a
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm

/-- The output block after the body. -/
def outBlock : Vec Ideal S1x1x1024x128 .bf16 := k0_pay4 (glue (stAt (i 2).val q k v (4 * (i 2).val + 4)).b)

theorem body (o : Vec Ideal S1024x128 .f32) (x : Vec Ideal S1x1x1024x128 .bf16) (E : Set ℕ) (K : PUnit → sProp 𝕄) :
    iprop((held c arg3 arg4 arg5 arg7 q k v o ∗ owns (c : Thread nD τ) arg6 fullShare x)
      ∗ ((held c arg3 arg4 arg5 arg7 q k v (glue (stAt (i 2).val q k v (4 * (i 2).val + 4)).b)
        ∗ owns (c : Thread nD τ) arg6 fullShare (outBlock i q k v)) -∗ K ⟨⟩))
    ⊢ wp frame (wpE (defs₀ (F := Ideal)) Variants.nat (c : Thread nD τ) none) E
      (cc0_attention (F := Ideal) i arg3 harg3 arg4 harg4 arg5 harg5 arg6 harg6 arg7 harg7) K := by
  simp only [cc0_attention_eq_skeleton]; unfold cc0_attention_skel
  have e2 := st2_eq i arg3 harg3 arg4 harg4 arg5 harg5 q k v
  unfold held owns
  iintro ⟨⟨⟨⟨%f0, %hf0, H0⟩, ⟨%f1, %hf1, H1⟩, ⟨%f2, %hf2, H2⟩, ⟨%f3, %hf3, H3⟩⟩, ⟨%f4, %hf4, H4⟩⟩, Hk⟩
  obtain rfl := harg3.eq_unread hf0; obtain rfl := harg4.eq_unread hf1; obtain rfl := harg5.eq_unread hf2; obtain rfl := harg7.eq_unread hf3; obtain rfl := harg6.eq_unread hf4
  sl_exec
  refine BI.Entails.trans (Q := spec c i arg3 arg4 arg5 arg7 q k v 2 _) ?_
    (call_at c i arg3 harg3 arg4 harg4 arg5 harg5 arg7 harg7 q k v E _ _ _ _ _ _ _ ?h7 ?hw ?hl ?h0 ?h1 ?h2 ?h3 _ K)
  case h7 => rfl
  case hw => rfl
  case h0 => rw [e2]; rfl
  case h1 => rw [e2]; rfl
  case h2 => rw [e2]; rfl
  case h3 => rw [e2]; rfl
  case hl => rw [e2]; rfl
  refine enter c i arg3 arg4 arg5 arg7 q k v _ _ _ _ _ _ _ hf0 hf1 hf2 ?_ ?_
  · rw [e2]
    refine read_four' _ _ _ _ _ _ _ ?_ ?_ ?_ ?_ _ _ _ _
    · refine (congrArg (fun z => k0_pay1 (k0_pay118 _ _ _ _ _ z)) (cov 768 512 256 0 (by decide) (by decide) (by decide) _ _ _ _ _ _ _ _ _)).trans ?_
      refine (congrArg (a₂ := (st1 i arg3 harg3 arg4 harg4 arg5 harg5 q k v).b 3) (fun z => k0_pay1 (k0_pay118 _ _ _ _ _ z)) ?_).trans rfl
      refine (congrArg (k0_pay80 _ _ _ _ _) (cov 768 512 256 0 (by decide) (by decide) (by decide) _ _ _ _ _ _ _ _ _)).trans ?_
      rfl
    · refine (congrArg (k0_pay115 _ _ _ _ _) (cov 512 256 0 768 (by decide) (by decide) (by decide) _ _ _ _ _ _ _ _ _)).trans ?_
      refine (congrArg (a₂ := (st1 i arg3 harg3 arg4 harg4 arg5 harg5 q k v).b 2) (k0_pay115 _ _ _ _ _) ?_).trans rfl
      refine (congrArg (k0_pay77 _ _ _ _ _) (cov 512 256 0 768 (by decide) (by decide) (by decide) _ _ _ _ _ _ _ _ _)).trans ?_
      rfl
    · refine (congrArg (k0_pay112 _ _ _ _) (cov 256 0 768 512 (by decide) (by decide) (by decide) _ _ _ _ _ _ _ _ _)).trans ?_
      refine (congrArg (a₂ := (st1 i arg3 harg3 arg4 harg4 arg5 harg5 q k v).b 1) (k0_pay112 _ _ _ _) ?_).trans rfl
      refine (congrArg (k0_pay74 _ _) (cov 256 0 768 512 (by decide) (by decide) (by decide) _ _ _ _ _ _ _ _ _)).trans ?_
      rfl
    · refine (congrArg (k0_pay108 _ _ _ _ _ _) (cov 0 768 512 256 (by decide) (by decide) (by decide) _ _ _ _ _ _ _ _ _)).trans ?_
      refine (congrArg (a₂ := (st1 i arg3 harg3 arg4 harg4 arg5 harg5 q k v).b 0) (k0_pay108 _ _ _ _ _ _) ?_).trans rfl
      refine (congrArg (k0_pay70 _ _ _ _ _ _) (cov 0 768 512 256 (by decide) (by decide) (by decide) _ _ _ _ _ _ _ _ _)).trans ?_
      rfl
  · rintro ⟨w, l, a0, a1, a2, a3⟩
    unfold held owns
    iintro ⟨⟨⟨%f0, %hf0, H0⟩, ⟨%f1, %hf1, H1⟩, ⟨%f2, %hf2, H2⟩, ⟨%f3, %hf3, H3⟩⟩, H4, Hk⟩
    obtain rfl := harg7.eq_unread hf3
    sl_exec
    rw [wp_ret]; imodintro
    iapply Hk
    isplitr [H4]
    · isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      iexists _; isplitr
      · ipureintro; exact hf3
      · iexact H3
    · iexists _; isplitr
      swap
      · iexact H4
      · ipureintro
        show _ = k0_pay4 (F := Ideal) _
        refine read_out _ _ _ _ ?_
        show View.ld (View.read (Elt Ideal) arg7.view (harg7.unread (glue (stAt (i 2).val q k v (4 * (i 2).val + 4)).b))) _ = _
        rw [hf3]
        funext y
        refine View.ld_unit_apply_of _ _ _ _ _ _ ?_
        intro a
        match a with
        | ⟨0, _⟩ => exact (Nat.zero_add _).symm
        | ⟨1, _⟩ => exact (Nat.zero_add _).symm

end Cert.Proof.Attn
-- ==== Proof.Attn.Run.lean ====
module

public import proofs.«01_k».proof.Proof.Attn.Body
public import proofs.«01_k».proof.Proof.Gen.KernelIdeal.Launch
public import proofs.«01_k».proof.Proof.Gen.KernelIdeal.Points
public import Idealize.ShloMosaic.Lib.Pipeline.FrameBody
public import Idealize.ShloMosaic.Lib.Tactic

/-!
The whole attention program: every run ends, its arguments end unchanged, its counters at zero, and
the array of the result holds, block by block, the state after all windows.
-/

@[expose] public section

set_option maxRecDepth 16384

noncomputable section

namespace Cert.Proof.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- A core's buffers when the grid starts: after the host operations. -/
abbrev V (c : Dev nD) (b : Ref sig .tc) : Buf (Elt Ideal) ((c : Thread nD τ).loc b) := StableHlo.after hostOps0 (fun b => m (c, b)) b

theorem fresh : (hostOps0 : List (HloOp τ sig (Elt Ideal))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := Ideal)) (V m) :=
  Pipeline.hmain_prefix cfgs 0 defs₀ 𝒱₀ m main hostOps0 hostOps0_sub fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- A window's block at a point. -/
def blk (c : Dev nD) (w : Fin (cfg0 (F := Ideal)).W) (t : Fin (cfg0 (F := Ideal)).N) := (((cfg0 (F := Ideal)).win w).blk t).view.read (Elt Ideal) (V m c (Pipeline.arrRef spec0 w))

/-- What each window's block holds after the body at a point. -/
def dats (_ : Fin 1) (c : Dev nD) : Dat τ (Elt Ideal) Unit ℕ (UR sig nD τ) ℕ (cfg0 (F := Ideal)) c where
  A w := V m c (Pipeline.arrRef spec0 w)
  after w t := match w with
    | ⟨0, _⟩ => blk m c 0 t
    | ⟨1, _⟩ => blk m c 1 t
    | ⟨2, _⟩ => blk m c 2 t
    | ⟨3, _⟩ => outBlock (grid0.coords t) (blk m c 0 t) (blk m c 1 t) (blk m c 2 t)
  Φ _ := Pipeline.ΦA spec0 c
  q w := Pipeline.shareOf spec0 w
  owed _ := 0

theorem A_eq (c : Dev nD) (w : Fin (cfg0 (F := Ideal)).W) : (dats m 0 c).A w = V m c (Pipeline.arrRef spec0 w) := by dsimp only [dats]

theorem before_0 (c : Dev nD) (t : Fin (cfg0 (F := Ideal)).N) (d) : (dats m 0 c).before 0 t d = blk m c 0 t :=
  ((dats m 0 c).before_in_eq_fetched 0 rfl (fun _ => rfl) (fun _ _ _ => rfl) (fun t => by unfold Dat.blockOf; rw [A_eq]; rfl) t d).trans
    (by unfold Dat.fetched Dat.blockOf blk; rw [A_eq]; try rfl)
theorem before_1 (c : Dev nD) (t : Fin (cfg0 (F := Ideal)).N) (d) : (dats m 0 c).before 1 t d = blk m c 1 t :=
  ((dats m 0 c).before_in_eq_fetched 1 rfl (fun _ => rfl) (fun _ _ _ => rfl) (fun t => by unfold Dat.blockOf; rw [A_eq]; rfl) t d).trans
    (by unfold Dat.fetched Dat.blockOf blk; rw [A_eq]; try rfl)
theorem before_2 (c : Dev nD) (t : Fin (cfg0 (F := Ideal)).N) (d) : (dats m 0 c).before 2 t d = blk m c 2 t :=
  ((dats m 0 c).before_in_eq_fetched 2 rfl (fun _ => rfl) (fun _ _ _ => rfl) (fun t => by unfold Dat.blockOf; rw [A_eq]; rfl) t d).trans
    (by unfold Dat.fetched Dat.blockOf blk; rw [A_eq]; try rfl)

/-- The scratch tile. -/
abbrev scM : Memref sig .tc .vmem S1024x128 .f32 := Memref.whole cc0_scratch0

theorem PhiA_eq (c : Dev nD) : (Pipeline.ΦA spec0 c : sProp 𝕄) =
    iprop(iprop((∃ d, owns (c : Thread nD τ) scM fullShare d)) ∗ (∃ r, prngReg c r)) := by
  unfold Pipeline.ΦA; rw [scopedRest0_eq]; simp only [scM, owns_whole]; try rfl

abbrev ms0 (t : Fin (cfg0 (F := Ideal)).N) : Memref sig .tc .vmem S1x1x1024x128 .bf16 := win0_0.stage ((cfg0 (F := Ideal)).slots t 0)
abbrev ms1 (t : Fin (cfg0 (F := Ideal)).N) : Memref sig .tc .vmem S1x1x16384x128 .bf16 := win0_1.stage ((cfg0 (F := Ideal)).slots t 1)
abbrev ms2 (t : Fin (cfg0 (F := Ideal)).N) : Memref sig .tc .vmem S1x1x16384x128 .bf16 := win0_2.stage ((cfg0 (F := Ideal)).slots t 2)
abbrev ms3 (t : Fin (cfg0 (F := Ideal)).N) : Memref sig .tc .vmem S1x1x1024x128 .bf16 := win0_3.stage ((cfg0 (F := Ideal)).slots t 3)

/-- What the body is called with at a point, -/
def bodyPre (c : Dev nD) (t : Fin (cfg0 (F := Ideal)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin (cfg0 (F := Ideal)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin (cfg0 (F := Ideal)).N) : (dats m 0 c).leavesExact 0 t = owns (c : Thread nD τ) (ms0 t) fullShare (blk m c 0 t) := by
  unfold Dat.leavesExact; rw [show (cfg0 (F := Ideal)).idle 0 (grid0.coords t) = false from rfl]; rfl
theorem leaves_1 (c : Dev nD) (t : Fin (cfg0 (F := Ideal)).N) : (dats m 0 c).leavesExact 1 t = owns (c : Thread nD τ) (ms1 t) fullShare (blk m c 1 t) := by
  unfold Dat.leavesExact; rw [show (cfg0 (F := Ideal)).idle 1 (grid0.coords t) = false from rfl]; rfl
theorem leaves_2 (c : Dev nD) (t : Fin (cfg0 (F := Ideal)).N) : (dats m 0 c).leavesExact 2 t = owns (c : Thread nD τ) (ms2 t) fullShare (blk m c 2 t) := by
  unfold Dat.leavesExact; rw [show (cfg0 (F := Ideal)).idle 2 (grid0.coords t) = false from rfl]; rfl
theorem leaves_3 (c : Dev nD) (t : Fin (cfg0 (F := Ideal)).N) : (dats m 0 c).leavesExact 3 t = owns (c : Thread nD τ) (ms3 t) fullShare
    (outBlock (grid0.coords t) (blk m c 0 t) (blk m c 1 t) (blk m c 2 t)) := by
  unfold Dat.leavesExact; rw [show (cfg0 (F := Ideal)).idle 3 (grid0.coords t) = false from rfl]; rfl

theorem sound_body (c : Dev nD) (t : Fin (cfg0 (F := Ideal)).N) :
    bodyPre m c t ⊢ wp frame (wpE (defs₀ (F := Ideal)) Variants.nat c none) Set.univ (bodyAt0 t) (fun _ => bodyPost m c t) := by
  unfold bodyPre bodyPost bodyAt0
  simp only [before_0, before_1, before_2]
  rw [show (dats m 0 c).owesAt () t.succ = (dats m 0 c).owesAt () t.castSucc from rfl, leaves_0, leaves_1, leaves_2, leaves_3,
    show (dats m 0 c).Φ t.succ = Pipeline.ΦA spec0 c from rfl, show (dats m 0 c).Φ t.castSucc = Pipeline.ΦA spec0 c from rfl, PhiA_eq]
  iintro ⟨⟨⟨%o, HS⟩, Hg⟩, Ho, ⟨%d0, H0⟩, ⟨%d1, H1⟩, ⟨%d2, H2⟩, ⟨%d3, H3⟩⟩
  iapply (body c (grid0.coords t) (ms0 t) (hstage0_0 (((cfg0 (F := Ideal)).slots t 0).cast nbuf0_0)) (ms1 t) (hstage0_1 (((cfg0 (F := Ideal)).slots t 1).cast nbuf0_1))
    (ms2 t) (hstage0_2 (((cfg0 (F := Ideal)).slots t 2).cast nbuf0_2)) (ms3 t) (hstage0_3 (((cfg0 (F := Ideal)).slots t 3).cast nbuf0_3))
    (Memref.whole cc0_scratch0) (Memref.isWhole_whole _) (blk m c 0 t) (blk m c 1 t) (blk m c 2 t) o ((dats m 0 c).before 3 t d3) Set.univ _)
  isplitl [H0 H1 H2 H3 HS]
  · unfold held
    isplitl [H0 H1 H2 HS]
    · isplitl [H0]; · iexact H0
      isplitl [H1]; · iexact H1
      isplitl [H2]; · iexact H2
      iexact HS
    · iexact H3
  unfold held
  iintro ⟨⟨H0, H1, H2, HS⟩, H3⟩
  isplitl [HS Hg]
  · isplitl [HS]
    · iexists _; iexact HS
    iexact Hg
  isplitl [Ho]; · iexact Ho
  isplitl [H0]; · iexact H0
  isplitl [H1]; · iexact H1
  isplitl [H2]; · iexact H2
  iexact H3

theorem defs₀_row (t : Fin (cfg0 (F := Ideal)).N) :
    defs₀ (F := Ideal) .tc (cfg0 (F := Ideal)).body ((cfg0 (F := Ideal)).bodyArgs t ((cfg0 (F := Ideal)).slots t)) = bodyAt0 t := by
  unfold defs₀; rw [Defs.onTc_tc]

theorem body_obligation (c : Dev nD) : BodyObligation (dats m 0 c) (defs₀ (F := Ideal)) Variants.nat () Set.univ := fun t => by
  rw [bigSep_W0, bigSep_W0, defs₀_row]
  exact triple_restated (sound_body m c t) rfl .rfl fun _ => .rfl

set_option backward.isDefEq.respectTransparency.types false in
/-- Every run ends with the arrays at what the blocks say and the counters at zero. -/
theorem run_quiescent : θ_run defs (onTc (τ := τ) (main (F := Ideal))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.nat m ρ main
    (hbody := fun c => (body_obligation m c).loose) (hq := fun _ _ _ => rfl)
    (howed := fun _ _ => rfl) (V := V m) (hmain := hmain m Variants.nat) (hA := A_eq m)
    (hin := fun c => Idealize.SL.BI.Entails.refl _) (hout := fun c => Idealize.SL.BI.Entails.refl _)

theorem rest_arg0 (c : Dev nD) (r) (h : Pipeline.FramePost cfgs (dats m) 0 (V m) r) :
    r.2.mem ((c : Thread nD τ).loc main_arg0) = m ((c : Thread nD τ).loc main_arg0) :=
  ((h c).2 main_arg0 (Pipeline.mem_restRefs_of main_arg0 (by decide) (by decide))).trans (V_arg0 m c)

theorem rest_arg1 (c : Dev nD) (r) (h : Pipeline.FramePost cfgs (dats m) 0 (V m) r) :
    r.2.mem ((c : Thread nD τ).loc main_arg1) = m ((c : Thread nD τ).loc main_arg1) :=
  ((h c).2 main_arg1 (Pipeline.mem_restRefs_of main_arg1 (by decide) (by decide))).trans (V_arg1 m c)

theorem rest_arg2 (c : Dev nD) (r) (h : Pipeline.FramePost cfgs (dats m) 0 (V m) r) :
    r.2.mem ((c : Thread nD τ).loc main_arg2) = m ((c : Thread nD τ).loc main_arg2) :=
  ((h c).2 main_arg2 (Pipeline.mem_restRefs_of main_arg2 (by decide) (by decide))).trans (V_arg2 m c)

/-- The frame of the attention program. -/
theorem frame_attn : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨rest_arg0 m c r h.1, rest_arg1 m c r h.1, rest_arg2 m c r h.1⟩, h.2⟩) (run_quiescent m ρ)

end Cert.Proof.Attn
-- ==== Proof.Attn.Inputs.lean ====
module
public import proofs.«01_k».proof.Proof.Attn.Run
public import Idealize.ShloMosaic.Lib.Claim

/-!
The blocks a grid point of the attention kernel reads, as entries of the program's arguments.
-/

@[expose] public section
set_option maxRecDepth 16384
noncomputable section
open Idealize.ShloMosaic Idealize.ShloMosaic.TcCoe Idealize.SL.Sem
namespace Cert.Proof.Attn
open Cert.KernelIdeal Cert.KernelIdeal.Gen
variable (m : (ℓ : Loc nD τ sig) → Buf (Elt Ideal) ℓ)

theorem idx : ∀ t : Fin (cfg0 (F := Ideal)).N, win0_0.index t = ![t.val / 128, t.val / 16 % 8, t.val % 16, 0] ∧ win0_1.index t = ![t.val / 128, 8 + t.val / 16 % 8, 0, 0]
    ∧ win0_2.index t = ![t.val / 128, 16 + t.val / 16 % 8, 0, 0] ∧ win0_3.index t = ![t.val / 128, t.val / 16 % 8, t.val % 16, 0]
    ∧ (grid0.coords t 2).val = t.val % 16 ∧ t.val < 256 :=
  (by decide +kernel : ∀ t : Fin grid0.N, _)

abbrev A0 (c : Dev nD) : FVec Ideal S2x16384x1024 .f32 := m ((c.tc : Thread nD τ).loc main_arg0)
abbrev A1 (c : Dev nD) : FVec Ideal S2x16384x1024 .f32 := m ((c.tc : Thread nD τ).loc main_arg1)
abbrev A2 (c : Dev nD) : FVec Ideal S2x16384x1024 .f32 := m ((c.tc : Thread nD τ).loc main_arg2)

/-- The divisor of the queries. -/
def SC : EReal := Ideal.sqrt (Ideal.ofBits FTy.f32 0x43000000#32) * Ideal.log (Ideal.ofBits FTy.f32 0x40000000#32)

/-- The queries, each divided, the keys and the values, by heads, in one array. -/
def QKV (a0 a1 a2 : FVec Ideal S2x16384x1024 .f32) : FVec Ideal S2x24x16384x128 .bf16 :=
  truncf .bf16 (concatenate S2x24x16384x128 1
    [⟨S2x8x16384x128, transpose S2x8x16384x128 [0, 2, 1, 3] (shapeCast S2x16384x8x128 (Host.divf a0 (broadcastInDim S2x16384x1024 ![] bcast_S_S2x16384x1024
        (mulf (Host.sqrt (constant (F := Ideal) S_ .f32 0x43000000#32)) (Host.log (constant (F := Ideal) S_ .f32 0x40000000#32)))))
        shapeCasts_S2x16384x1024_S2x16384x8x128) transposes_S2x16384x8x128_S2x8x16384x128_0_2_1_3⟩,
     ⟨S2x8x16384x128, transpose S2x8x16384x128 [0, 2, 1, 3] (shapeCast S2x16384x8x128 a1 shapeCasts_S2x16384x1024_S2x16384x8x128) transposes_S2x16384x8x128_S2x8x16384x128_0_2_1_3⟩,
     ⟨S2x8x16384x128, transpose S2x8x16384x128 [0, 2, 1, 3] (shapeCast S2x16384x8x128 a2 shapeCasts_S2x16384x1024_S2x16384x8x128) transposes_S2x16384x8x128_S2x8x16384x128_0_2_1_3⟩]
    concatenates_S2x8x16384x128_S2x8x16384x128_S2x8x16384x128_S2x24x16384x128_d1) bitsLt_bf16_f32

theorem V_qkv (c : Dev nD) : (V m c main_v12 : FVec Ideal S2x24x16384x128 .bf16) = QKV (A0 m c) (A1 m c) (A2 m c) := by
  unfold V hostOps0
  after_results_simp
  rfl

theorem qkv0 (a0 a1 a2) (b : Fin 2) (h : Fin 8) (j : Fin 24) (s : Fin 16384) (e : Fin 128) (d : Fin 1024) (hj : j.val = h.val) (hd : d.val = 128 * h.val + e.val) :
    QKV a0 a1 a2 (ix4 b j s e) = Ideal.div (a0 (ix3 b s d)) SC := by
  have := h.isLt
  unfold SC
  pointwise [QKV]
  rw [dif_pos (by omega)]
  reads_congr
  blk_ext
theorem qkv1 (a0 a1 a2) (b : Fin 2) (h : Fin 8) (j : Fin 24) (s : Fin 16384) (e : Fin 128) (d : Fin 1024) (hj : j.val = 8 + h.val) (hd : d.val = 128 * h.val + e.val) :
    QKV a0 a1 a2 (ix4 b j s e) = a1 (ix3 b s d) := by
  have := h.isLt
  pointwise [QKV]
  rw [dif_neg (by omega), dif_pos (by omega)]
  reads_congr
  blk_ext
theorem qkv2 (a0 a1 a2) (b : Fin 2) (h : Fin 8) (j : Fin 24) (s : Fin 16384) (e : Fin 128) (d : Fin 1024) (hj : j.val = 16 + h.val) (hd : d.val = 128 * h.val + e.val) :
    QKV a0 a1 a2 (ix4 b j s e) = a2 (ix3 b s d) := by
  have := h.isLt
  pointwise [QKV]
  rw [dif_neg (by omega), dif_neg (by omega)]
  reads_congr
  blk_ext

theorem i0 (c : Dev nD) (t : Fin (cfg0 (F := Ideal)).N) (b : Fin 2) (h : Fin 8) (s : Fin 16384) (r : Fin 1024) (e : Fin 128) (d : Fin 1024)
    (hb : b.val = t.val / 128) (hh : h.val = t.val / 16 % 8) (hs : s.val = 1024 * (t.val % 16) + r.val) (hd : d.val = 128 * h.val + e.val) :
    (show FVec Ideal S1x1x1024x128 .bf16 from blk m c 0 t) (ix4 0 0 r e) = Ideal.div (A0 m c (ix3 b s d)) SC := by
  rw [← qkv0 (A0 m c) (A1 m c) (A2 m c) b h ⟨h.val, by omega⟩ s e d rfl hd, ← V_qkv]
  unfold blk
  generalize V m c = X
  blk_ext [idx t]

theorem i1 (c : Dev nD) (t : Fin (cfg0 (F := Ideal)).N) (b : Fin 2) (h : Fin 8) (s : Fin 16384) (e : Fin 128) (d : Fin 1024)
    (hb : b.val = t.val / 128) (hh : h.val = t.val / 16 % 8) (hd : d.val = 128 * h.val + e.val) :
    (show FVec Ideal S1x1x16384x128 .bf16 from blk m c 1 t) (ix4 0 0 s e) = A1 m c (ix3 b s d) := by
  rw [← qkv1 (A0 m c) (A1 m c) (A2 m c) b h ⟨8 + h.val, by omega⟩ s e d rfl hd, ← V_qkv]
  unfold blk
  generalize V m c = X
  blk_ext [idx t]

theorem i2 (c : Dev nD) (t : Fin (cfg0 (F := Ideal)).N) (b : Fin 2) (h : Fin 8) (s : Fin 16384) (e : Fin 128) (d : Fin 1024)
    (hb : b.val = t.val / 128) (hh : h.val = t.val / 16 % 8) (hd : d.val = 128 * h.val + e.val) :
    (show FVec Ideal S1x1x16384x128 .bf16 from blk m c 2 t) (ix4 0 0 s e) = A2 m c (ix3 b s d) := by
  rw [← qkv2 (A0 m c) (A1 m c) (A2 m c) b h ⟨16 + h.val, by omega⟩ s e d rfl hd, ← V_qkv]
  unfold blk
  generalize V m c = X
  blk_ext [idx t]
end Cert.Proof.Attn
-- ==== Proof.Attn.Gold.lean ====
module
public import Idealize.ShloMosaic.Lib.Pipeline.ValueKit
public import Idealize.ShloMosaic.Lib.Pointwise

/-!
The mathematics of one row of stick-breaking attention over the extended reals, its windows taken from the last
to the first.
-/

@[expose] public section
noncomputable section
namespace Cert.Proof.Attn
open Finset

/-- `log (1 + exp z)`. -/
def L (z : ℝ) : ℝ := Real.log (1 + Real.exp z)

theorem L_eq (z : ℝ) : max z 0 + Real.log (1 + Real.exp (-|z|)) = L z := by
  unfold L
  rcases le_total 0 z with h | h
  · rw [max_eq_left h, abs_of_nonneg h]
    have : 1 + Real.exp z = Real.exp z * (1 + Real.exp (-z)) := by
      rw [mul_add, mul_one, ← Real.exp_add, add_neg_cancel, Real.exp_zero]; ring
    rw [this, Real.log_mul (Real.exp_pos _).ne' (by positivity), Real.log_exp]
  · rw [max_eq_right h, abs_of_nonpos h, neg_neg, zero_add]

theorem L_neg (z : ℝ) : L (-z) = L z - z := by
  have h := L_eq (-z)
  have h2 := L_eq z
  rw [abs_neg] at h
  rw [← h, ← h2]
  rcases le_total 0 z with h | h
  · rw [max_eq_left h, max_eq_right (by linarith)]; ring
  · rw [max_eq_right h, max_eq_left (by linarith)]; ring

open Idealize.ShloMosaic in
/-- The softplus of an extended real. -/
def lk (z : EReal) : EReal := max z 0 + Ideal.log (1 + Ideal.exp (-max z (-z)))

section
open Idealize.ShloMosaic

theorem exp_bot : Ideal.exp ⊥ = 0 := rfl

theorem log_one : Ideal.log (1 + 0) = 0 := by
  rw [add_zero, ← EReal.coe_one, Ideal.log_coe, if_neg (by norm_num), Real.log_one, EReal.coe_zero]

theorem lk_bot : lk ⊥ = 0 := by
  unfold lk
  rw [EReal.neg_bot, max_eq_right bot_le, max_eq_right bot_le, EReal.neg_top, exp_bot, log_one, add_zero]

theorem lk_top : lk ⊤ = ⊤ := by
  unfold lk
  rw [EReal.neg_top, max_eq_left le_top, max_eq_left bot_le, EReal.neg_top, exp_bot, log_one, add_zero]

theorem coe_max (a b : ℝ) : max (a : EReal) (b : EReal) = ((max a b : ℝ) : EReal) := by
  rcases le_total a b with h | h
  · rw [max_eq_right h, max_eq_right (by exact_mod_cast h)]
  · rw [max_eq_left h, max_eq_left (by exact_mod_cast h)]

theorem lk_coe (z : ℝ) : lk (z : EReal) = ((L z : ℝ) : EReal) := by
  unfold lk
  rw [← EReal.coe_neg, coe_max, show max z (-z) = |z| from rfl, ← EReal.coe_neg, Ideal.exp_coe, ← EReal.coe_one, ← EReal.coe_add, Ideal.log_coe,
    if_neg (by have := Real.exp_pos (-|z|); linarith), ← EReal.coe_zero, coe_max, ← EReal.coe_add, L_eq]

theorem L_nonneg (z : ℝ) : 0 ≤ L z := Real.log_nonneg (by have := Real.exp_pos z; linarith)

theorem lk_nonneg (z : EReal) : 0 ≤ lk z := by
  induction z with
  | bot => rw [lk_bot]
  | top => rw [lk_top]; exact le_top
  | coe z => rw [lk_coe]; exact_mod_cast L_nonneg z

/-- The share of the stick that a key takes. -/
def sg (z : EReal) : ℝ := (Ideal.exp (z - lk z)).toReal
/-- The share that it leaves. -/
def rh (z : EReal) : ℝ := (Ideal.exp (-lk z)).toReal

theorem exp_neg_lk (z : EReal) : Ideal.exp (-lk z) = ((rh z : ℝ) : EReal) := by
  unfold rh
  induction z with
  | bot => rw [lk_bot, neg_zero, ← EReal.coe_zero, Ideal.exp_coe]; rfl
  | top => rw [lk_top, EReal.neg_top, exp_bot]; rfl
  | coe z => rw [lk_coe, ← EReal.coe_neg, Ideal.exp_coe]; rfl

theorem sub_lk_ne_top (z : EReal) : z - lk z ≠ ⊤ := by
  induction z with
  | bot => rw [lk_bot]; decide
  | top => rw [lk_top]; decide
  | coe z => rw [lk_coe, ← EReal.coe_sub]; exact EReal.coe_ne_top _

theorem exp_real (x : EReal) (h : x ≠ ⊤) : Ideal.exp x = (((Ideal.exp x).toReal : ℝ) : EReal) ∧ 0 ≤ (Ideal.exp x).toReal := by
  induction x with
  | bot => rw [exp_bot]; exact ⟨rfl, le_rfl⟩
  | top => exact absurd rfl h
  | coe z => rw [Ideal.exp_coe]; exact ⟨rfl, (Real.exp_pos z).le⟩

theorem neg_ne_top {x : EReal} (h : 0 ≤ x) : -x ≠ ⊤ := fun e => by
  rw [EReal.neg_eq_top_iff] at e
  subst e
  exact absurd h (by decide)

theorem rh_nonneg (z : EReal) : 0 ≤ rh z := (exp_real _ (neg_ne_top (lk_nonneg z))).2

theorem exp_sub_lk (z : EReal) : Ideal.exp (z - lk z) = ((sg z : ℝ) : EReal) := (exp_real _ (sub_lk_ne_top z)).1

theorem exp_add (x y : EReal) (hx : x ≠ ⊤) (hy : y ≠ ⊤) : Ideal.exp (x + y) = Ideal.exp x * Ideal.exp y := by
  induction x with
  | bot => rw [EReal.bot_add, exp_bot, zero_mul]
  | top => exact absurd rfl hx
  | coe x =>
    induction y with
    | bot => rw [EReal.add_bot, exp_bot, mul_zero]
    | top => exact absurd rfl hy
    | coe y => rw [← EReal.coe_add, Ideal.exp_coe, Ideal.exp_coe, Ideal.exp_coe, Real.exp_add, EReal.coe_mul]

theorem neg_add_of_nonneg {x y : EReal} (hx : 0 ≤ x) (hy : 0 ≤ y) : -(x + y) = -x + -y := by
  rw [EReal.neg_add (Or.inl fun e => by subst e; exact absurd hx (by decide)) (Or.inr fun e => by subst e; exact absurd hy (by decide))]
  rfl

theorem sum_neg {ι : Type*} (S : Finset ι) (f : ι → EReal) (h : ∀ i, 0 ≤ f i) : ∑ i ∈ S, -f i = -∑ i ∈ S, f i := by
  classical
  induction S using Finset.induction_on with
  | empty => simp
  | insert a S ha ih => rw [sum_insert ha, sum_insert ha, ih, neg_add_of_nonneg (h a) (sum_nonneg fun i _ => h i)]

theorem exp_neg_sum {ι : Type*} (S : Finset ι) (f : ι → EReal) : Ideal.exp (-∑ i ∈ S, lk (f i)) = ((∏ i ∈ S, rh (f i) : ℝ) : EReal) := by
  classical
  induction S using Finset.induction_on with
  | empty => rw [sum_empty, prod_empty, neg_zero, ← EReal.coe_zero, Ideal.exp_coe, Real.exp_zero]
  | insert a S ha ih =>
    have h0 : 0 ≤ ∑ i ∈ S, lk (f i) := sum_nonneg fun i _ => lk_nonneg _
    rw [sum_insert ha, prod_insert ha, neg_add_of_nonneg (lk_nonneg _) h0, exp_add _ _ (neg_ne_top (lk_nonneg _)) (neg_ne_top h0), ih, exp_neg_lk, EReal.coe_mul]

/-- The weight of position `s` in row `T`. -/
def w (Z : ℕ → EReal) (T s : ℕ) : ℝ := sg (Z s) * ∏ j ∈ Ico (s + 1) T, rh (Z j)

theorem exp_w (Z : ℕ → EReal) (T s : ℕ) : Ideal.exp (Z s - lk (Z s) - ∑ j ∈ Ico (s + 1) T, lk (Z j)) = ((w Z T s : ℝ) : EReal) := by
  rw [sub_eq_add_neg (Z s - lk (Z s)), exp_add _ _ (sub_lk_ne_top _) (neg_ne_top (sum_nonneg fun i _ => lk_nonneg _)), exp_sub_lk, exp_neg_sum, ← EReal.coe_mul]
  rfl

/-- The row's sum from position `B` on. -/
def O (Z : ℕ → EReal) (v : ℕ → EReal) (T B : ℕ) : EReal := ∑ s ∈ Ico B T, (w Z T s : EReal) * v s

theorem sum_mul_real {ι : Type*} (S : Finset ι) (f : ι → EReal) (c : ℝ) (hc : 0 ≤ c) :
    (∑ i ∈ S, f i) * (c : EReal) = ∑ i ∈ S, f i * (c : EReal) := by
  classical
  induction S using Finset.induction_on with
  | empty => simp
  | insert a S ha ih =>
    rw [sum_insert ha, sum_insert ha, ← ih]
    rw [mul_comm, EReal.left_distrib_of_nonneg_of_ne_top (by exact_mod_cast hc) (EReal.coe_ne_top c), mul_comm, mul_comm (c : EReal)]

/-- The sum over the later positions of a window. -/
theorem sum_later {M : Type*} [AddCommMonoid M] (l : ℕ → M) (B n : ℕ) (y : Fin n) :
    (∑ j : Fin n, if y < j then l (B + j) else 0) = ∑ j ∈ Ico (B + y + 1) (B + n), l j := by
  have e1 : Ico (B + y.val + 1) (B + n) = (Ico (B + 0) (B + n)).filter (fun j => B + y.val < j) := by
    ext j; simp only [mem_Ico, mem_filter]; omega
  rw [e1, sum_filter, sum_Ico_eq_sum_range, show B + n - (B + 0) = n by omega, sum_range (fun i => if B + y.val < B + 0 + i then l (B + 0 + i) else 0)]
  refine sum_congr rfl fun j _ => ?_
  simp only [add_zero, Fin.lt_def, add_lt_add_iff_left]

/-- The sum over the later positions of a window that come before the row. -/
theorem sum_between {M : Type*} [AddCommMonoid M] (l : ℕ → M) (B n : ℕ) (x y : Fin n) :
    (∑ j : Fin n, if y < j then (if j < x then l (B + j) else 0) else 0) = ∑ j ∈ Ico (B + y + 1) (B + x), l j := by
  have hx := x.isLt
  have e1 : Ico (B + y.val + 1) (B + x) = (Ico B (B + n)).filter (fun j => B + y.val < j ∧ j < B + x) := by
    ext j; simp only [mem_Ico, mem_filter]; omega
  rw [e1, sum_filter, sum_Ico_eq_sum_range, show B + n - B = n by omega, sum_range (fun i => if B + y.val < B + i ∧ B + i < B + x then l (B + i) else 0)]
  refine sum_congr rfl fun j _ => ?_
  simp only [Fin.lt_def, add_lt_add_iff_left, ite_and]

/-- One window more, in a row that already has its later windows. -/
theorem O_step (Z : ℕ → EReal) (v : ℕ → EReal) (T B n : ℕ) (h : B + n ≤ T) :
    O Z v T (B + n) + (∑ y : Fin n, Ideal.exp (Z (B + y) - lk (Z (B + y)) - ∑ j : Fin n, if y < j then lk (Z (B + j)) else 0) * v (B + y))
        * Ideal.exp (-∑ j ∈ Ico (B + n) T, lk (Z j))
      = O Z v T B := by
  have e : O Z v T B = (∑ s ∈ Ico B (B + n), (w Z T s : EReal) * v s) + O Z v T (B + n) :=
    (sum_Ico_consecutive (fun s => (w Z T s : EReal) * v s) (by omega) h).symm
  rw [e, add_comm, exp_neg_sum, sum_mul_real _ _ _ (prod_nonneg fun i _ => rh_nonneg _)]
  congr 1
  rw [sum_Ico_eq_sum_range (fun s => (w Z T s : EReal) * v s), show B + n - B = n by omega, sum_range (fun i => (w Z T (B + i) : EReal) * v (B + i))]
  refine sum_congr rfl fun y _ => ?_
  have hy := y.isLt
  rw [sum_later (fun j => lk (Z j)), exp_w, mul_right_comm, ← EReal.coe_mul]
  congr 2
  unfold w
  rw [mul_assoc, prod_Ico_consecutive (fun j => rh (Z j)) (by omega) h]

/-- The window that holds the row itself. -/
theorem O_init (Z : ℕ → EReal) (v : ℕ → EReal) (B n : ℕ) (x : Fin n) :
    (∑ y : Fin n, (if y < x then Ideal.exp (Z (B + y) - lk (Z (B + y)) - ∑ j : Fin n, if y < j then (if j < x then lk (Z (B + j)) else 0) else 0) else 0) * v (B + y))
      = O Z v (B + x) B := by
  unfold O
  have hx := x.isLt
  have e1 : Ico B (B + x.val) = (Ico B (B + n)).filter (fun j => j < B + x.val) := by
    ext j; simp only [mem_Ico, mem_filter]; omega
  rw [e1, sum_filter, sum_Ico_eq_sum_range, show B + n - B = n by omega, sum_range (fun i => if B + i < B + x.val then (w Z (B + x) (B + i) : EReal) * v (B + i) else 0)]
  refine sum_congr rfl fun y _ => ?_
  rw [sum_between (fun j => lk (Z j)), exp_w]
  simp only [Fin.lt_def, add_lt_add_iff_left]
  split_ifs with hyx
  · rfl
  · rw [zero_mul]
end

/-- The whole row, all positions under the mask. -/
theorem O_full (Z : ℕ → EReal) (v : ℕ → EReal) (n : ℕ) (T : Fin n) :
    (∑ s : Fin n, (if s < T then (w Z T s : EReal) else 0) * v s) = O Z v T 0 := by
  unfold O
  have hx := T.isLt
  have e1 : Ico 0 T.val = (Ico 0 n).filter (fun j => j < T.val) := by
    ext j; simp only [mem_Ico, mem_filter]; omega
  rw [e1, sum_filter, sum_Ico_eq_sum_range, show n - 0 = n by omega, sum_range (fun i => if 0 + i < T.val then (w Z T (0 + i) : EReal) * v (0 + i) else 0)]
  refine sum_congr rfl fun y _ => ?_
  simp only [Fin.lt_def, zero_add]
  split_ifs
  · rfl
  · rw [zero_mul]

/-- The reverse running sum less its own term, under the mask. -/
theorem rev_sum {M : Type*} [AddCommMonoid M] (l : ℕ → M) (n : ℕ) (T s : Fin n) (h : s < T) :
    (∑ k : Fin n, if s.val + k.val < n then (if s.val + k.val < T.val then l (s.val + k.val) else 0) else 0) = ∑ j ∈ Ico s.val T.val, l j := by
  have hT := T.isLt
  have e1 : Ico s.val T.val = (Ico (s.val + 0) (s.val + n)).filter (fun j => j < n ∧ j < T.val) := by
    ext j; simp only [mem_Ico, mem_filter]; omega
  rw [e1, sum_filter, sum_Ico_eq_sum_range, show s.val + n - (s.val + 0) = n by omega, sum_range (fun i => if s.val + 0 + i < n ∧ s.val + 0 + i < T.val then l (s.val + 0 + i) else 0)]
  refine sum_congr rfl fun y _ => ?_
  simp only [add_zero, ite_and]

/-- A whole window's sum put before the later ones'. -/
theorem sum_window {M : Type*} [AddCommMonoid M] (l : ℕ → M) (T B n : ℕ) (h : B + n ≤ T) :
    (∑ j ∈ Ico (B + n) T, l j) + ∑ j : Fin n, l (B + j) = ∑ j ∈ Ico B T, l j := by
  rw [← sum_Ico_consecutive l (show B ≤ B + n by omega) h, add_comm, sum_Ico_eq_sum_range l B (B + n), show B + n - B = n by omega, sum_range (fun i => l (B + i))]

/-- The sum of the window that holds the row, under the mask. -/
theorem sum_masked {M : Type*} [AddCommMonoid M] (l : ℕ → M) (B n : ℕ) (x : Fin n) :
    (∑ j : Fin n, if j < x then l (B + j) else 0) = ∑ j ∈ Ico B (B + x), l j := by
  have hx := x.isLt
  have e1 : Ico B (B + x.val) = (Ico B (B + n)).filter (fun j => j < B + x.val) := by
    ext j; simp only [mem_Ico, mem_filter]; omega
  rw [e1, sum_filter, sum_Ico_eq_sum_range, show B + n - B = n by omega, sum_range (fun i => if B + i < B + x.val then l (B + i) else 0)]
  refine sum_congr rfl fun y _ => ?_
  simp only [Fin.lt_def, add_lt_add_iff_left]
end Cert.Proof.Attn
-- ==== Proof.Attn.Step.lean ====
module
public import proofs.«01_k».proof.Proof.Attn.Dead
public import proofs.«01_k».proof.Proof.Attn.Gold
public import Idealize.ShloMosaic.Lib.Claim

/-!
What one window of keys and values adds, entry by entry.
-/

@[expose] public section
set_option maxRecDepth 16384
noncomputable section
open Idealize.ShloMosaic Idealize.ShloMosaic.TcCoe Idealize.SL.Sem
namespace Cert.Proof.Attn
open Cert.KernelIdeal Cert.KernelIdeal.Gen

theorem log2_pos : 0 < Real.log 2 := Real.log_pos (by norm_num)

/-- A number in the kernel's unit, the bit. -/
def sc (x : EReal) : EReal := x * (((Real.log 2)⁻¹ : ℝ) : EReal)

theorem inv_pos2 : 0 < (Real.log 2)⁻¹ := inv_pos.mpr log2_pos
theorem sc_coe (r : ℝ) : sc (r : EReal) = ((r / Real.log 2 : ℝ) : EReal) := by
  unfold sc; rw [← EReal.coe_mul]; rfl
theorem sc_bot : sc ⊥ = ⊥ := EReal.bot_mul_coe_of_pos inv_pos2
theorem sc_top : sc ⊤ = ⊤ := EReal.top_mul_coe_of_pos inv_pos2
theorem sc_zero : sc 0 = 0 := zero_mul _
theorem sc_neg (x : EReal) : sc (-x) = -sc x := EReal.neg_mul x _
theorem sc_add (x y : EReal) : sc (x + y) = sc x + sc y := by
  unfold sc
  rw [mul_comm, EReal.left_distrib_of_nonneg_of_ne_top (by exact_mod_cast inv_pos2.le) (EReal.coe_ne_top _), mul_comm, mul_comm _ y]
theorem sc_sub (x y : EReal) : sc (x - y) = sc x - sc y := by
  rw [sub_eq_add_neg, sc_add, sc_neg, ← sub_eq_add_neg]
theorem sc_sum {ι : Type*} (S : Finset ι) (f : ι → EReal) : sc (∑ i ∈ S, f i) = ∑ i ∈ S, sc (f i) := sum_mul_real S f _ inv_pos2.le

/-- Two to a power given in bits. -/
theorem exp2_sc (x : EReal) : FloatOps.exp2 (F := Ideal) (φ := .f32) (sc x) = Ideal.exp x := by
  show Ideal.exp2 _ = _
  induction x with
  | bot => rw [sc_bot]; rfl
  | top => rw [sc_top]; rfl
  | coe r =>
    rw [sc_coe, Ideal.exp2_coe, Ideal.exp_coe]
    congr 1
    show (2 : ℝ) ^ (r / Real.log 2) = _
    rw [Real.rpow_def_of_pos (by norm_num), mul_div_cancel₀ _ log2_pos.ne']

theorem named_log2e : Named.named (F := Ideal) κ (φ := .f32) "log2_e" 1069066811#32 = (((Real.log 2)⁻¹ : ℝ) : EReal) := by
  rfl

theorem sc_max (a b : EReal) : max (sc a) (sc b) = sc (max a b) := by
  have hm : ∀ x y : EReal, x ≤ y → sc x ≤ sc y := fun x y h => mul_le_mul_of_nonneg_right h (by exact_mod_cast inv_pos2.le)
  rcases le_total a b with h | h
  · rw [max_eq_right h, max_eq_right (hm _ _ h)]
  · rw [max_eq_left h, max_eq_left (hm _ _ h)]

theorem sp_core (Z : EReal) : max (sc Z) 0 +
      Ideal.log (1 + FloatOps.exp2 (F := Ideal) (φ := .f32) (0 - FloatOps.absf (F := Ideal) (φ := .f32) (sc Z))) * Named.named (F := Ideal) κ (φ := .f32) "log2_e" 1069066811#32 =
    sc (lk Z) := by
  unfold lk
  rw [sc_add, ← sc_max, sc_zero, zero_sub, ← exp2_sc, sc_neg, ← sc_max, sc_neg, named_log2e]
  rfl

theorem sp_at (z : FVec Ideal S256x256 .f32) (x y : Fin 256) (Z : EReal) (hz : z (ix2 x y) = sc Z) :
    spOf z (ix2 x y) = sc (lk Z) := by
  pointwise [k0_pay129, k0_pay127, k0_pay128]
  rw [hz]; exact sp_core Z
theorem sp0_at (z : FVec Ideal S256x256 .f32) (x y : Fin 256) (Z : EReal) (hz : z (ix2 x y) = sc Z) :
    k0_pay18 z (ix2 x y) = sc (lk Z) := by
  pointwise [k0_pay18]
  rw [hz]; exact sp_core Z
theorem z_at (qb kb : Vec Ideal S1x1x256x128 .bf16) (x y : Fin 256) : zOf qb kb (ix2 x y) = ∑ e : Fin 128, qb (ix4 0 0 x e) * kb (ix4 0 0 y e) := by
  pointwise [k0_pay119]
theorem z0_at (qb kb : Vec Ideal S1x1x256x128 .bf16) (x y : Fin 256) : k0_pay9 qb kb (ix2 x y) = ∑ e : Fin 128, qb (ix4 0 0 x e) * kb (ix4 0 0 y e) := by
  pointwise [k0_pay9]
theorem neg_one_eq : Ideal.ofBits FTy.f32 3212836864#32 = ((-1 : ℝ) : EReal) := by
  simp [Ideal.ofBits, Ideal.ieee, -EReal.coe_mul]; norm_num
theorem sufM_at (j y : Fin 256) : sufM (ix2 j y) = if y < j then ((-1 : ℝ) : EReal) else 0 := by
  pointwise [sufM, k0_pay8]
  have hj := j.isLt
  have hy := y.isLt
  rw [WordCmp.cmpi_sgt_ofNat (by omega) (by omega), neg_one_eq]
  by_cases h : y < j
  · rw [if_pos h, decide_eq_true (by omega)]; rfl
  · rw [if_neg h, decide_eq_false (by omega)]; rfl
theorem causal_at (j y : Fin 256) : k0_pay7 (ix2 j y) = BitVec.ofBool (decide (y < j)) := by
  pointwise [k0_pay7]
  have hj := j.isLt
  have hy := y.isLt
  rw [WordCmp.cmpi_slt_ofNat (by omega) (by omega)]
  rfl

/-- The sum over the later keys of a window. -/
theorem suf_at (sp : FVec Ideal S256x256 .f32) (x y : Fin 256) (l : Fin 256 → EReal) (h0 : ∀ j, 0 ≤ l j) (hs : ∀ j, sp (ix2 x j) = sc (l j)) :
    ∑ j : Fin 256, sp (ix2 x j) * sufM (ix2 j y) = -sc (∑ j : Fin 256, if y < j then l j else 0) := by
  rw [← sc_neg, ← sum_neg _ (fun j : Fin 256 => if y < j then l j else 0) (fun j => by split_ifs; exacts [h0 j, le_rfl]), sc_sum]
  refine Finset.sum_congr rfl fun j _ => ?_
  rw [hs, sufM_at]
  split_ifs
  · rw [sc_neg, EReal.coe_neg, EReal.coe_one, mul_neg, mul_one]
  · rw [mul_zero, neg_zero, sc_zero]

theorem step_b (m qb kb vb S) (r : Fin 4) (x : Fin 256) (e : Fin 128) (Z : Fin 256 → EReal) (v : Fin 256 → EReal) (A : EReal)
    (hm : Scalar.cmpi .sge (m r) 0#32 = 1#1)
    (hz : ∀ y, zOf (qb r) (kb r) (ix2 x y) = sc (Z y)) (hv : ∀ y, vb r (ix4 0 0 y e) = v y)
    (ha : S.a r (ix2 x 0) = sc (-A)) :
    (step m sufM qb kb vb S).b r (ix2 x e) = S.b r (ix2 x e)
      + (∑ y : Fin 256, Ideal.exp (Z y - lk (Z y) - ∑ j : Fin 256, if y < j then lk (Z j) else 0) * v y) * Ideal.exp (-A) := by
  show (k0_pay143 sufM (S.a r) (m r) (k0_pay120 (vb r)) (spOf (zOf (qb r) (kb r)))
    (k0_pay130 (zOf (qb r) (kb r)) (k0_pay127 (zOf (qb r) (kb r))) (k0_pay128 (zOf (qb r) (kb r)))) (S.b r) : FVec Ideal S256x128 .f32) (ix2 x e) = _
  unfold k0_pay143
  pointwise [k0_pay130, k0_pay142, k0_pay120]
  refine congrArg (S.b r (ix2 x e) + ·) ?_
  rw [hm, ha, ← exp2_sc (-A)]
  refine congrArg₂ (· * ·) (Finset.sum_congr rfl fun y _ => ?_) rfl
  rw [hv, suf_at _ x y (fun j => lk (Z j)) (fun j => lk_nonneg _) (fun j => sp_at _ x j (Z j) (hz j)), hz, ← exp2_sc]
  rw [show k0_pay129 (k0_pay127 (zOf (qb r) (kb r))) (k0_pay128 (zOf (qb r) (kb r))) (ix2 x y) = sc (lk (Z y)) from sp_at _ x y (Z y) (hz y),
    sc_sub, sc_sub]
  rfl
theorem step_a (m v7 qb kb vb S) (r : Fin 4) (x : Fin 256) (Z : Fin 256 → EReal) (A : EReal) (hA : 0 ≤ A)
    (hm : Scalar.cmpi .sge (m r) 0#32 = 1#1)
    (hz : ∀ y, zOf (qb r) (kb r) (ix2 x y) = sc (Z y))
    (ha : S.a r (ix2 x 0) = sc (-A)) :
    (step m v7 qb kb vb S).a r (ix2 x 0) = sc (-(A + ∑ j : Fin 256, lk (Z j))) := by
  show k0_pay144 _ _ _ (ix2 x 0) = _
  pointwise [k0_pay144, k0_pay142]
  rw [hm, ha, Finset.sum_congr rfl fun y _ => sp_at _ x y (Z y) (hz y), ← sc_sum, neg_add_of_nonneg hA (Finset.sum_nonneg fun i _ => lk_nonneg _), ← sub_eq_add_neg, sc_sub]
  rfl
theorem init_b (qb kb vb) (r : Fin 4) (x : Fin 256) (e : Fin 128) (Z : Fin 256 → EReal) (v : Fin 256 → EReal)
    (hz : ∀ y, zOf (qb r) (kb r) (ix2 x y) = sc (Z y)) (hv : ∀ y, vb r (ix4 0 0 y e) = v y) :
    (init qb kb vb).b r (ix2 x e) = ∑ y : Fin 256, (if y < x then Ideal.exp (Z y - lk (Z y) - ∑ j : Fin 256, if y < j then (if j < x then lk (Z j) else 0) else 0) else 0) * v y := by
  have hz0 : ∀ y, k0_pay9 (qb r) (kb r) (ix2 x y) = sc (Z y) := fun y => by rw [← hz, z_at, z0_at]
  show k0_pay37 _ _ _ _ _ (ix2 x e) = _
  unfold k0_pay37
  pointwise [k0_pay19, k0_pay10]
  have hm : ∀ j, k0_pay20 k0_pay7 (k0_pay9 (qb r) (kb r)) (ix2 x j) = sc (if j < x then lk (Z j) else 0) := fun j => by
    pointwise [k0_pay20]
    rw [causal_at, sp0_at _ x j (Z j) (hz0 j)]
    by_cases h : j < x
    · rw [if_pos h, decide_eq_true h]; rfl
    · rw [if_neg h, decide_eq_false h, sc_zero]; rfl
  refine Finset.sum_congr rfl fun y _ => ?_
  rw [hv, suf_at _ x y (fun j => if j < x then lk (Z j) else 0) (fun j => by split_ifs; exacts [lk_nonneg _, le_rfl]) hm, hz0, sp0_at _ x y (Z y) (hz0 y), causal_at]
  by_cases h : y < x
  · rw [if_pos h, decide_eq_true h, ← exp2_sc, sc_sub, sc_sub]
    rfl
  · rw [if_neg h, decide_eq_false h, zero_mul]; rfl
theorem init_a (qb kb vb) (r : Fin 4) (x : Fin 256) (Z : Fin 256 → EReal)
    (hz : ∀ y, zOf (qb r) (kb r) (ix2 x y) = sc (Z y)) :
    (init qb kb vb).a r (ix2 x 0) = sc (-(∑ j : Fin 256, if j < x then lk (Z j) else 0)) := by
  have hz0 : ∀ y, k0_pay9 (qb r) (kb r) (ix2 x y) = sc (Z y) := fun y => by rw [← hz, z_at, z0_at]
  show k0_pay38 _ (ix2 x 0) = _
  pointwise [k0_pay38, k0_pay33, k0_pay20]
  rw [zero_sub, sc_neg, sc_sum]
  congr 1
  refine Finset.sum_congr rfl fun j _ => ?_
  rw [causal_at, sp0_at _ x j (Z j) (hz0 j)]
  by_cases h : j < x
  · rw [if_pos h, decide_eq_true h]; rfl
  · rw [if_neg h, decide_eq_false h, sc_zero]; rfl
end Cert.Proof.Attn
-- ==== Proof.Attn.Fold.lean ====
module
public import proofs.«01_k».proof.Proof.Attn.Inputs
public import proofs.«01_k».proof.Proof.Attn.Step

/-!
The state after each window of a row block, in terms of the program's arguments, and the array the
attention program leaves.
-/

@[expose] public section
set_option maxRecDepth 16384
noncomputable section
open Idealize.ShloMosaic Idealize.ShloMosaic.TcCoe Idealize.SL.Sem
open Finset (Ico)
namespace Cert.Proof.Attn
open Cert.KernelIdeal Cert.KernelIdeal.Gen
variable (m : (ℓ : Loc nD τ sig) → Buf (Elt Ideal) ℓ)

/-- Column `e` of head `h`. -/
abbrev hcol (h : Fin 8) (e : Fin 128) : Fin 1024 := ⟨128 * h.val + e.val, by omega⟩

/-- A position, brought below the length. -/
abbrev pos (s : ℕ) : Fin 16384 := ⟨s % 16384, Nat.mod_lt _ (by omega)⟩

/-- The logits of a row. -/
def Zr (q k : S2x16384x1024.Idx → EReal) (b : Fin 2) (h : Fin 8) (T : Fin 16384) (s : ℕ) : EReal :=
  ∑ e : Fin 128, Ideal.div (q (ix3 b T (hcol h e))) ((Real.sqrt 128 : ℝ) : EReal) * k (ix3 b (pos s) (hcol h e))

/-- A column of the values. -/
def Vr (v : S2x16384x1024.Idx → EReal) (b : Fin 2) (h : Fin 8) (e : Fin 128) (s : ℕ) : EReal := v (ix3 b (pos s) (hcol h e))

theorem SC_eq : SC = ((Real.sqrt 128 * Real.log 2 : ℝ) : EReal) := by
  unfold SC
  rw [show Ideal.ofBits FTy.f32 0x43000000#32 = ((128 : ℝ) : EReal) by simp [Ideal.ofBits, Ideal.ieee, -EReal.coe_mul]; norm_num,
    show Ideal.ofBits FTy.f32 0x40000000#32 = ((2 : ℝ) : EReal) by simp [Ideal.ofBits, Ideal.ieee, -EReal.coe_mul]; norm_num,
    Ideal.sqrt_coe, if_neg (by norm_num), Ideal.log_coe, if_neg (by norm_num), EReal.coe_mul]

theorem zk_eq (q k : S2x16384x1024.Idx → EReal) (b : Fin 2) (h : Fin 8) (T : Fin 16384) (s : ℕ) :
    ∑ e : Fin 128, Ideal.div (q (ix3 b T (hcol h e))) SC * k (ix3 b (pos s) (hcol h e)) = sc (Zr q k b h T s) := by
  unfold Zr
  rw [sc_sum]
  refine Finset.sum_congr rfl fun e _ => ?_
  have h128 : Real.sqrt 128 ≠ 0 := by positivity
  have h2 := log2_pos.ne'
  unfold sc
  rw [SC_eq, Ideal.div_coe (mul_ne_zero h128 h2), Ideal.div_coe h128, show 1 / (Real.sqrt 128 * Real.log 2) = 1 / Real.sqrt 128 * (Real.log 2)⁻¹ by field_simp,
    EReal.coe_mul, ← mul_assoc, mul_right_comm]

section
variable (c : Dev nD) (t : Fin (cfg0 (F := Ideal)).N) (b : Fin 2) (h : Fin 8) (g : Fin 16) (r : Fin 4) (x : Fin 256) (T : Fin 16384)

/-- The state at a point after the windows at distances up to `d`. -/
abbrev St' (d : ℕ) : St := stAt g.val (blk m c 0 t) (blk m c 1 t) (blk m c 2 t) d

theorem zw (hb : b.val = t.val / 128) (hh : h.val = t.val / 16 % 8) (hg : g.val = t.val % 16)
    (hT : T.val = 256 * (4 * g.val + r.val) + x.val) (n : ℕ) (y : Fin 256) :
    zOf (qB (blk m c 0 t) r) (kvB (blk m c 1 t) n) (ix2 x y) = sc (Zr (A0 m c) (A1 m c) b h T (256 * n + y.val)) := by
  rw [z_at, ← zk_eq]
  refine Finset.sum_congr rfl fun e _ => congrArg₂ (· * ·) ?_ ?_
  · exact i0 m c t b h T ⟨256 * r.val + x.val, by omega⟩ e (hcol h e) hb hh (by show T.val = 1024 * _ + (256 * r.val + x.val); omega) rfl
  · exact i1 m c t b h (pos (256 * n + y.val)) e (hcol h e) hb hh rfl

theorem vw (hb : b.val = t.val / 128) (hh : h.val = t.val / 16 % 8) (n : ℕ) (y : Fin 256) (e : Fin 128) :
    kvB (blk m c 2 t) n (ix4 0 0 y e) = Vr (A2 m c) b h e (256 * n + y.val) :=
  i2 m c t b h (pos (256 * n + y.val)) e (hcol h e) hb hh rfl

/-- The row's running sum and output while there are windows left. -/
theorem alive (hb : b.val = t.val / 128) (hh : h.val = t.val / 16 % 8) (hg : g.val = t.val % 16)
    (hT : T.val = 256 * (4 * g.val + r.val) + x.val) (d : ℕ) (hd : d ≤ 4 * g.val + r.val) :
    (St' m c t g d).a r (ix2 x 0) = sc (-∑ j ∈ Ico (256 * (4 * g.val + r.val - d)) T.val, lk (Zr (A0 m c) (A1 m c) b h T j))
    ∧ ∀ e : Fin 128, (St' m c t g d).b r (ix2 x e) = O (Zr (A0 m c) (A1 m c) b h T) (Vr (A2 m c) b h e) T.val (256 * (4 * g.val + r.val - d)) := by
  induction d with
  | zero =>
    rw [Nat.sub_zero, hT]
    constructor
    · refine (init_a (qB (blk m c 0 t)) (fun r => kvB (blk m c 1 t) (win g.val r 0)) (fun r => kvB (blk m c 2 t) (win g.val r 0)) r x (fun y => Zr (A0 m c) (A1 m c) b h T (256 * win g.val r 0 + y.val)) (zw m c t b h g r x T hb hh hg hT (win g.val r 0))).trans ?_
      rw [show win g.val r 0 = 4 * g.val + r.val from rfl, sum_masked (fun j => lk (Zr (A0 m c) (A1 m c) b h T j)) (256 * (4 * g.val + r.val)) 256 x]
    · intro e
      refine (init_b (qB (blk m c 0 t)) (fun r => kvB (blk m c 1 t) (win g.val r 0)) (fun r => kvB (blk m c 2 t) (win g.val r 0)) r x e (fun y => Zr (A0 m c) (A1 m c) b h T (256 * win g.val r 0 + y.val)) (fun y => Vr (A2 m c) b h e (256 * win g.val r 0 + y.val))
        (zw m c t b h g r x T hb hh hg hT (win g.val r 0)) (fun y => vw m c t b h hb hh (win g.val r 0) y e)).trans ?_
      exact O_init (Zr (A0 m c) (A1 m c) b h T) (Vr (A2 m c) b h e) (256 * (4 * g.val + r.val)) 256 x
  | succ d ih =>
    obtain ⟨ia, ib⟩ := ih (by omega)
    have hg16 := g.isLt
    have hm : Scalar.cmpi .sge (mword g.val r (d + 1)) 0#32 = 1#1 := by
      rw [mword_sge g r ⟨d + 1, by omega⟩, decide_eq_true (by show d + 1 ≤ _; omega)]; rfl
    have hB : 256 * (4 * g.val + r.val - d) = 256 * win g.val r (d + 1) + 256 := by unfold win; omega
    have hB' : 256 * (4 * g.val + r.val - (d + 1)) = 256 * win g.val r (d + 1) := rfl
    rw [hB']
    rw [hB] at ia ib
    have hle : 256 * win g.val r (d + 1) + 256 ≤ T.val := by omega
    constructor
    · refine (step_a (fun r => mword g.val r (d + 1)) sufM (qB (blk m c 0 t)) (fun r => kvB (blk m c 1 t) (win g.val r (d + 1))) (fun r => kvB (blk m c 2 t) (win g.val r (d + 1))) (St' m c t g d) r x (fun y => Zr (A0 m c) (A1 m c) b h T (256 * win g.val r (d + 1) + y.val)) _ (Finset.sum_nonneg fun i _ => lk_nonneg _) hm (zw m c t b h g r x T hb hh hg hT (win g.val r (d + 1))) ia).trans ?_
      rw [← sum_window (fun j => lk (Zr (A0 m c) (A1 m c) b h T j)) T.val (256 * win g.val r (d + 1)) 256 hle]
    · intro e
      refine (step_b (fun r => mword g.val r (d + 1)) (qB (blk m c 0 t)) (fun r => kvB (blk m c 1 t) (win g.val r (d + 1))) (fun r => kvB (blk m c 2 t) (win g.val r (d + 1))) (St' m c t g d) r x e (fun y => Zr (A0 m c) (A1 m c) b h T (256 * win g.val r (d + 1) + y.val)) (fun y => Vr (A2 m c) b h e (256 * win g.val r (d + 1) + y.val)) _
        hm (zw m c t b h g r x T hb hh hg hT (win g.val r (d + 1))) (fun y => vw m c t b h hb hh (win g.val r (d + 1)) y e) ia).trans ?_
      rw [ib e]
      exact O_step (Zr (A0 m c) (A1 m c) b h T) (Vr (A2 m c) b h e) T.val (256 * win g.val r (d + 1)) 256 hle

/-- Past its first window a row block's output stays. -/
theorem past (n : ℕ) (hn : 4 * g.val + r.val + n < 70) : (St' m c t g (4 * g.val + r.val + n)).b r = (St' m c t g (4 * g.val + r.val)).b r := by
  induction n with
  | zero => rfl
  | succ n ih =>
    rw [← ih (by omega)]
    refine step_dead_b _ _ _ _ _ (St' m c t g (4 * g.val + r.val + n)) r (Or.inr ?_)
    refine (mword_sge g r ⟨4 * g.val + r.val + n + 1, hn⟩).trans ?_
    rw [decide_eq_false (by show ¬ (4 * g.val + r.val + n + 1 ≤ _); omega)]
    rfl

/-- The finished row. -/
theorem done (hb : b.val = t.val / 128) (hh : h.val = t.val / 16 % 8) (hg : g.val = t.val % 16)
    (hT : T.val = 256 * (4 * g.val + r.val) + x.val) (e : Fin 128) :
    (St' m c t g (4 * g.val + 4)).b r (ix2 x e) = O (Zr (A0 m c) (A1 m c) b h T) (Vr (A2 m c) b h e) T.val 0 := by
  have hg16 := g.isLt
  have hr := r.isLt
  have e1 : 4 * g.val + 4 = 4 * g.val + r.val + (4 - r.val) := by omega
  rw [e1, past m c t g r (4 - r.val) (by omega), (alive m c t b h g r x T hb hh hg hT _ le_rfl).2 e, Nat.sub_self]
end

/-- The array of all rows. -/
def G (q k v : S2x16384x1024.Idx → EReal) : FVec Ideal S2x8x16384x128 .bf16 := fun i =>
  O (Zr q k (i 0) (i 1) (i 2)) (Vr v (i 0) (i 1) (i 3)) (i 2).val 0

theorem out_at (c : Dev nD) (t : Fin (cfg0 (F := Ideal)).N) (b : Fin 2) (h : Fin 8) (T : Fin 16384) (y : Fin 1024) (e : Fin 128)
    (hb : b.val = t.val / 128) (hh : h.val = t.val / 16 % 8) (hT : T.val = 1024 * (t.val % 16) + y.val) :
    outBlock (grid0.coords t) (blk m c 0 t) (blk m c 1 t) (blk m c 2 t) (ix4 0 0 y e) = G (A0 m c) (A1 m c) (A2 m c) (ix4 b h T e) := by
  have hy := y.isLt
  unfold outBlock
  rw [(idx t).2.2.2.2.1]
  pointwise [k0_pay4]
  exact done m c t b h ⟨t.val % 16, by omega⟩ ⟨y.val / 256, by omega⟩ ⟨y.val % 256, by omega⟩ T hb hh rfl
    (by show T.val = 256 * (4 * (t.val % 16) + y.val / 256) + y.val % 256; omega) e

theorem flush3 : ∀ t : Fin (cfg0 (F := Ideal)).N, ((cfg0 (F := Ideal)).win 3).flush t = true :=
  (by decide +kernel : ∀ t : Fin grid0.N, win0_3.flush t = true)

theorem flushed3 (c : Dev nD) (t : Fin (cfg0 (F := Ideal)).N) :
    (dats m 0 c).flushed 3 t = (((cfg0 (F := Ideal)).win 3).blk t).view.read (Elt Ideal) (G (A0 m c) (A1 m c) (A2 m c)) := by
  obtain ⟨-, -, -, e3, -, e5⟩ := idx t
  have q0 : win0_3.index t (0 : Fin 4) = t.val / 128 := congrFun e3 0
  have q1 : win0_3.index t (1 : Fin 4) = t.val / 16 % 8 := congrFun e3 1
  have q2 : win0_3.index t (2 : Fin 4) = t.val % 16 := congrFun e3 2
  have q3 : win0_3.index t (3 : Fin 4) = 0 := congrFun e3 3
  funext y
  have hy0 : (y 0).val < 1 := (y 0).isLt
  have hy1 : (y 1).val < 1 := (y 1).isLt
  have hy2 : (y 2).val < 1024 := (y 2).isLt
  have hy3 : (y 3).val < 128 := (y 3).isLt
  have hi : (((cfg0 (F := Ideal)).win 3).blk t).view.emb y
      = ix4 (n0 := 2) (n1 := 8) (n2 := 16384) (n3 := 128) ⟨t.val / 128, by omega⟩ ⟨t.val / 16 % 8, by omega⟩ ⟨1024 * (t.val % 16) + (y 2).val, by omega⟩ (y 3) := by
    funext a; apply Fin.ext
    match a with
    | ⟨0, _⟩ => show win0_3.index t (0 : Fin 4) * 1 + 1 * (y 0).val = t.val / 128; omega
    | ⟨1, _⟩ => show win0_3.index t (1 : Fin 4) * 1 + 1 * (y 1).val = t.val / 16 % 8; omega
    | ⟨2, _⟩ => show win0_3.index t (2 : Fin 4) * 1024 + 1 * (y 2).val = 1024 * (t.val % 16) + (y 2).val; omega
    | ⟨3, _⟩ => show win0_3.index t (3 : Fin 4) * 128 + 1 * (y 3).val = (y 3).val; omega
  have hj : ((cfg0 (F := Ideal)).win 3).xinj (grid0.coords t) y = ix4 (n0 := 1) (n1 := 1) (n2 := 1024) (n3 := 128) 0 0 (y 2) (y 3) := by
    funext a; apply Fin.ext
    match a with
    | ⟨0, _⟩ => show (y 0).val = 0; omega
    | ⟨1, _⟩ => show (y 1).val = 0; omega
    | ⟨2, _⟩ => rfl
    | ⟨3, _⟩ => rfl
  show outBlock (grid0.coords t) (blk m c 0 t) (blk m c 1 t) (blk m c 2 t) (((cfg0 (F := Ideal)).win 3).xinj (grid0.coords t) y)
    = G (A0 m c) (A1 m c) (A2 m c) ((((cfg0 (F := Ideal)).win 3).blk t).view.emb y)
  rw [hi, hj]
  exact out_at m c t _ _ _ (y 2) (y 3) rfl rfl rfl

theorem mem_blk3 (t : Fin (cfg0 (F := Ideal)).N) (i : S2x8x16384x128.Idx) :
    i ∈ (((cfg0 (F := Ideal)).win 3).blk t).view.set ↔ ∀ a : Fin 4, win0_3.index t a * S1x1x1024x128.size a ≤ (i a).val ∧ (i a).val < win0_3.index t a * S1x1x1024x128.size a + S1x1x1024x128.size a := by
  show i ∈ ((View.whole main_v13).slice (win0_3.rect t)).set ↔ _
  rw [View.set_slice_whole, Rect.mem_set_unit]
  exact Iff.rfl

theorem cover3 (i : S2x8x16384x128.Idx) : ∃ t : Fin (cfg0 (F := Ideal)).N, ((cfg0 (F := Ideal)).win 3).flush t = true ∧ i ∈ (((cfg0 (F := Ideal)).win 3).blk t).view.set := by
  have h0 : (i 0).val < 2 := (i 0).isLt
  have h1 : (i 1).val < 8 := (i 1).isLt
  have h2 : (i 2).val < 16384 := (i 2).isLt
  have h3 : (i 3).val < 128 := (i 3).isLt
  have hN : (cfg0 (F := Ideal)).N = 256 := N_0
  let t : Fin (cfg0 (F := Ideal)).N := ⟨128 * (i 0).val + 16 * (i 1).val + (i 2).val / 1024, by rw [hN]; omega⟩
  have ht : t.val = 128 * (i 0).val + 16 * (i 1).val + (i 2).val / 1024 := rfl
  refine ⟨t, flush3 t, (mem_blk3 t i).mpr ?_⟩
  obtain ⟨-, -, -, e3, -, e5⟩ := idx t
  have q0 : win0_3.index t (0 : Fin 4) = t.val / 128 := congrFun e3 0
  have q1 : win0_3.index t (1 : Fin 4) = t.val / 16 % 8 := congrFun e3 1
  have q2 : win0_3.index t (2 : Fin 4) = t.val % 16 := congrFun e3 2
  have q3 : win0_3.index t (3 : Fin 4) = 0 := congrFun e3 3
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 1024 ≤ (i 2).val ∧ (i 2).val < win0_3.index t (2 : Fin 4) * 1024 + 1024; omega
  | ⟨3, _⟩ => show win0_3.index t (3 : Fin 4) * 128 ≤ (i 3).val ∧ (i 3).val < win0_3.index t (3 : Fin 4) * 128 + 128; omega

/-- The array after the run. -/
theorem final3 (c : Dev nD) : (dats m 0 c).arrAt 3 (cfg0 (F := Ideal)).N = G (A0 m c) (A1 m c) (A2 m c) :=
  (dats m 0 c).arrAt_eq_of_cover 3 _ (fun t _ => flushed3 m c t) cover3

/-- The attention program leaves the array of all rows and its arguments as they were. -/
theorem run_value (ρ : Dev nD → PrngReg) :
    θ_run defs (onTc (τ := τ) (main (F := Ideal))) ⟨m, fun _ => 0, ρ⟩ (fun r => ∀ c : Dev nD,
      r.2.mem ((c.tc : Thread nD τ).loc main_v13) = G (A0 m c) (A1 m c) (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final3 m c), rest_arg0 m c r h.1, rest_arg1 m c r h.1, rest_arg2 m c r h.1⟩) (run_quiescent m ρ)

end Cert.Proof.Attn
-- ==== Proof.Attn.Ref.lean ====
module
public import proofs.«01_k».proof.Proof.Gen.ReferenceIdeal.Run
public import proofs.«01_k».proof.Proof.Attn.Fold

/-!
The attention reference, stage by stage, each stage read at an index, and its value as the array of all rows.
-/

@[expose] public section
set_option maxRecDepth 16384
noncomputable section
open Idealize.ShloMosaic Idealize.ShloMosaic.TcCoe Idealize.SL.Sem
open Finset (Ico)
namespace Cert.Proof.Attn.R
open Cert.ReferenceIdeal Cert.ReferenceIdeal.Gen

abbrev T4 := FVec Ideal S2x8x16384x16384 .f32

/-- A scalar zero spread over the square. -/
def zs : T4 := broadcastInDim S2x8x16384x16384 ![] bcast_S_S2x8x16384x16384 (constant S_ .f32 0x00000000#32)

/-- The logits. -/
def zz (q k : FVec Ideal S2x16384x1024 .f32) : T4 :=
  Host.dotGeneral dot_S2x16384x8x128_S2x16384x8x128_S2x8x16384x16384_3_3_1_1_02_02 none
    (Host.divf (shapeCast _ q shapeCasts_S2x16384x1024_S2x16384x8x128) (broadcastInDim S2x16384x8x128 ![] bcast_S_S2x16384x8x128 (Host.sqrt (constant S_ .f32 0x43000000#32))))
    (shapeCast _ k shapeCasts_S2x16384x1024_S2x16384x8x128)

/-- Where the column is before the row. -/
def mk : IVec S2x8x16384x16384 1 :=
  broadcastInDim S2x8x16384x16384 ![2, 3] bcast_S16384x16384_S2x8x16384x16384_2_3
    (cmpi .slt (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0))))

/-- The softplus of a whole array. -/
def sf (x : T4) : T4 :=
  select (cmpf .une (subf x zs) (subf x zs)) (addf x zs) (addf (maximumf x zs) (Host.log1p (Host.exp (Host.negf (Host.absf (subf x zs))))))

/-- The masked logarithms of one less the weights. -/
def lm (z : T4) : T4 := select mk (Host.negf (sf (Host.negf (Host.negf z)))) zs

/-- Their sums from each column to the last. -/
def rv (l : T4) : T4 :=
  Host.reduceWindowAdd ![1, 1, 1, 16384] ![1, 1, 1, 1] ![0, 0, 0, 0] ![0, 0, 0, 16383] l (broadcastInDim S_ ![] bcast_S_S_ (constant S_ .f32 0x00000000#32))
    reduceWindows_S2x8x16384x16384_S2x8x16384x16384_w1s1p0_0_w1s1p0_0_w1s1p0_0_w16384s1p0_16383 h_S_

/-- The weights. -/
def ww (z : T4) : T4 := select mk (Host.exp (addf (Host.negf (sf (Host.negf z))) (subf (rv (lm z)) (lm z)))) zs

/-- The weighted values. -/
def oo (w : T4) (v : FVec Ideal S2x16384x1024 .f32) : FVec Ideal S2x8x16384x128 .bf16 :=
  truncf .bf16 (Host.dotGeneral dot_S2x8x16384x16384_S2x16384x8x128_S2x8x16384x128_3_1_2_3_01_02 none w (shapeCast _ v shapeCasts_S2x16384x1024_S2x16384x8x128)) bitsLt_bf16_f32

theorem res_eq (m : (ℓ : Loc nD τ sig) → Buf (Elt Ideal) ℓ) (c : Dev nD) :
    Cert.ReferenceIdeal.Value.res_main_v23 m c
      = oo (ww (zz (m ((c.tc : Thread nD τ).loc main_arg0)) (m ((c.tc : Thread nD τ).loc main_arg1)))) (m ((c.tc : Thread nD τ).loc main_arg2)) := rfl

theorem zz_at (q k : S2x16384x1024.Idx → EReal) (b : Fin 2) (h : Fin 8) (T s : Fin 16384) :
    zz q k (ix4 b h T s) = Zr q k b h T s.val := by
  pointwise [zz]
  unfold Zr
  refine Finset.sum_congr rfl fun e _ => ?_
  rw [show Ideal.ofBits FTy.f32 0x43000000#32 = ((128 : ℝ) : EReal) by simp [Ideal.ofBits, Ideal.ieee, -EReal.coe_mul]; norm_num,
    Ideal.sqrt_coe, if_neg (by norm_num), show hcol h e = (⟨h.val * 128 + e.val, by omega⟩ : Fin 1024) from Fin.ext (by show 128 * h.val + e.val = h.val * 128 + e.val; omega),
    show pos s.val = s from Fin.ext (Nat.mod_eq_of_lt s.isLt)]

theorem mk_at (b : Fin 2) (h : Fin 8) (T s : Fin 16384) : mk (ix4 b h T s) = BitVec.ofBool (decide (s.val < T.val)) := by
  pointwise [mk]
  exact WordCmp.cmpi_slt_ofNat (by omega) (by omega)

theorem zs_at (i) : zs i = 0 := by
  pointwise [zs]

theorem sf_at (x : T4) (i : S2x8x16384x16384.Idx) (Z : EReal) (hx : x i = Z) : sf x i = lk Z := by
  pointwise [sf, zs]
  rw [hx, if_neg (by simp)]
  rfl

theorem lm_at (z : T4) (Z : ℕ → EReal) (b : Fin 2) (h : Fin 8) (T : Fin 16384) (hz : ∀ s : Fin 16384, z (ix4 b h T s) = Z s.val) (s : Fin 16384) :
    lm z (ix4 b h T s) = -(if s.val < T.val then lk (Z s.val) else 0) := by
  have hs := sf_at (Host.negf (Host.negf z)) (ix4 b h T s) (Z s.val) (by
    show -(-(z (ix4 b h T s))) = _
    rw [neg_neg, hz])
  show (if mk (ix4 b h T s) = 1 then -(sf (Host.negf (Host.negf z)) (ix4 b h T s)) else zs (ix4 b h T s)) = _
  rw [mk_at, hs, zs_at]
  by_cases hlt : s.val < T.val
  · rw [if_pos hlt, decide_eq_true hlt]; rfl
  · rw [if_neg hlt, decide_eq_false hlt, neg_zero]; rfl

theorem foldl_add {α : Type} (g : α → EReal) (l : List α) (v : EReal) : l.foldl (fun r i => r + g i) v = v + (l.map g).sum := by
  induction l generalizing v with
  | nil => simp
  | cons x l ih => rw [List.foldl_cons, ih, List.map_cons, List.sum_cons, add_assoc]

/-- The shape of a window along the last axis. -/
abbrev W4 : Shape := ⟨4, ![1, 1, 1, 16384]⟩

theorem sum_W4 (f : W4.Idx → EReal) : ∑ n, f (W4.rowMajor.symm n) = ∑ k : Fin 16384, f (ix4 (n0 := 1) (n1 := 1) (n2 := 1) (n3 := 16384) 0 0 0 k) := by
  rw [Equiv.sum_comp W4.rowMajor.symm f]
  symm
  refine Fintype.sum_bijective (fun k : Fin 16384 => (ix4 (n0 := 1) (n1 := 1) (n2 := 1) (n3 := 16384) 0 0 0 k : W4.Idx)) ⟨fun a b hab => ?_, fun y => ⟨y 3, ?_⟩⟩ _ _ fun _ => rfl
  · exact congrFun hab 3
  · funext a
    match a with
    | ⟨0, _⟩ => exact Fin.ext (by have : (y 0).val < 1 := (y 0).isLt; show 0 = (y 0).val; omega)
    | ⟨1, _⟩ => exact Fin.ext (by have : (y 1).val < 1 := (y 1).isLt; show 0 = (y 1).val; omega)
    | ⟨2, _⟩ => exact Fin.ext (by have : (y 2).val < 1 := (y 2).isLt; show 0 = (y 2).val; omega)
    | ⟨3, _⟩ => rfl

/-- The entry a position of the window reads, zero past the end. -/
def winE (l : T4) (b : Fin 2) (h : Fin 8) (T s : Fin 16384) (y : W4.Idx) : EReal :=
  if hin : ∀ a : Fin 4, (![0, 0, 0, 0] : Fin 4 → ℕ) a ≤ (ix4 b h T s a).val * (![1, 1, 1, 1] : Fin 4 → ℕ) a + (y a).val
      ∧ (ix4 b h T s a).val * (![1, 1, 1, 1] : Fin 4 → ℕ) a + (y a).val - (![0, 0, 0, 0] : Fin 4 → ℕ) a < S2x8x16384x16384.size a
    then l (fun a => ⟨_, (hin a).2⟩) else 0

theorem dite_same {α : Type} {P Q : Prop} {dP : Decidable P} {dQ : Decidable Q} (hPQ : P ↔ Q) (f : P → α) (g : Q → α) (z : α) (h : ∀ p q, f p = g q) :
    (if hp : P then f hp else z) = if hq : Q then g hq else z := by
  by_cases hp : P
  · rw [dif_pos hp, dif_pos (hPQ.mp hp), h]
  · rw [dif_neg hp, dif_neg (fun hq => hp (hPQ.mpr hq))]

theorem rv_at (l : T4) (b : Fin 2) (h : Fin 8) (T s : Fin 16384) :
    rv l (ix4 b h T s) = ∑ k : Fin 16384, if hk : s.val + k.val < 16384 then l (ix4 b h T ⟨s.val + k.val, hk⟩) else 0 := by
  unfold rv Host.reduceWindowAdd
  show Idealize.ShloMosaic.Ideal.hostReduceWindowAdd _ _ _ _ _ _ _ _ = _
  unfold Ideal.hostReduceWindowAdd Host.reduceWindow
  dsimp only
  rw [foldl_add, ← Fin.sum_univ_def]
  have hz : (broadcastInDim S_ ![] bcast_S_S_ (constant (F := Ideal) S_ .f32 0x00000000#32)) (Shape.Idx.first h_S_) = 0 := by
    pointwise []
  rw [hz, zero_add]
  refine (Finset.sum_congr (g := fun n => winE l b h T s (W4.rowMajor.symm n)) rfl fun n _ => ?_).trans ((sum_W4 (winE l b h T s)).trans ?_)
  · unfold winE
    exact dite_same ⟨fun hin a => hin a, fun hin a => hin a⟩ _ _ _ fun p q => congrArg l (funext fun a => Fin.ext rfl)
  refine Finset.sum_congr rfl fun k _ => ?_
  unfold winE
  by_cases hk : s.val + k.val < 16384
  · rw [dif_pos hk, dif_pos]
    · refine congrArg l (funext fun a => Fin.ext ?_)
      match a with
      | ⟨0, _⟩ => show b.val * 1 + 0 - 0 = b.val; omega
      | ⟨1, _⟩ => show h.val * 1 + 0 - 0 = h.val; omega
      | ⟨2, _⟩ => show T.val * 1 + 0 - 0 = T.val; omega
      | ⟨3, _⟩ => show s.val * 1 + k.val - 0 = s.val + k.val; omega
    · intro a
      match a with
      | ⟨0, _⟩ => show 0 ≤ b.val * 1 + 0 ∧ b.val * 1 + 0 - 0 < 2; omega
      | ⟨1, _⟩ => show 0 ≤ h.val * 1 + 0 ∧ h.val * 1 + 0 - 0 < 8; omega
      | ⟨2, _⟩ => show 0 ≤ T.val * 1 + 0 ∧ T.val * 1 + 0 - 0 < 16384; omega
      | ⟨3, _⟩ => show 0 ≤ s.val * 1 + k.val ∧ s.val * 1 + k.val - 0 < 16384; omega
  · rw [dif_neg hk, dif_neg]
    intro hin
    have h3 : s.val * 1 + k.val - 0 < 16384 := (hin 3).2
    omega

/-- The weight from the reference's two logarithms, whatever the extended reals are. -/
theorem weight (z R : EReal) (hR : 0 ≤ R) : Ideal.exp (-lk (-z) + (-(lk z + R) - -lk z)) = Ideal.exp (z - lk z - R) := by
  have hRt := neg_ne_top hR
  induction z with
  | bot => rw [EReal.neg_bot, lk_top, EReal.neg_top, EReal.bot_add, EReal.bot_sub, EReal.bot_sub]
  | top =>
    rw [lk_top, EReal.top_add_of_ne_bot (fun e => by subst e; exact absurd hR (by decide)), EReal.neg_top, lk_bot, neg_zero, zero_add, EReal.bot_sub,
      show (⊤ : EReal) - ⊤ = ⊥ by rfl, EReal.bot_sub]
  | coe r =>
    rw [← EReal.coe_neg, lk_coe, lk_coe, neg_add_of_nonneg (by exact_mod_cast L_nonneg r) hR, L_neg, sub_eq_add_neg _ (-((L r : ℝ) : EReal)), neg_neg,
      add_right_comm, ← EReal.coe_neg, ← EReal.coe_neg, ← EReal.coe_add, neg_add_cancel, EReal.coe_zero, zero_add, ← EReal.coe_sub, ← sub_eq_add_neg, neg_sub]

theorem ww_at (z : T4) (Z : ℕ → EReal) (b : Fin 2) (h : Fin 8) (T : Fin 16384) (hz : ∀ s : Fin 16384, z (ix4 b h T s) = Z s.val) (s : Fin 16384) :
    ww z (ix4 b h T s) = if s < T then ((w Z T.val s.val : ℝ) : EReal) else 0 := by
  have hs := sf_at (Host.negf z) (ix4 b h T s) (-Z s.val) (by
    show -(z (ix4 b h T s)) = _
    rw [hz])
  show (if mk (ix4 b h T s) = 1 then Ideal.exp (-(sf (Host.negf z) (ix4 b h T s)) + (rv (lm z) (ix4 b h T s) - lm z (ix4 b h T s))) else zs (ix4 b h T s)) = _
  rw [mk_at, zs_at]
  by_cases hlt : s < T
  · have hlt' : s.val < T.val := hlt
    rw [if_pos hlt, decide_eq_true hlt', if_pos (by decide), hs, rv_at, lm_at z Z b h T hz, if_pos hlt']
    have hr : (∑ k : Fin 16384, if hk : s.val + k.val < 16384 then lm z (ix4 b h T ⟨s.val + k.val, hk⟩) else 0)
        = -(lk (Z s.val) + ∑ j ∈ Ico (s.val + 1) T.val, lk (Z j)) := by
      have hR := rev_sum (fun j => lk (Z j)) 16384 T s hlt
      rw [← Finset.sum_eq_sum_Ico_succ_bot hlt' (fun j => lk (Z j)), ← hR,
        ← sum_neg _ (fun k : Fin 16384 => if s.val + k.val < 16384 then (if s.val + k.val < T.val then lk (Z (s.val + k.val)) else 0) else 0)
          (fun j => by split_ifs; exacts [lk_nonneg _, le_rfl, le_rfl])]
      refine Finset.sum_congr rfl fun k _ => ?_
      by_cases hk : s.val + k.val < 16384
      · rw [dif_pos hk, if_pos hk, lm_at z Z b h T hz]
      · rw [dif_neg hk, if_neg hk, neg_zero]
    rw [hr, weight _ _ (Finset.sum_nonneg fun i _ => lk_nonneg _), exp_w]
  · rw [if_neg hlt, decide_eq_false (show ¬ s.val < T.val from hlt)]; exact if_neg (by decide)

theorem oo_at (a : T4) (v : FVec Ideal S2x16384x1024 .f32) (b : Fin 2) (h : Fin 8) (T : Fin 16384) (e : Fin 128) :
    oo a v (ix4 b h T e) = ∑ s : Fin 16384, a (ix4 b h T s) * v (ix3 b s (hcol h e)) := by
  pointwise [oo]
  refine Finset.sum_congr rfl fun s _ => ?_
  rw [show hcol h e = (⟨h.val * 128 + e.val, by omega⟩ : Fin 1024) from Fin.ext (by show 128 * h.val + e.val = h.val * 128 + e.val; omega)]

theorem value_at (q k v : FVec Ideal S2x16384x1024 .f32) (b : Fin 2) (h : Fin 8) (T : Fin 16384) (e : Fin 128) :
    oo (ww (zz q k)) v (ix4 b h T e) = G q k v (ix4 b h T e) := by
  show _ = O (Zr q k b h T) (Vr v b h e) T.val 0
  rw [oo_at, ← O_full _ _ 16384 T]
  refine Finset.sum_congr rfl fun s _ => congrArg₂ (· * ·) (ww_at (zz q k) (Zr q k b h T) b h T (zz_at q k  _ _ _) s) ?_
  unfold Vr
  rw [show pos s.val = s from Fin.ext (Nat.mod_eq_of_lt s.isLt)]

/-- The reference is the array of all rows. -/
theorem value (q k v : FVec Ideal S2x16384x1024 .f32) : oo (ww (zz q k)) v = G q k v := by
  funext i
  have hi : i = ix4 (n0 := 2) (n1 := 8) (n2 := 16384) (n3 := 128) (i 0) (i 1) (i 2) (i 3) := by
    funext a
    match a with
    | ⟨0, _⟩ => rfl
    | ⟨1, _⟩ => rfl
    | ⟨2, _⟩ => rfl
    | ⟨3, _⟩ => rfl
  rw [hi]
  exact value_at q k v  (i 0) (i 1) (i 2) (i 3)

end Cert.Proof.Attn.R
-- ==== Proof.Attn.Algebraic.lean ====
module
public import proofs.«01_k».proof.Defs
public import proofs.«01_k».proof.Proof.Attn.Ref

/-!
The attention kernel over the extended reals computes its reference.
-/

@[expose] public section
set_option maxRecDepth 16384
noncomputable section
open Idealize.ShloMosaic Idealize.ShloMosaic.TcCoe Idealize.SL.Sem
namespace Cert.Proof.Attn

/-- The attention kernel and its reference leave the same array, whatever the queries, keys and values are. -/
theorem algebraic_attn : Cert.algebraic_KernelIdeal_ReferenceIdeal := fun m g m' g' _ h =>
  ⟨fun c => G (A0 m c) (A1 m c) (A2 m c), run_value m g,
    (θ_run _ _ _).mono (fun r hrun c => ⟨by
      obtain ⟨h0, h1, h2⟩ := h c
      rw [(hrun c).1, R.res_eq, h0, h1, h2]
      exact R.value _ _ _, (hrun c).2⟩) (Cert.ReferenceIdeal.Value.run m' g')⟩

end Cert.Proof.Attn
-- ==== Proof.Ffn.Blocks.lean ====
module
public import proofs.«01_k».proof.Proof.Gen.FfnIdeal.Value
public import Idealize.ShloMosaic.Lib.Pipeline.ValueKit
public import Idealize.ShloMosaic.Lib.Pointwise
public import Idealize.ShloMosaic.Lib.Pipeline.ReadBack
/-!
What the three kinds of grid point of the feed-forward kernel leave in the output tile and in the scratch, entry by entry.
-/

@[expose] public section
set_option maxRecDepth 16384
noncomputable section
open Idealize.ShloMosaic Idealize.ShloMosaic.TcCoe Idealize.SL.Sem
open Idealize.ShloMosaic.Pipeline (Dat)
namespace Cert.Proof.Ffn
open Cert.FfnIdeal Cert.FfnIdeal.Gen
variable (m : (ℓ : Loc nD τ sig) → Buf (Elt Ideal) ℓ)

/-- The reciprocal root of a row's mean square, the small constant added. -/
def RS (f : Fin 2048 → EReal) : EReal :=
  Ideal.rsqrt (Ideal.div (∑ d, f d * f d) (Ideal.ofBits FTy.f32 1157627904#32) + Ideal.ofBits FTy.f32 897988541#32)

/-- Row `r` of the normalised, scaled and shifted block. -/
def UR (X : FVec Ideal S1x1024x2048 .f32) (M : FVec Ideal S1x9x2048 .f32) (G : FVec Ideal S1x2048 .f32) (r : Fin 1024) (d : Fin 2048) : EReal :=
  X (ix3 0 r d) * RS (fun d => X (ix3 0 r d)) * (G (ix2 0 d) * (1 + M (ix3 0 7 d))) + M (ix3 0 6 d)

/-- The gated hidden entry of row `r` in column `j` of one chunk. -/
def ACT (u : FVec Ideal S1024x2048 .bf16) (wa wb : FVec Ideal S2048x512 .bf16) (r : Fin 1024) (j : Fin 512) : EReal :=
  (∑ k, u (ix2 r k) * wa (ix2 k j)) *
      (Ideal.ofBits FTy.f32 1056964608#32 * Ideal.tanh (Ideal.ofBits FTy.f32 1056964608#32 * ∑ k, u (ix2 r k) * wa (ix2 k j)) + Ideal.ofBits FTy.f32 1056964608#32) *
    ∑ k, u (ix2 r k) * wb (ix2 k j)

/-- One chunk's part of the second product. -/
def PT (u : FVec Ideal S1024x2048 .bf16) (wa wb : FVec Ideal S2048x512 .bf16) (wo : FVec Ideal S512x2048 .bf16) (r : Fin 1024) (e : Fin 2048) : EReal :=
  ∑ j, ACT u wa wb r j * wo (ix2 j e)

/-- The row after the gated residual, from the finished second product `Y`. -/
def RES (X : FVec Ideal S1x1024x2048 .f32) (M : FVec Ideal S1x9x2048 .f32) (G3 : FVec Ideal S1x2048 .f32) (r : Fin 1024) (Y : Fin 2048 → EReal) (d : Fin 2048) : EReal :=
  X (ix3 0 r d) + Y d * RS Y * (Ideal.ofBits FTy.f32 1056964608#32 * M (ix3 0 8 d) * G3 (ix2 0 d))

/-- The row as written back: the residual row normalised and gained. -/
def FN (X : FVec Ideal S1x1024x2048 .f32) (M : FVec Ideal S1x9x2048 .f32) (G3 G4 : FVec Ideal S1x2048 .f32) (r : Fin 1024) (Y : Fin 2048 → EReal) (d : Fin 2048) : EReal :=
  RES X M G3 r Y d * RS (RES X M G3 r Y) * G4 (ix2 0 d)

/-- What the scratch holds after a first point: the normalised rows. -/
theorem sA (c : Dev nD) (t : Fin cfg0.N) (h0 : t.val % 11 = 0) (h1 : ¬(1 ≤ t.val % 11 ∧ t.val % 11 ≤ 9)) (h2 : ¬t.val % 11 = 10) (y : S1024x2048.Idx)
    (r : Fin 1024) (d : Fin 2048) (hr : (y 0).val = r.val) (hd : (y 1).val = d.val) :
    (outsAt0 m c t.val t.isLt).2 y = UR (iblk m c 0 t) (iblk m c 1 t) (iblk m c 2 t) r d := by
  rw [outsAt0_A m c t h0 h1 h2]
  frame_out
  clear h0 h1 h2
  canon_tiles x h
  · have hb : 768 + (x 0).val < 1024 := by clear * - x0_lt; omega
    have er : (⟨768 + (x 0).val, hb⟩ : Fin 1024) = r := Fin.ext (show 768 + (x 0).val = r.val by omega)
    subst er
    have ed : (x 1 : Fin 2048) = d := Fin.ext (show (x 1).val = d.val by omega)
    subst ed
    open_payloads; pointwise; rfl
  · have hb : 512 + (x 0).val < 1024 := by clear * - x0_lt; omega
    have er : (⟨512 + (x 0).val, hb⟩ : Fin 1024) = r := Fin.ext (show 512 + (x 0).val = r.val by omega)
    subst er
    have ed : (x 1 : Fin 2048) = d := Fin.ext (show (x 1).val = d.val by omega)
    subst ed
    open_payloads; pointwise; rfl
  · have hb : 256 + (x 0).val < 1024 := by clear * - x0_lt; omega
    have er : (⟨256 + (x 0).val, hb⟩ : Fin 1024) = r := Fin.ext (show 256 + (x 0).val = r.val by omega)
    subst er
    have ed : (x 1 : Fin 2048) = d := Fin.ext (show (x 1).val = d.val by omega)
    subst ed
    open_payloads; pointwise; rfl
  · have hb : 0 + (x 0).val < 1024 := by clear * - x0_lt; omega
    have er : (⟨0 + (x 0).val, hb⟩ : Fin 1024) = r := Fin.ext (show 0 + (x 0).val = r.val by omega)
    subst er
    have ed : (x 1 : Fin 2048) = d := Fin.ext (show (x 1).val = d.val by omega)
    subst ed
    open_payloads; pointwise; rfl

/-- A load after the stores, whatever they cover, reads what the stores leave. -/
theorem readCov_ld {Val : EltTy → Type} [∀ e, Nonempty (Val e)] {sg : RefSig} {κ : Kind} {sp : Space} {s : Shape} {e : EltTy} (v : View sg κ sp s e)
    (L : List (View.Piece Val s e)) (r : Rect s) : v.readCov L r.toLoadRect = View.ld (View.canon L) r := View.readCov_eq_canon' v L _

/-- What the output tile holds after a first point: the first chunk. -/
theorem oA (c : Dev nD) (t : Fin cfg0.N) (h0 : t.val % 11 = 0) (h1 : ¬(1 ≤ t.val % 11 ∧ t.val % 11 ≤ 9)) (h2 : ¬t.val % 11 = 10) (y : S1x1024x2048.Idx)
    (r : Fin 1024) (d : Fin 2048) (hr : (y 1).val = r.val) (hd : (y 2).val = d.val) :
    (outsAt0 m c t.val t.isLt).1 y = PT (outsAt0 m c t.val t.isLt).2 (iblk m c 5 t) (iblk m c 6 t) (iblk m c 7 t) r d := by
  rw [outsAt0_A m c t h0 h1 h2]
  frame_out
  clear h0 h1 h2
  simp only [readCov_ld]
  generalize View.canon (Val := Elt Ideal) (s := S1024x2048) (e := .bf16) _ = u
  canon_tiles x h
  · have hb : 768 + (x 1).val < 1024 := by clear * - x1_lt; omega
    have er : (⟨768 + (x 1).val, hb⟩ : Fin 1024) = r := Fin.ext (show 768 + (x 1).val = r.val by omega)
    subst er
    have ed : (x 2 : Fin 2048) = d := Fin.ext (show (x 2).val = d.val by omega)
    subst ed
    open_payloads; pointwise; rfl
  · have hb : 512 + (x 1).val < 1024 := by clear * - x1_lt; omega
    have er : (⟨512 + (x 1).val, hb⟩ : Fin 1024) = r := Fin.ext (show 512 + (x 1).val = r.val by omega)
    subst er
    have ed : (x 2 : Fin 2048) = d := Fin.ext (show (x 2).val = d.val by omega)
    subst ed
    open_payloads; pointwise; rfl
  · have hb : 256 + (x 1).val < 1024 := by clear * - x1_lt; omega
    have er : (⟨256 + (x 1).val, hb⟩ : Fin 1024) = r := Fin.ext (show 256 + (x 1).val = r.val by omega)
    subst er
    have ed : (x 2 : Fin 2048) = d := Fin.ext (show (x 2).val = d.val by omega)
    subst ed
    open_payloads; pointwise; rfl
  · have hb : 0 + (x 1).val < 1024 := by clear * - x1_lt; omega
    have er : (⟨0 + (x 1).val, hb⟩ : Fin 1024) = r := Fin.ext (show 0 + (x 1).val = r.val by omega)
    subst er
    have ed : (x 2 : Fin 2048) = d := Fin.ext (show (x 2).val = d.val by omega)
    subst ed
    open_payloads; pointwise; rfl

/-- A middle point adds its chunk. -/
theorem oB (c : Dev nD) (t : Fin cfg0.N) (h0 : ¬ t.val % 11 = 0) (h1 : (1 ≤ t.val % 11 ∧ t.val % 11 ≤ 9)) (h2 : ¬t.val % 11 = 10) (r : Fin 1024) (d : Fin 2048) :
    (outsAt0 m c t.val t.isLt).1 (ix3 0 r d) = (outsAt0 m c (t.val-1) (Nat.lt_of_le_of_lt (Nat.sub_le _ _) t.isLt)).1 (ix3 0 r d) + PT (outsAt0 m c (t.val-1) (Nat.lt_of_le_of_lt (Nat.sub_le _ _) t.isLt)).2 (iblk m c 5 t) (iblk m c 6 t) (iblk m c 7 t) r d := by
  rw [outsAt0_B m c t h0 h1 h2]
  frame_out
  rw [read_unread_whole]
  pointwise [k0_pay2]
  rfl

/-- The last point adds its chunk and finishes the rows. -/
theorem oC (c : Dev nD) (t : Fin cfg0.N) (h0 : ¬ t.val % 11 = 0) (h1 : ¬ (1 ≤ t.val % 11 ∧ t.val % 11 ≤ 9)) (h2 : t.val % 11 = 10) (y : S1x1024x2048.Idx)
    (r : Fin 1024) (d : Fin 2048) (hr : (y 1).val = r.val) (hd : (y 2).val = d.val) :
    (outsAt0 m c t.val t.isLt).1 y = FN (iblk m c 0 t) (iblk m c 1 t) (iblk m c 3 t) (iblk m c 4 t) r
      (fun e => (outsAt0 m c (t.val-1) (Nat.lt_of_le_of_lt (Nat.sub_le _ _) t.isLt)).1 (ix3 0 r e) + PT (outsAt0 m c (t.val-1) (Nat.lt_of_le_of_lt (Nat.sub_le _ _) t.isLt)).2 (iblk m c 5 t) (iblk m c 6 t) (iblk m c 7 t) r e) d := by
  rw [outsAt0_C m c t h0 h1 h2]
  frame_out
  clear h0 h1 h2
  rw [read_unread_whole]
  generalize (outsAt0 m c (t.val-1) (Nat.lt_of_le_of_lt (Nat.sub_le _ _) t.isLt)) = p
  canon_tiles x h
  · have hb : 768 + (x 1).val < 1024 := by clear * - x1_lt; omega
    have er : (⟨768 + (x 1).val, hb⟩ : Fin 1024) = r := Fin.ext (show 768 + (x 1).val = r.val by omega)
    subst er
    have ed : (x 2 : Fin 2048) = d := Fin.ext (show (x 2).val = d.val by omega)
    subst ed
    open_payloads; pointwise; rfl
  · have hb : 512 + (x 1).val < 1024 := by clear * - x1_lt; omega
    have er : (⟨512 + (x 1).val, hb⟩ : Fin 1024) = r := Fin.ext (show 512 + (x 1).val = r.val by omega)
    subst er
    have ed : (x 2 : Fin 2048) = d := Fin.ext (show (x 2).val = d.val by omega)
    subst ed
    open_payloads; pointwise; rfl
  · have hb : 256 + (x 1).val < 1024 := by clear * - x1_lt; omega
    have er : (⟨256 + (x 1).val, hb⟩ : Fin 1024) = r := Fin.ext (show 256 + (x 1).val = r.val by omega)
    subst er
    have ed : (x 2 : Fin 2048) = d := Fin.ext (show (x 2).val = d.val by omega)
    subst ed
    open_payloads; pointwise; rfl
  · have hb : 0 + (x 1).val < 1024 := by clear * - x1_lt; omega
    have er : (⟨0 + (x 1).val, hb⟩ : Fin 1024) = r := Fin.ext (show 0 + (x 1).val = r.val by omega)
    subst er
    have ed : (x 2 : Fin 2048) = d := Fin.ext (show (x 2).val = d.val by omega)
    subst ed
    open_payloads; pointwise; rfl

end Cert.Proof.Ffn
-- ==== Proof.Ffn.Inputs.lean ====
module
public import proofs.«01_k».proof.Proof.Ffn.Blocks
public import Idealize.ShloMosaic.Lib.Claim

/-!
The blocks a grid point of the feed-forward kernel reads, as entries of the program's arguments.
-/

@[expose] public section
set_option maxRecDepth 16384
noncomputable section
open Idealize.ShloMosaic Idealize.ShloMosaic.TcCoe Idealize.SL.Sem
namespace Cert.Proof.Ffn
open Cert.FfnIdeal Cert.FfnIdeal.Gen
variable (m : (ℓ : Loc nD τ sig) → Buf (Elt Ideal) ℓ)

theorem idx : ∀ t : Fin cfg0.N, win0_0.index t = ![t.val / 176, t.val / 11 % 16, 0] ∧ win0_1.index t = ![t.val / 176, 0, 0]
    ∧ win0_2.index t = ![0, 0] ∧ win0_3.index t = ![0, 0] ∧ win0_4.index t = ![0, 0]
    ∧ win0_5.index t = ![0, t.val % 11] ∧ win0_6.index t = ![0, 11 + t.val % 11] ∧ win0_7.index t = ![t.val % 11, 0] ∧ t.val / 176 < 2 ∧ t.val < 352 :=
  (by decide +kernel : ∀ t : Fin grid0.N, _)

abbrev A0 (c : Dev nD) : FVec Ideal S2x16384x2048 .f32 := m ((c.tc : Thread nD τ).loc main_arg0)
abbrev A1 (c : Dev nD) : FVec Ideal S2x3x3x2048 .f32 := m ((c.tc : Thread nD τ).loc main_arg1)
abbrev A2 (c : Dev nD) : FVec Ideal S1x3x2048 .f32 := m ((c.tc : Thread nD τ).loc main_arg2)
abbrev A3 (c : Dev nD) : FVec Ideal S1x3x2048 .f32 := m ((c.tc : Thread nD τ).loc main_arg3)
abbrev A4 (c : Dev nD) : FVec Ideal S1x2048 .f32 := m ((c.tc : Thread nD τ).loc main_arg4)
abbrev A5 (c : Dev nD) : FVec Ideal S1x2048x11264 .f32 := m ((c.tc : Thread nD τ).loc main_arg5)
abbrev A6 (c : Dev nD) : FVec Ideal S1x5632x2048 .f32 := m ((c.tc : Thread nD τ).loc main_arg6)

theorem i0 (c : Dev nD) (t : Fin cfg0.N) (b : Fin 2) (s : Fin 16384) (r : Fin 1024) (d : Fin 2048) (hb : b.val = t.val / 176) (hs : s.val = 1024 * (t.val / 11 % 16) + r.val) :
    (show FVec Ideal S1x1024x2048 .f32 from iblk m c 0 t) (ix3 0 r d) = A0 m c (ix3 b s d) := by
  blk_point [iblk, V, idx t]

theorem i1 (c : Dev nD) (t : Fin cfg0.N) (b : Fin 2) (j : Fin 3) (k : Fin 9) (d : Fin 2048) (hb : b.val = t.val / 176) (hk : k.val = 6 + j.val) :
    (show FVec Ideal S1x9x2048 .f32 from iblk m c 1 t) (ix3 0 k d) = A1 m c (ix4 b 2 j d) := by
  blk_point [iblk, V, idx t]

theorem i2 (c : Dev nD) (t : Fin cfg0.N) (d : Fin 2048) :
    (show FVec Ideal S1x2048 .f32 from iblk m c 2 t) (ix2 0 d) = A2 m c (ix3 0 2 d) := by
  blk_point [iblk, V, idx t]
theorem i3 (c : Dev nD) (t : Fin cfg0.N) (d : Fin 2048) :
    (show FVec Ideal S1x2048 .f32 from iblk m c 3 t) (ix2 0 d) = A3 m c (ix3 0 2 d) := by
  blk_point [iblk, V, idx t]
theorem i4 (c : Dev nD) (t : Fin cfg0.N) (d : Fin 2048) :
    (show FVec Ideal S1x2048 .f32 from iblk m c 4 t) (ix2 0 d) = A4 m c (ix2 0 d) := by
  blk_point [iblk, V, idx t]
theorem i5 (c : Dev nD) (t : Fin cfg0.N) (k : Fin 2048) (j : Fin 512) (l : Fin 11264) (hl : l.val = 512 * (t.val % 11) + j.val) :
    (show FVec Ideal S2048x512 .bf16 from iblk m c 5 t) (ix2 k j) = A5 m c (ix3 0 k l) := by
  blk_point [iblk, V, idx t]
theorem i6 (c : Dev nD) (t : Fin cfg0.N) (k : Fin 2048) (j : Fin 512) (l : Fin 11264) (hl : l.val = 5632 + 512 * (t.val % 11) + j.val) :
    (show FVec Ideal S2048x512 .bf16 from iblk m c 6 t) (ix2 k j) = A5 m c (ix3 0 k l) := by
  blk_point [iblk, V, idx t]
theorem i7 (c : Dev nD) (t : Fin cfg0.N) (j : Fin 512) (e : Fin 2048) (l : Fin 5632) (hl : l.val = 512 * (t.val % 11) + j.val) :
    (show FVec Ideal S512x2048 .bf16 from iblk m c 7 t) (ix2 j e) = A6 m c (ix3 0 l e) := by
  blk_point [iblk, V, idx t]
end Cert.Proof.Ffn
-- ==== Proof.Ffn.Fold.lean ====
module
public import proofs.«01_k».proof.Proof.Ffn.Inputs

/-!
The feed-forward kernel along the eleven chunks of one tile: the scratch keeps the normalised rows, and the
output tile gathers the chunks' parts of the second product.
-/

@[expose] public section
set_option maxRecDepth 16384
noncomputable section
open Idealize.ShloMosaic Idealize.ShloMosaic.TcCoe Idealize.SL.Sem
namespace Cert.Proof.Ffn
open Cert.FfnIdeal Cert.FfnIdeal.Gen
variable (m : (ℓ : Loc nD τ sig) → Buf (Elt Ideal) ℓ)

/-- The normalised, scaled and shifted row of token `s`. -/
def UG (c : Dev nD) (b : Fin 2) (s : Fin 16384) (d : Fin 2048) : EReal :=
  A0 m c (ix3 b s d) * RS (fun d => A0 m c (ix3 b s d)) * (A2 m c (ix3 0 2 d) * (1 + A1 m c (ix4 b 2 1 d))) + A1 m c (ix4 b 2 0 d)

/-- The hidden entry in column `l`, gated. -/
def AG (c : Dev nD) (b : Fin 2) (s : Fin 16384) (l : Fin 5632) : EReal :=
  (∑ k, UG m c b s k * A5 m c (ix3 0 k ⟨l.val, by have := l.isLt; omega⟩)) *
      (Ideal.ofBits FTy.f32 1056964608#32 * Ideal.tanh (Ideal.ofBits FTy.f32 1056964608#32 * ∑ k, UG m c b s k * A5 m c (ix3 0 k ⟨l.val, by have := l.isLt; omega⟩))
        + Ideal.ofBits FTy.f32 1056964608#32) *
    ∑ k, UG m c b s k * A5 m c (ix3 0 k ⟨5632 + l.val, by have := l.isLt; omega⟩)

/-- The part of the second product that chunk `f` gives. -/
def PG (c : Dev nD) (b : Fin 2) (s : Fin 16384) (e : Fin 2048) (f : ℕ) : EReal :=
  ∑ j : Fin 512, AG m c b s ⟨(f * 512 + j.val) % 5632, Nat.mod_lt _ (by norm_num)⟩ * A6 m c (ix3 0 ⟨(f * 512 + j.val) % 5632, Nat.mod_lt _ (by norm_num)⟩ e)

/-- The chunk's part from a scratch that holds the normalised rows. -/
theorem pt_eq (c : Dev nD) (t : Fin cfg0.N) (u : FVec Ideal S1024x2048 .bf16) (b : Fin 2) (s : Fin 16384) (r : Fin 1024) (e : Fin 2048)
    (hu : ∀ d, u (ix2 r d) = UG m c b s d) :
    PT u (iblk m c 5 t) (iblk m c 6 t) (iblk m c 7 t) r e = PG m c b s e (t.val % 11) := by
  refine Finset.sum_congr rfl fun j _ => ?_
  have hj := j.isLt
  have hf : t.val % 11 < 11 := Nat.mod_lt _ (by norm_num)
  have hm : (t.val % 11 * 512 + j.val) % 5632 = t.val % 11 * 512 + j.val := Nat.mod_eq_of_lt (by omega)
  refine congrArg₂ (· * ·) ?_ (i7 m c t j e _ (by show (t.val % 11 * 512 + j.val) % 5632 = _; omega))
  have ha : (∑ k, u (ix2 r k) * (show FVec Ideal S2048x512 .bf16 from iblk m c 5 t) (ix2 k j))
      = ∑ k, UG m c b s k * A5 m c (ix3 0 k ⟨(t.val % 11 * 512 + j.val) % 5632, by omega⟩) :=
    Finset.sum_congr rfl fun k _ => congrArg₂ (· * ·) (hu k) (i5 m c t k j _ (by show (t.val % 11 * 512 + j.val) % 5632 = _; omega))
  have hb : (∑ k, u (ix2 r k) * (show FVec Ideal S2048x512 .bf16 from iblk m c 6 t) (ix2 k j))
      = ∑ k, UG m c b s k * A5 m c (ix3 0 k ⟨5632 + (t.val % 11 * 512 + j.val) % 5632, by omega⟩) :=
    Finset.sum_congr rfl fun k _ => congrArg₂ (· * ·) (hu k) (i6 m c t k j _ (by show 5632 + (t.val % 11 * 512 + j.val) % 5632 = _; omega))
  exact congrArg₂ (· * ·) (congrArg₂ (· * ·) ha (congrArg (fun z => _ * Ideal.tanh (_ * z) + _) ha)) hb

/-- The normalised rows at a first point. -/
theorem ur_eq (c : Dev nD) (t : Fin cfg0.N) (b : Fin 2) (s : Fin 16384) (r : Fin 1024) (d : Fin 2048)
    (hb : b.val = t.val / 176) (hs : s.val = 1024 * (t.val / 11 % 16) + r.val) :
    UR (iblk m c 0 t) (iblk m c 1 t) (iblk m c 2 t) r d = UG m c b s d := by
  have h0 : ∀ d, (show FVec Ideal S1x1024x2048 .f32 from iblk m c 0 t) (ix3 0 r d) = A0 m c (ix3 b s d) := fun d => i0 m c t b s r d hb hs
  exact congrArg₂ (· + ·) (congrArg₂ (· * ·) (congrArg₂ (· * ·) (h0 d) (congrArg RS (funext h0)))
    (congrArg₂ (· * ·) (i2 m c t d) (congrArg (1 + ·) (i1 m c t b 1 7 d hb rfl)))) (i1 m c t b 0 6 d hb rfl)

theorem outs_cong (c : Dev nD) (n n' : ℕ) (h : n < cfg0.N) (h' : n' < cfg0.N) (e : n = n') : outsAt0 m c n h = outsAt0 m c n' h' := by
  subst e; rfl

/-- What a tile's points before the last leave. -/
theorem fold (c : Dev nD) (b : Fin 2) (i : Fin 16) : ∀ (f : ℕ) (hf : f < 10) (n : ℕ) (hn : n < cfg0.N), n = 176 * b.val + 11 * i.val + f →
    ∀ (s : Fin 16384) (r : Fin 1024), s.val = 1024 * i.val + r.val →
      (∀ d, (outsAt0 m c n hn).2 (ix2 r d) = UG m c b s d) ∧ ∀ e, (outsAt0 m c n hn).1 (ix3 0 r e) = ∑ f' ∈ Finset.range (f + 1), PG m c b s e f' := by
  intro f
  induction f with
  | zero =>
    intro _ n hn hne s r hs
    have hb := b.isLt
    have hi := i.isLt
    have hu : ∀ d, (outsAt0 m c n hn).2 (ix2 r d) = UG m c b s d := fun d =>
      (sA m c ⟨n, hn⟩ (by show n % 11 = 0; omega) (by show ¬(1 ≤ n % 11 ∧ n % 11 ≤ 9); omega) (by show ¬n % 11 = 10; omega) (ix2 r d) r d rfl rfl).trans
        (ur_eq m c ⟨n, hn⟩ b s r d (by show _ = n / 176; omega) (by show _ = 1024 * (n / 11 % 16) + _; omega))
    refine ⟨hu, fun e => ?_⟩
    refine (oA m c ⟨n, hn⟩ (by show n % 11 = 0; omega) (by show ¬(1 ≤ n % 11 ∧ n % 11 ≤ 9); omega) (by show ¬n % 11 = 10; omega) (ix3 0 r e) r e rfl rfl).trans ?_
    rw [pt_eq m c ⟨n, hn⟩ _ b s r e hu, Finset.sum_range_one, show (⟨n, hn⟩ : Fin cfg0.N).val % 11 = 0 from (by show n % 11 = 0; omega)]
  | succ f ih =>
    intro hf n hn hne s r hs
    have hb := b.isLt
    have hi := i.isLt
    obtain ⟨hu, hy⟩ := ih (by omega) (n - 1) (Nat.lt_of_le_of_lt (Nat.sub_le _ _) hn) (by omega) s r hs
    have h0 : ¬ n % 11 = 0 := by omega
    have h1 : 1 ≤ n % 11 ∧ n % 11 ≤ 9 := by omega
    have h2 : ¬ n % 11 = 10 := by omega
    refine ⟨fun d => ?_, fun e => ?_⟩
    · have := congrArg Prod.snd (outsAt0_B m c ⟨n, hn⟩ h0 h1 h2)
      exact (congrFun this (ix2 r d)).trans (hu d)
    · refine (oB m c ⟨n, hn⟩ h0 h1 h2 r e).trans ?_
      rw [pt_eq m c ⟨n, hn⟩ _ b s r e hu, Finset.sum_range_succ _ (f + 1)]
      refine congrArg₂ (· + ·) (hy e) (congrArg _ ?_)
      show n % 11 = f + 1
      omega

/-- The second product of token `s`. -/
def YG (c : Dev nD) (b : Fin 2) (s : Fin 16384) (e : Fin 2048) : EReal := ∑ l, AG m c b s l * A6 m c (ix3 0 l e)

/-- The residual row. -/
def XG (c : Dev nD) (b : Fin 2) (s : Fin 16384) (d : Fin 2048) : EReal :=
  A0 m c (ix3 b s d) + YG m c b s d * RS (YG m c b s) * (Ideal.ofBits FTy.f32 1056964608#32 * A1 m c (ix4 b 2 2 d) * A3 m c (ix3 0 2 d))

theorem sumPG (c : Dev nD) (b : Fin 2) (s : Fin 16384) (e : Fin 2048) : ∑ f ∈ Finset.range 11, PG m c b s e f = YG m c b s e := by
  rw [Finset.sum_range]
  refine Fin.sum_mul_add_congr fun f j hl => ?_
  have e1 : (⟨(f.val * 512 + j.val) % 5632, Nat.mod_lt _ (by norm_num)⟩ : Fin 5632) = ⟨f.val * 512 + j.val, hl⟩ := Fin.ext (Nat.mod_eq_of_lt hl)
  rw [e1]

/-- What a tile's last point leaves. -/
theorem last (c : Dev nD) (b : Fin 2) (i : Fin 16) (n : ℕ) (hn : n < cfg0.N) (hne : n = 176 * b.val + 11 * i.val + 10)
    (s : Fin 16384) (r : Fin 1024) (hs : s.val = 1024 * i.val + r.val) (y : S1x1024x2048.Idx) (d : Fin 2048) (hr : (y 1).val = r.val) (hd : (y 2).val = d.val) :
    (outsAt0 m c n hn).1 y = XG m c b s d * RS (XG m c b s) * A4 m c (ix2 0 d) := by
  have hb := b.isLt
  have hi := i.isLt
  obtain ⟨hu, hy⟩ := fold m c b i 9 (by omega) (n - 1) (Nat.lt_of_le_of_lt (Nat.sub_le _ _) hn) (by omega) s r hs
  refine (oC m c ⟨n, hn⟩ (by show ¬ n % 11 = 0; omega) (by show ¬ (1 ≤ n % 11 ∧ n % 11 ≤ 9); omega) (by show n % 11 = 10; omega) y r d hr hd).trans ?_
  have eY : (fun e => (outsAt0 m c (n - 1) (Nat.lt_of_le_of_lt (Nat.sub_le _ _) hn)).1 (ix3 0 r e)
      + PT (outsAt0 m c (n - 1) (Nat.lt_of_le_of_lt (Nat.sub_le _ _) hn)).2 (iblk m c 5 ⟨n, hn⟩) (iblk m c 6 ⟨n, hn⟩) (iblk m c 7 ⟨n, hn⟩) r e) = YG m c b s := by
    funext e
    rw [pt_eq m c ⟨n, hn⟩ _ b s r e hu, hy e, ← sumPG, Finset.sum_range_succ _ 10]
    refine congrArg (_ + PG m c b s e ·) ?_
    show n % 11 = 10
    omega
  have eX : RES (iblk m c 0 ⟨n, hn⟩) (iblk m c 1 ⟨n, hn⟩) (iblk m c 3 ⟨n, hn⟩) r (YG m c b s) = XG m c b s := by
    funext d
    exact congrArg₂ (· + ·) (i0 m c ⟨n, hn⟩ b s r d (by show _ = n / 176; omega) (by show _ = 1024 * (n / 11 % 16) + _; omega))
      (congrArg₂ (· * ·) rfl (congrArg₂ (· * ·) (congrArg₂ (· * ·) rfl (i1 m c ⟨n, hn⟩ b 2 8 d (by show _ = n / 176; omega) rfl)) (i3 m c ⟨n, hn⟩ d)))
  refine (congrArg (fun Y => FN (iblk m c 0 ⟨n, hn⟩) (iblk m c 1 ⟨n, hn⟩) (iblk m c 3 ⟨n, hn⟩) (iblk m c 4 ⟨n, hn⟩) r Y d) eY).trans ?_
  unfold FN
  rw [eX]
  exact congrArg₂ (· * ·) rfl (i4 m c ⟨n, hn⟩ d)
end Cert.Proof.Ffn
-- ==== Proof.Ffn.Ref.lean ====
module
public import proofs.«01_k».proof.Proof.Gen.FfnRefIdeal.Run
public import Idealize.ShloMosaic.Lib.Pipeline.ValueKit
public import Idealize.ShloMosaic.Lib.Pointwise

/-!
The feed-forward reference, stage by stage, and each stage read at an index.
-/

@[expose] public section
set_option maxRecDepth 16384
noncomputable section
open Idealize.ShloMosaic Idealize.ShloMosaic.TcCoe Idealize.SL.Sem
namespace Cert.Proof.Ffn.R
open Cert.FfnRefIdeal Cert.FfnRefIdeal.Gen

abbrev T3 := FVec Ideal S2x16384x2048 .f32

/-- The reciprocal root of each row's mean square, spread over the row. -/
def rn (x : T3) : T3 :=
  broadcastInDim S2x16384x2048 ![0, 1, 2] bcast_S2x16384x1_S2x16384x2048_0_1_2 (Host.rsqrt (addf (Host.divf (broadcastInDim S2x16384x1 ![0, 1] bcast_S2x16384_S2x16384x1_0_1
    (Host.reduceAdd (mulf x x) (constant S_ .f32 0x00000000#32) reducesTo_S2x16384x2048_S2x16384_d2 h_S_))
    (broadcastInDim S2x16384x1 ![] bcast_S_S2x16384x1 (constant S_ .f32 0x45000000#32))) (broadcastInDim S2x16384x1 ![] bcast_S_S2x16384x1 (constant S_ .f32 0x358637BD#32))))

/-- A gain row spread over the batch and the tokens. -/
def gn (g : FVec Ideal S2048 .f32) : T3 :=
  broadcastInDim S2x16384x2048 ![0, 1, 2] bcast_S1x1x2048_S2x16384x2048_0_1_2 (broadcastInDim S1x1x2048 ![2] bcast_S2048_S1x1x2048_2 g)

/-- The third of three gain rows. -/
def g2 (g : FVec Ideal S1x3x2048 .f32) : FVec Ideal S2048 .f32 :=
  shapeCast _ (extractStridedSlice S1x1x2048 ![0, 2, 0] g slices_S1x3x2048_S1x1x2048_0_2_0) shapeCasts_S1x1x2048_S2048

/-- The modulation rows of the third part of the layer. -/
def m2 (mod : FVec Ideal S2x3x3x2048 .f32) : FVec Ideal S2x3x2048 .f32 :=
  shapeCast _ (extractStridedSlice S2x1x3x2048 ![0, 2, 0, 0] mod slices_S2x3x3x2048_S2x1x3x2048_0_2_0_0) shapeCasts_S2x1x3x2048_S2x3x2048

def mShift (mod : FVec Ideal S2x3x3x2048 .f32) : FVec Ideal S2x1x2048 .f32 :=
  broadcastInDim S2x1x2048 ![0, 2] bcast_S2x2048_S2x1x2048_0_2 (shapeCast _ (extractStridedSlice S2x1x2048 ![0, 0, 0] (m2 mod) slices_S2x3x2048_S2x1x2048_0_0_0) shapeCasts_S2x1x2048_S2x2048)
def mScale (mod : FVec Ideal S2x3x3x2048 .f32) : FVec Ideal S2x1x2048 .f32 :=
  broadcastInDim S2x1x2048 ![0, 2] bcast_S2x2048_S2x1x2048_0_2 (shapeCast _ (extractStridedSlice S2x1x2048 ![0, 1, 0] (m2 mod) slices_S2x3x2048_S2x1x2048_0_1_0) shapeCasts_S2x1x2048_S2x2048)
def mGate (mod : FVec Ideal S2x3x3x2048 .f32) : FVec Ideal S2x1x2048 .f32 :=
  broadcastInDim S2x1x2048 ![0, 2] bcast_S2x2048_S2x1x2048_0_2 (shapeCast _ (extractStridedSlice S2x1x2048 ![0, 2, 0] (m2 mod) slices_S2x3x2048_S2x1x2048_0_2_0) shapeCasts_S2x1x2048_S2x2048)

/-- A modulation row spread over the tokens. -/
def sp (a : FVec Ideal S2x1x2048 .f32) : T3 := broadcastInDim S2x16384x2048 ![0, 1, 2] bcast_S2x1x2048_S2x16384x2048_0_1_2 a

/-- The normalised, scaled and shifted input. -/
def uu (x : T3) (mod : FVec Ideal S2x3x3x2048 .f32) (gp : FVec Ideal S1x3x2048 .f32) : T3 :=
  addf (mulf (mulf (mulf x (rn x)) (gn (g2 gp))) (sp (addf (broadcastInDim S2x1x2048 ![] bcast_S_S2x1x2048 (constant S_ .f32 0x3F800000#32)) (mScale mod)))) (sp (mShift mod))

/-- The first product. -/
def hh (u : T3) (wi : FVec Ideal S1x2048x11264 .f32) : FVec Ideal S2x16384x11264 .f32 :=
  Host.dotGeneral dot_S2x16384x2048_S2048x11264_S2x16384x11264_2_0_01_1_n_n none u (shapeCast _ wi shapeCasts_S1x2048x11264_S2048x11264)

/-- The logistic of a whole array. -/
def lg (a : FVec Ideal S2x16384x5632 .f32) : FVec Ideal S2x16384x5632 .f32 :=
  Host.divf (broadcastInDim S2x16384x5632 ![] bcast_S_S2x16384x5632 (constant S_ .f32 0x3F800000#32))
    (addf (broadcastInDim S2x16384x5632 ![] bcast_S_S2x16384x5632 (constant S_ .f32 0x3F800000#32)) (Host.exp (Host.negf a)))

def ha (h : FVec Ideal S2x16384x11264 .f32) : FVec Ideal S2x16384x5632 .f32 := extractStridedSlice S2x16384x5632 ![0, 0, 0] h slices_S2x16384x11264_S2x16384x5632_0_0_0
def hb (h : FVec Ideal S2x16384x11264 .f32) : FVec Ideal S2x16384x5632 .f32 := extractStridedSlice S2x16384x5632 ![0, 0, 5632] h slices_S2x16384x11264_S2x16384x5632_0_0_5632

/-- The gated second product. -/
def yy (h : FVec Ideal S2x16384x11264 .f32) (wo : FVec Ideal S1x5632x2048 .f32) : T3 :=
  Host.dotGeneral dot_S2x16384x5632_S5632x2048_S2x16384x2048_2_0_01_1_n_n none (mulf (mulf (ha h) (lg (ha h))) (hb h)) (shapeCast _ wo shapeCasts_S1x5632x2048_S5632x2048)

/-- The residual sum. -/
def xx (x y : T3) (mod : FVec Ideal S2x3x3x2048 .f32) (gq : FVec Ideal S1x3x2048 .f32) : T3 :=
  addf x (mulf (sp (mulf (broadcastInDim S2x1x2048 ![] bcast_S_S2x1x2048 (constant S_ .f32 0x3F000000#32)) (mGate mod))) (mulf (mulf y (rn y)) (gn (g2 gq))))

/-- The finished rows. -/
def oo (x : T3) (gf : FVec Ideal S1x2048 .f32) : T3 := mulf (mulf x (rn x)) (gn (shapeCast _ gf shapeCasts_S1x2048_S2048))

theorem res_eq (m : (ℓ : Loc nD τ sig) → Buf (Elt Ideal) ℓ) (c : Dev nD) :
    Cert.FfnRefIdeal.Value.res_main_v73 m c
      = oo (xx (m ((c.tc : Thread nD τ).loc main_arg0)) (yy (hh (uu (m ((c.tc : Thread nD τ).loc main_arg0)) (m ((c.tc : Thread nD τ).loc main_arg1)) (m ((c.tc : Thread nD τ).loc main_arg2)))
          (m ((c.tc : Thread nD τ).loc main_arg5))) (m ((c.tc : Thread nD τ).loc main_arg6))) (m ((c.tc : Thread nD τ).loc main_arg1)) (m ((c.tc : Thread nD τ).loc main_arg3)))
          (m ((c.tc : Thread nD τ).loc main_arg4)) := by
  rfl

/-- The reciprocal root of a row's mean square, the small constant added. -/
def RS (f : Fin 2048 → EReal) : EReal :=
  Ideal.rsqrt (Ideal.div (∑ d, f d * f d) (Ideal.ofBits FTy.f32 1157627904#32) + Ideal.ofBits FTy.f32 897988541#32)

theorem rn_at (x : T3) (b : Fin 2) (s : Fin 16384) (d : Fin 2048) : rn x (ix3 b s d) = RS (fun d => x (ix3 b s d)) := by
  pointwise [rn]; rfl
theorem uu_at (x : T3) (mod : FVec Ideal S2x3x3x2048 .f32) (gp : FVec Ideal S1x3x2048 .f32) (b : Fin 2) (s : Fin 16384) (d : Fin 2048) :
    uu x mod gp (ix3 b s d) = x (ix3 b s d) * RS (fun d => x (ix3 b s d)) * gp (ix3 0 2 d) * (1 + mod (ix4 b 2 1 d)) + mod (ix4 b 2 0 d) := by
  rw [← rn_at x b s d]; pointwise [uu, sp, mScale, mShift, m2, gn, g2]
theorem yy_at (u : T3) (wi : FVec Ideal S1x2048x11264 .f32) (wo : FVec Ideal S1x5632x2048 .f32) (b : Fin 2) (s : Fin 16384) (d : Fin 2048) :
    yy (hh u wi) wo (ix3 b s d) = ∑ l : Fin 5632, ((∑ k, u (ix3 b s k) * wi (ix3 0 k ⟨l, by have := l.isLt; omega⟩)) *
            Ideal.div 1 (1 + Ideal.exp (-∑ k, u (ix3 b s k) * wi (ix3 0 k ⟨l, by have := l.isLt; omega⟩))) *
          ∑ k, u (ix3 b s k) * wi (ix3 0 k ⟨5632 + l, by have := l.isLt; omega⟩)) * wo (ix3 0 l d) := by
  pointwise [yy, lg, ha, hb, hh]
theorem xx_at (x y : T3) (mod : FVec Ideal S2x3x3x2048 .f32) (gp : FVec Ideal S1x3x2048 .f32) (b : Fin 2) (s : Fin 16384) (d : Fin 2048) :
    xx x y mod gp (ix3 b s d) = x (ix3 b s d) +
      Ideal.ofBits FTy.f32 1056964608#32 * mod (ix4 b 2 2 d) * (y (ix3 b s d) * RS (fun d => y (ix3 b s d)) * gp (ix3 0 2 d)) := by
  rw [← rn_at y b s d]; pointwise [xx, sp, mGate, m2, gn, g2]
theorem oo_at (x : T3) (gf : FVec Ideal S1x2048 .f32) (b : Fin 2) (s : Fin 16384) (d : Fin 2048) :
    oo x gf (ix3 b s d) = x (ix3 b s d) * RS (fun d => x (ix3 b s d)) * gf (ix2 0 d) := by
  rw [← rn_at x b s d]; pointwise [oo, gn]
end Cert.Proof.Ffn.R
-- ==== Proof.Ffn.Logistic.lean ====
module
public import Idealize.ShloMosaic.Lib.Pipeline.ValueKit
public import Idealize.ShloMosaic.Lib.Pointwise

/-!
The logistic function by the hyperbolic tangent of half the argument, on the extended reals.
-/

@[expose] public section
noncomputable section
open Idealize.ShloMosaic
namespace Cert.Proof.Ffn

theorem half_eq : Ideal.ofBits FTy.f32 1056964608#32 = ((1 / 2 : ℝ) : EReal) := by
  simp [Ideal.ofBits, Ideal.ieee, -EReal.coe_mul]; norm_num

theorem tanh_half (r : ℝ) : (1 / 2 : ℝ) * Real.tanh ((1 / 2 : ℝ) * r) + 1 / 2 = 1 * (1 + Real.exp (-r))⁻¹ := by
  rw [Real.tanh_eq_sinh_div_cosh, Real.sinh_eq, Real.cosh_eq]
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have p1 := Real.exp_pos (1 / 2 * r)
  have p2 := Real.exp_pos (-(1 / 2 * r))
  rw [h1]
  generalize Real.exp (1 / 2 * r) = a at *
  generalize Real.exp (-(1 / 2 * r)) = b at *
  have : 1 + b * b ≠ 0 := by positivity
  field_simp
  nlinarith

theorem logistic (x : EReal) :
    Ideal.ofBits FTy.f32 1056964608#32 * Ideal.tanh (Ideal.ofBits FTy.f32 1056964608#32 * x) + Ideal.ofBits FTy.f32 1056964608#32
      = Ideal.div 1 (1 + Ideal.exp (-x)) := by
  rw [half_eq]
  induction x with
  | bot =>
    rw [EReal.coe_mul_bot_of_pos (by norm_num), EReal.neg_bot]
    show ((1 / 2 : ℝ) : EReal) * (-1) + ((1 / 2 : ℝ) : EReal) = Ideal.div 1 (1 + ⊤)
    have h1 : ((1 / 2 : ℝ) : EReal) * (-1) + ((1 / 2 : ℝ) : EReal) = 0 := by
      have : ((1 / 2 : ℝ) : EReal) * (-1) = ((-(1 / 2) : ℝ) : EReal) := by rw [mul_neg, mul_one, EReal.coe_neg]
      rw [this, ← EReal.coe_add]; norm_num
    have h2 : (1 : EReal) + ⊤ = ⊤ := by rw [← EReal.coe_one, EReal.coe_add_top]
    rw [h1, h2, Ideal.div, if_neg EReal.top_ne_zero, EReal.inv_top, mul_zero]
  | top =>
    rw [EReal.coe_mul_top_of_pos (by norm_num), EReal.neg_top]
    show ((1 / 2 : ℝ) : EReal) * 1 + ((1 / 2 : ℝ) : EReal) = Ideal.div 1 (1 + 0)
    have h1 : ((1 / 2 : ℝ) : EReal) * 1 + ((1 / 2 : ℝ) : EReal) = 1 := by rw [mul_one, ← EReal.coe_add]; norm_num
    rw [h1, add_zero, Ideal.div, if_neg one_ne_zero, ← EReal.coe_one, ← EReal.coe_inv, ← EReal.coe_mul]; norm_num
  | coe r =>
    have h1 : ((1 / 2 : ℝ) : EReal) * (r : EReal) = ((1 / 2 * r : ℝ) : EReal) := by norm_cast
    rw [h1, ← EReal.coe_neg]
    show ((1 / 2 : ℝ) : EReal) * ((Real.tanh (1 / 2 * r) : ℝ) : EReal) + ((1 / 2 : ℝ) : EReal) = Ideal.div 1 (1 + ((Real.exp (-r) : ℝ) : EReal))
    have h2 : (1 : EReal) + ((Real.exp (-r) : ℝ) : EReal) = ((1 + Real.exp (-r) : ℝ) : EReal) := by norm_cast
    have h3 : (1 + Real.exp (-r)) ≠ 0 := by positivity
    rw [h2, Ideal.div, if_neg (by exact_mod_cast h3), ← EReal.coe_inv, ← EReal.coe_mul, ← EReal.coe_add, tanh_half, EReal.coe_mul, EReal.coe_one]
end Cert.Proof.Ffn
-- ==== Proof.Ffn.Eq.lean ====
module
public import proofs.«01_k».proof.Proof.Ffn.Fold
public import proofs.«01_k».proof.Proof.Ffn.Ref
public import proofs.«01_k».proof.Proof.Ffn.Logistic

/-!
The feed-forward kernel's array is its reference's.
-/

@[expose] public section
set_option maxRecDepth 16384
noncomputable section
open Idealize.ShloMosaic Idealize.ShloMosaic.TcCoe Idealize.SL.Sem
namespace Cert.Proof.Ffn
open Cert.FfnIdeal Cert.FfnIdeal.Gen
variable (m : (ℓ : Loc nD τ sig) → Buf (Elt Ideal) ℓ)

/-- The kernel's array at an index. -/
theorem G8_at (c : Dev nD) (b : Fin 2) (s : Fin 16384) (d : Fin 2048) :
    Cert.FfnIdeal.Value.G8 m c (ix3 b s d) = XG m c b s d * RS (XG m c b s) * A4 m c (ix2 0 d) := by
  have hb := b.isLt
  have hs := s.isLt
  have hd := d.isLt
  have hp : Cert.FfnIdeal.Value.pt8Of (ix3 b s d) = 176 * b.val + 11 * (s.val / 1024) + 10 := by
    show 11 * (16 * (b.val / 1 - 0) + 1 * (s.val / 1024 - 0) + 1 * (d.val / 2048 - 0)) + 10 = _
    omega
  have hN : Cert.FfnIdeal.Value.pt8Of (ix3 b s d) < cfg0.N := by rw [hp, show cfg0.N = 352 from N_0]; omega
  rw [Cert.FfnIdeal.Value.G8, dif_pos hN, ← Cert.FfnIdeal.Value.outsAt0_sweep m c _ hN]
  exact last m c b ⟨s.val / 1024, by omega⟩ _ hN hp s ⟨s.val % 1024, by omega⟩ (by show s.val = 1024 * (s.val / 1024) + s.val % 1024; omega) _ d rfl
    (by show d.val % 2048 = d.val; omega)

/-- The reference's array at an index, over the same arguments. -/
theorem ref_at (c : Dev nD) (b : Fin 2) (s : Fin 16384) (d : Fin 2048) :
    R.oo (R.xx (A0 m c) (R.yy (R.hh (R.uu (A0 m c) (A1 m c) (A2 m c)) (A5 m c)) (A6 m c)) (A1 m c) (A3 m c)) (A4 m c) (ix3 b s d)
      = XG m c b s d * RS (XG m c b s) * A4 m c (ix2 0 d) := by
  have hU : ∀ k, R.uu (A0 m c) (A1 m c) (A2 m c) (ix3 b s k) = UG m c b s k := fun k => by
    rw [R.uu_at, mul_assoc (A0 m c (ix3 b s k) * _)]; rfl
  have hY : ∀ e, R.yy (R.hh (R.uu (A0 m c) (A1 m c) (A2 m c)) (A5 m c)) (A6 m c) (ix3 b s e) = YG m c b s e := fun e => by
    rw [R.yy_at]
    refine Finset.sum_congr rfl fun l _ => ?_
    simp only [hU, ← logistic]
    rfl
  have hX : ∀ e, R.xx (A0 m c) (R.yy (R.hh (R.uu (A0 m c) (A1 m c) (A2 m c)) (A5 m c)) (A6 m c)) (A1 m c) (A3 m c) (ix3 b s e) = XG m c b s e := fun e => by
    rw [R.xx_at]
    simp only [hY]
    refine congrArg (A0 m c (ix3 b s e) + ·) ?_
    show _ * A1 m c (ix4 b 2 2 e) * (YG m c b s e * RS (YG m c b s) * A3 m c (ix3 0 2 e)) = _
    ac_rfl
  rw [R.oo_at]
  simp only [hX]
  rfl

theorem G8_eq (c : Dev nD) : Cert.FfnIdeal.Value.G8 m c
    = R.oo (R.xx (A0 m c) (R.yy (R.hh (R.uu (A0 m c) (A1 m c) (A2 m c)) (A5 m c)) (A6 m c)) (A1 m c) (A3 m c)) (A4 m c) := by
  funext y
  obtain ⟨b, s, d, rfl⟩ : ∃ (b : Fin 2) (s : Fin 16384) (d : Fin 2048), y = ix3 b s d := ⟨y 0, y 1, y 2, eq_ix3 (n0 := 2) (n1 := 16384) (n2 := 2048) y⟩
  exact (G8_at m c b s d).trans (ref_at m c b s d).symm
end Cert.Proof.Ffn
-- ==== Proof.Ffn.Algebraic.lean ====
module
public import proofs.«01_k».proof.Defs
public import proofs.«01_k».proof.Proof.Ffn.Eq

/-!
The feed-forward kernel over the reals computes its reference.
-/

@[expose] public section
set_option maxRecDepth 16384
noncomputable section
open Idealize.ShloMosaic Idealize.ShloMosaic.TcCoe Idealize.SL.Sem
namespace Cert.Proof.Ffn

theorem algebraic_ffn : Cert.algebraic_FfnIdeal_FfnRefIdeal := fun m g m' g' _ h =>
  ⟨fun c => Cert.FfnIdeal.Value.G8 m c, Cert.FfnIdeal.Value.run m g,
    (θ_run _ _ _).mono (fun r hr c => ⟨by
      obtain ⟨h0, h1, h2, h3, h4, h5, h6⟩ := h c
      rw [(hr c).1, R.res_eq, h0, h1, h2, h3, h4, h5, h6]
      exact (G8_eq m c).symm, (hr c).2⟩) (Cert.FfnRefIdeal.Value.run m' g')⟩

end Cert.Proof.Ffn
-- ==== Proof.Ada.Value.lean ====
module
public import proofs.«01_k».proof.Proof.Gen.AdaIdeal.Value
public import proofs.«01_k».proof.Proof.Gen.AdaRefIdeal.Run
public import proofs.«01_k».proof.Proof.Ffn.Logistic
public import Idealize.ShloMosaic.Lib.Claim

/-!
The modulation kernel's array, entry by entry, is its reference's.
-/

@[expose] public section
set_option maxRecDepth 16384
noncomputable section
open Idealize.ShloMosaic Idealize.ShloMosaic.TcCoe Idealize.SL.Sem
open Idealize.ShloMosaic.Pipeline (Dat)
namespace Cert.Proof.Ada
open Cert.AdaIdeal Cert.AdaIdeal.Gen
variable (m : (ℓ : Loc nD τ sig) → Buf (Elt Ideal) ℓ)

abbrev A0 (c : Dev nD) : FVec Ideal S2x2048 .f32 := m ((c.tc : Thread nD τ).loc main_arg0)
abbrev A1 (c : Dev nD) : FVec Ideal S1x2048x18432 .f32 := m ((c.tc : Thread nD τ).loc main_arg1)
abbrev A2 (c : Dev nD) : FVec Ideal S1x18432 .f32 := m ((c.tc : Thread nD τ).loc main_arg2)

/-- The half-tangent form of `x` times its logistic. -/
def SL (x : EReal) : EReal :=
  x * (Ideal.ofBits FTy.f32 1056964608#32 * Ideal.tanh (Ideal.ofBits FTy.f32 1056964608#32 * x) + Ideal.ofBits FTy.f32 1056964608#32)

theorem idx : ∀ t : Fin cfg0.N, win0_0.index t = ![0, 0] ∧ win0_1.index t = ![0, t.val] ∧ win0_2.index t = ![0, t.val] ∧ win0_3.index t = ![0, t.val] ∧ t.val < 18 :=
  (by decide +kernel : ∀ t : Fin grid0.N, _)

theorem i0 (c : Dev nD) (t : Fin cfg0.N) (k : Fin 2048) (b : Fin 2) :
    (show FVec Ideal S2048x2 .f32 from iblk m c 0 t) (ix2 k b) = A0 m c (ix2 b k) := by
  blk_point [iblk, V, idx t]
theorem i1 (c : Dev nD) (t : Fin cfg0.N) (k : Fin 2048) (j : Fin 1024) (n : Fin 18432) (hn : n.val = 1024 * t.val + j.val) :
    (show FVec Ideal S2048x1024 .f32 from iblk m c 1 t) (ix2 k j) = A1 m c (ix3 0 k n) := by
  blk_point [iblk, V, idx t]
theorem i2 (c : Dev nD) (t : Fin cfg0.N) (j : Fin 1024) (n : Fin 18432) (hn : n.val = 1024 * t.val + j.val) :
    (show FVec Ideal S1x1024 .f32 from iblk m c 2 t) (ix2 0 j) = A2 m c (ix2 0 n) := by
  blk_point [iblk, V, idx t]

/-- The body's result at an entry. -/
theorem out_at (X : FVec Ideal S2048x2 .f32) (W : FVec Ideal S2048x1024 .f32) (B : FVec Ideal S1x1024 .f32) (b : Fin 2) (j : Fin 1024) :
    (show FVec Ideal S2x1024 .f32 from out0_3 (F := Ideal) X W B) (ix2 b j) = (∑ k, W (ix2 k j) * SL (X (ix2 k b))) + B (ix2 0 j) := by
  show out0_3 (F := Ideal) X W B (ix2 b j) = _
  rw [out0_3, Cert.AdaIdeal.Value.canon3_eq]
  have e0 : Cert.AdaIdeal.Value.ix3_0 (ix2 b j) = ix2 0 j := by
    funext a; match a with | ⟨0, _⟩ => rfl | ⟨1, _⟩ => rfl
  have e1 : Cert.AdaIdeal.Value.ix3_1 (ix2 b j) = ix2 0 j := by
    funext a; match a with | ⟨0, _⟩ => rfl | ⟨1, _⟩ => rfl
  unfold Cert.AdaIdeal.Value.E3
  rw [e0, e1]
  match b with
  | 0 =>
    unfold Cert.AdaIdeal.Value.Cat3_0
    dsimp only [Cert.AdaIdeal.Value.csel3_0]
    pointwise; rfl
  | 1 =>
    unfold Cert.AdaIdeal.Value.Cat3_0
    dsimp only [Cert.AdaIdeal.Value.csel3_0]
    pointwise; rfl

/-- The array as one function of the arguments. -/
def GA (c : Dev nD) : FVec Ideal S2x18432 .f32 := fun y => (∑ k, A1 m c (ix3 0 k (y 1)) * SL (A0 m c (ix2 (y 0) k))) + A2 m c (ix2 0 (y 1))

theorem flushed3 (c : Dev nD) (t : Fin cfg0.N) : (dats m 0 c).flushed 3 t = ((cfg0.win 3).blk t).view.read (Elt Ideal) (GA m c) := by
  obtain ⟨-, -, -, e3, h18⟩ := idx t
  refine (Cert.AdaIdeal.Value.flushed3 m c t).trans ?_
  funext y
  obtain ⟨b, j, rfl⟩ : ∃ (b : Fin 2) (j : Fin 1024), y = ix2 b j := ⟨y 0, y 1, eq_ix2 (n0 := 2) (n1 := 1024) y⟩
  have hj := j.isLt
  have hn : 1024 * t.val + j.val < 18432 := by omega
  have hix : (((cfg0.win 3).blk t).view.emb (ix2 b j) : S2x18432.Idx) = ix2 b ⟨1024 * t.val + j.val, hn⟩ := by
    funext a; apply Fin.ext
    match a with
    | ⟨0, _⟩ => show win0_3.index t (0 : Fin 2) * 2 + 1 * b.val = b.val; rw [e3]; show 0 * 2 + 1 * b.val = b.val; omega
    | ⟨1, _⟩ => show win0_3.index t (1 : Fin 2) * 1024 + 1 * j.val = 1024 * t.val + j.val; rw [e3]; show t.val * 1024 + 1 * j.val = _; omega
  refine Eq.trans ?_ (congrArg (GA m c) hix).symm
  refine (out_at (iblk m c 0 t) (iblk m c 1 t) (iblk m c 2 t) b j).trans ?_
  exact congrArg₂ (· + ·) (Finset.sum_congr rfl fun k _ => congrArg₂ (· * ·) (i1 m c t k j _ rfl) (congrArg SL (i0 m c t k b))) (i2 m c t j _ rfl)

theorem cover3 (i : S2x18432.Idx) : ∃ t : Fin cfg0.N, (cfg0.win 3).flush t = true ∧ i ∈ ((cfg0.win 3).blk t).view.set := by
  have h0 : (i 0).val < 2 := (i 0).isLt
  have h1 : (i 1).val < 18432 := (i 1).isLt
  have hN : cfg0.N = 18 := N_0
  let t : Fin cfg0.N := ⟨(i 1).val / 1024, by rw [hN]; omega⟩
  have ht : t.val = (i 1).val / 1024 := rfl
  refine ⟨t, flush0_3 t, ?_⟩
  obtain ⟨-, -, -, e3, -⟩ := idx t
  have q0 : win0_3.index t (0 : Fin 2) = 0 := congrFun e3 0
  have q1 : win0_3.index t (1 : Fin 2) = t.val := congrFun e3 1
  show i ∈ ((View.whole main_v4).slice (win0_3.rect t)).set
  rw [View.set_slice_whole, Rect.mem_set_unit]
  intro a
  match a with
  | ⟨0, _⟩ => show win0_3.index t (0 : Fin 2) * 2 ≤ (i 0).val ∧ (i 0).val < win0_3.index t (0 : Fin 2) * 2 + 2; omega
  | ⟨1, _⟩ => show win0_3.index t (1 : Fin 2) * 1024 ≤ (i 1).val ∧ (i 1).val < win0_3.index t (1 : Fin 2) * 1024 + 1024; omega

theorem arr (c : Dev nD) : (dats m 0 c).arrAt 3 cfg0.N = GA m c :=
  (dats m 0 c).arrAt_eq_of_cover 3 _ (fun t _ => flushed3 m c t) cover3

end Cert.Proof.Ada
-- ==== Proof.Ada.Algebraic.lean ====
module
public import proofs.«01_k».proof.Defs
public import proofs.«01_k».proof.Proof.Ada.Value

/-!
The modulation kernel over the reals computes its reference.
-/

@[expose] public section
set_option maxRecDepth 16384
noncomputable section
open Idealize.ShloMosaic Idealize.ShloMosaic.TcCoe Idealize.SL.Sem
namespace Cert.Proof.Ada

open Cert.AdaRefIdeal Cert.AdaRefIdeal.Gen in
/-- The reference's array, as its operations build it. -/
def RA (x : FVec Ideal S2x2048 .f32) (w : FVec Ideal S1x2048x18432 .f32) (b : FVec Ideal S1x18432 .f32) : FVec Ideal S2x18432 .f32 :=
  addf (Host.dotGeneral dot_S2x2048_S2048x18432_S2x18432_1_0_0_1_n_n none (mulf x (Host.divf (broadcastInDim S2x2048 ![] bcast_S_S2x2048 (constant S_ .f32 0x3F800000#32)) (addf (broadcastInDim S2x2048 ![] bcast_S_S2x2048 (constant S_ .f32 0x3F800000#32)) (Host.exp (Host.negf x))))) (shapeCast _ w shapeCasts_S1x2048x18432_S2048x18432)) (broadcastInDim S2x18432 ![0, 1] bcast_S1x18432_S2x18432_0_1 (broadcastInDim S1x18432 ![1] bcast_S18432_S1x18432_1 (shapeCast _ b shapeCasts_S1x18432_S18432)))

theorem ra_at (x : FVec Ideal Cert.AdaRefIdeal.S2x2048 .f32) (w : FVec Ideal Cert.AdaRefIdeal.S1x2048x18432 .f32) (b : FVec Ideal Cert.AdaRefIdeal.S1x18432 .f32) (i : Fin 2) (n : Fin 18432) :
    RA x w b (ix2 i n) = (∑ k : Fin 2048, x (ix2 i k) * Ideal.div 1 (1 + Ideal.exp (-x (ix2 i k))) * w (ix3 0 k n)) + b (ix2 0 n) := by
  pointwise [RA]

theorem same (m : (ℓ : Loc Cert.AdaIdeal.nD Cert.AdaIdeal.τ Cert.AdaIdeal.sig) → Buf (Elt Ideal) ℓ) (c : Dev Cert.AdaIdeal.nD) :
    RA (A0 m c) (A1 m c) (A2 m c) = GA m c := by
  funext y
  obtain ⟨i, n, rfl⟩ : ∃ (i : Fin 2) (n : Fin 18432), y = ix2 i n := ⟨y 0, y 1, eq_ix2 (n0 := 2) (n1 := 18432) y⟩
  refine (ra_at _ _ _ i n).trans (congrArg (· + _) (Finset.sum_congr rfl fun k _ => ?_))
  rw [← Cert.Proof.Ffn.logistic, mul_comm]
  rfl

theorem algebraic_ada : Cert.algebraic_AdaIdeal_AdaRefIdeal := fun m g m' g' _ h =>
  ⟨fun c => GA m c, (θ_run _ _ _).mono (fun r hr c => ⟨(hr c).1.trans (arr m c), (hr c).2⟩) (Cert.AdaIdeal.Value.run_blocks m g),
    (θ_run _ _ _).mono (fun r hr c => ⟨by
      obtain ⟨h0, h1, h2⟩ := h c
      rw [(hr c).1, h0, h1, h2]
      exact same m c, (hr c).2⟩) (Cert.AdaRefIdeal.Value.run m' g')⟩

end Cert.Proof.Ada
-- ==== Proof.Ffa.Blocks.lean ====
module
public import proofs.«01_k».proof.Proof.Gen.FfaIdeal.Value
public import Idealize.ShloMosaic.Lib.Pipeline.ValueKit
public import Idealize.ShloMosaic.Lib.Pointwise
public import Idealize.ShloMosaic.Lib.Pipeline.ReadBack
/-!
What the three kinds of grid point of the first feed-forward kernel leave in the output tile and in the scratch, entry by entry.
-/

@[expose] public section
set_option maxRecDepth 16384
noncomputable section
open Idealize.ShloMosaic Idealize.ShloMosaic.TcCoe Idealize.SL.Sem
open Idealize.ShloMosaic.Pipeline (Dat)
namespace Cert.Proof.Ffa
open Cert.FfaIdeal Cert.FfaIdeal.Gen
variable (m : (ℓ : Loc nD τ sig) → Buf (Elt Ideal) ℓ)

/-- The reciprocal root of a row's mean square, the small constant added. -/
def RS (f : Fin 2048 → EReal) : EReal :=
  Ideal.rsqrt (Ideal.div (∑ d, f d * f d) (Ideal.ofBits FTy.f32 1157627904#32) + Ideal.ofBits FTy.f32 897988541#32)

/-- Row `r` of the normalised, scaled and shifted block. -/
def UR (X : FVec Ideal S1x1024x2048 .f32) (M : FVec Ideal S1x9x2048 .f32) (G : FVec Ideal S1x2048 .f32) (r : Fin 1024) (d : Fin 2048) : EReal :=
  X (ix3 0 r d) * RS (fun d => X (ix3 0 r d)) * (G (ix2 0 d) * (1 + M (ix3 0 1 d))) + M (ix3 0 0 d)

/-- The gated hidden entry of row `r` in column `j` of one chunk. -/
def ACT (u : FVec Ideal S1024x2048 .bf16) (wa wb : FVec Ideal S2048x512 .bf16) (r : Fin 1024) (j : Fin 512) : EReal :=
  (∑ k, u (ix2 r k) * wa (ix2 k j)) *
      (Ideal.ofBits FTy.f32 1056964608#32 * Ideal.tanh (Ideal.ofBits FTy.f32 1056964608#32 * ∑ k, u (ix2 r k) * wa (ix2 k j)) + Ideal.ofBits FTy.f32 1056964608#32) *
    ∑ k, u (ix2 r k) * wb (ix2 k j)

/-- One chunk's part of the second product. -/
def PT (u : FVec Ideal S1024x2048 .bf16) (wa wb : FVec Ideal S2048x512 .bf16) (wo : FVec Ideal S512x2048 .bf16) (r : Fin 1024) (e : Fin 2048) : EReal :=
  ∑ j, ACT u wa wb r j * wo (ix2 j e)

/-- The row after the gated residual, from the finished second product `Y`. -/
def RES (X : FVec Ideal S1x1024x2048 .f32) (M : FVec Ideal S1x9x2048 .f32) (G3 : FVec Ideal S1x2048 .f32) (r : Fin 1024) (Y : Fin 2048 → EReal) (d : Fin 2048) : EReal :=
  X (ix3 0 r d) + Y d * RS Y * (Ideal.ofBits FTy.f32 1056964608#32 * M (ix3 0 2 d) * G3 (ix2 0 d))

/-- What the scratch holds after a first point: the normalised rows. -/
theorem sA (c : Dev nD) (t : Fin cfg0.N) (h0 : t.val % 11 = 0) (h1 : ¬(1 ≤ t.val % 11 ∧ t.val % 11 ≤ 9)) (h2 : ¬t.val % 11 = 10) (y : S1024x2048.Idx)
    (r : Fin 1024) (d : Fin 2048) (hr : (y 0).val = r.val) (hd : (y 1).val = d.val) :
    (outsAt0 m c t.val t.isLt).2 y = UR (iblk m c 0 t) (iblk m c 1 t) (iblk m c 2 t) r d := by
  rw [outsAt0_A m c t h0 h1 h2]
  frame_out
  clear h0 h1 h2
  canon_tiles x h
  · have hb : 768 + (x 0).val < 1024 := by clear * - x0_lt; omega
    have er : (⟨768 + (x 0).val, hb⟩ : Fin 1024) = r := Fin.ext (show 768 + (x 0).val = r.val by omega)
    subst er
    have ed : (x 1 : Fin 2048) = d := Fin.ext (show (x 1).val = d.val by omega)
    subst ed
    open_payloads; pointwise; rfl
  · have hb : 512 + (x 0).val < 1024 := by clear * - x0_lt; omega
    have er : (⟨512 + (x 0).val, hb⟩ : Fin 1024) = r := Fin.ext (show 512 + (x 0).val = r.val by omega)
    subst er
    have ed : (x 1 : Fin 2048) = d := Fin.ext (show (x 1).val = d.val by omega)
    subst ed
    open_payloads; pointwise; rfl
  · have hb : 256 + (x 0).val < 1024 := by clear * - x0_lt; omega
    have er : (⟨256 + (x 0).val, hb⟩ : Fin 1024) = r := Fin.ext (show 256 + (x 0).val = r.val by omega)
    subst er
    have ed : (x 1 : Fin 2048) = d := Fin.ext (show (x 1).val = d.val by omega)
    subst ed
    open_payloads; pointwise; rfl
  · have hb : 0 + (x 0).val < 1024 := by clear * - x0_lt; omega
    have er : (⟨0 + (x 0).val, hb⟩ : Fin 1024) = r := Fin.ext (show 0 + (x 0).val = r.val by omega)
    subst er
    have ed : (x 1 : Fin 2048) = d := Fin.ext (show (x 1).val = d.val by omega)
    subst ed
    open_payloads; pointwise; rfl

/-- A load after the stores, whatever they cover, reads what the stores leave. -/
theorem readCov_ld {Val : EltTy → Type} [∀ e, Nonempty (Val e)] {sg : RefSig} {κ : Kind} {sp : Space} {s : Shape} {e : EltTy} (v : View sg κ sp s e)
    (L : List (View.Piece Val s e)) (r : Rect s) : v.readCov L r.toLoadRect = View.ld (View.canon L) r := View.readCov_eq_canon' v L _

/-- What the output tile holds after a first point: the first chunk. -/
theorem oA (c : Dev nD) (t : Fin cfg0.N) (h0 : t.val % 11 = 0) (h1 : ¬(1 ≤ t.val % 11 ∧ t.val % 11 ≤ 9)) (h2 : ¬t.val % 11 = 10) (y : S1x1024x2048.Idx)
    (r : Fin 1024) (d : Fin 2048) (hr : (y 1).val = r.val) (hd : (y 2).val = d.val) :
    (outsAt0 m c t.val t.isLt).1 y = PT (outsAt0 m c t.val t.isLt).2 (iblk m c 5 t) (iblk m c 6 t) (iblk m c 7 t) r d := by
  rw [outsAt0_A m c t h0 h1 h2]
  frame_out
  clear h0 h1 h2
  simp only [readCov_ld]
  generalize View.canon (Val := Elt Ideal) (s := S1024x2048) (e := .bf16) _ = u
  canon_tiles x h
  · have hb : 768 + (x 1).val < 1024 := by clear * - x1_lt; omega
    have er : (⟨768 + (x 1).val, hb⟩ : Fin 1024) = r := Fin.ext (show 768 + (x 1).val = r.val by omega)
    subst er
    have ed : (x 2 : Fin 2048) = d := Fin.ext (show (x 2).val = d.val by omega)
    subst ed
    open_payloads; pointwise; rfl
  · have hb : 512 + (x 1).val < 1024 := by clear * - x1_lt; omega
    have er : (⟨512 + (x 1).val, hb⟩ : Fin 1024) = r := Fin.ext (show 512 + (x 1).val = r.val by omega)
    subst er
    have ed : (x 2 : Fin 2048) = d := Fin.ext (show (x 2).val = d.val by omega)
    subst ed
    open_payloads; pointwise; rfl
  · have hb : 256 + (x 1).val < 1024 := by clear * - x1_lt; omega
    have er : (⟨256 + (x 1).val, hb⟩ : Fin 1024) = r := Fin.ext (show 256 + (x 1).val = r.val by omega)
    subst er
    have ed : (x 2 : Fin 2048) = d := Fin.ext (show (x 2).val = d.val by omega)
    subst ed
    open_payloads; pointwise; rfl
  · have hb : 0 + (x 1).val < 1024 := by clear * - x1_lt; omega
    have er : (⟨0 + (x 1).val, hb⟩ : Fin 1024) = r := Fin.ext (show 0 + (x 1).val = r.val by omega)
    subst er
    have ed : (x 2 : Fin 2048) = d := Fin.ext (show (x 2).val = d.val by omega)
    subst ed
    open_payloads; pointwise; rfl

/-- A middle point adds its chunk. -/
theorem oB (c : Dev nD) (t : Fin cfg0.N) (h0 : ¬ t.val % 11 = 0) (h1 : (1 ≤ t.val % 11 ∧ t.val % 11 ≤ 9)) (h2 : ¬t.val % 11 = 10) (r : Fin 1024) (d : Fin 2048) :
    (outsAt0 m c t.val t.isLt).1 (ix3 0 r d) = (outsAt0 m c (t.val-1) (Nat.lt_of_le_of_lt (Nat.sub_le _ _) t.isLt)).1 (ix3 0 r d) + PT (outsAt0 m c (t.val-1) (Nat.lt_of_le_of_lt (Nat.sub_le _ _) t.isLt)).2 (iblk m c 5 t) (iblk m c 6 t) (iblk m c 7 t) r d := by
  rw [outsAt0_B m c t h0 h1 h2]
  frame_out
  rw [read_unread_whole]
  pointwise [k0_pay2]
  rfl

/-- The last point adds its chunk and finishes the rows. -/
theorem oC (c : Dev nD) (t : Fin cfg0.N) (h0 : ¬ t.val % 11 = 0) (h1 : ¬ (1 ≤ t.val % 11 ∧ t.val % 11 ≤ 9)) (h2 : t.val % 11 = 10) (y : S1x1024x2048.Idx)
    (r : Fin 1024) (d : Fin 2048) (hr : (y 1).val = r.val) (hd : (y 2).val = d.val) :
    (outsAt0 m c t.val t.isLt).1 y = RES (iblk m c 0 t) (iblk m c 1 t) (iblk m c 3 t) r
      (fun e => (outsAt0 m c (t.val-1) (Nat.lt_of_le_of_lt (Nat.sub_le _ _) t.isLt)).1 (ix3 0 r e) + PT (outsAt0 m c (t.val-1) (Nat.lt_of_le_of_lt (Nat.sub_le _ _) t.isLt)).2 (iblk m c 5 t) (iblk m c 6 t) (iblk m c 7 t) r e) d := by
  rw [outsAt0_C m c t h0 h1 h2]
  frame_out
  clear h0 h1 h2
  rw [read_unread_whole]
  generalize (outsAt0 m c (t.val-1) (Nat.lt_of_le_of_lt (Nat.sub_le _ _) t.isLt)) = p
  canon_tiles x h
  · have hb : 768 + (x 1).val < 1024 := by clear * - x1_lt; omega
    have er : (⟨768 + (x 1).val, hb⟩ : Fin 1024) = r := Fin.ext (show 768 + (x 1).val = r.val by omega)
    subst er
    have ed : (x 2 : Fin 2048) = d := Fin.ext (show (x 2).val = d.val by omega)
    subst ed
    open_payloads; pointwise; rfl
  · have hb : 512 + (x 1).val < 1024 := by clear * - x1_lt; omega
    have er : (⟨512 + (x 1).val, hb⟩ : Fin 1024) = r := Fin.ext (show 512 + (x 1).val = r.val by omega)
    subst er
    have ed : (x 2 : Fin 2048) = d := Fin.ext (show (x 2).val = d.val by omega)
    subst ed
    open_payloads; pointwise; rfl
  · have hb : 256 + (x 1).val < 1024 := by clear * - x1_lt; omega
    have er : (⟨256 + (x 1).val, hb⟩ : Fin 1024) = r := Fin.ext (show 256 + (x 1).val = r.val by omega)
    subst er
    have ed : (x 2 : Fin 2048) = d := Fin.ext (show (x 2).val = d.val by omega)
    subst ed
    open_payloads; pointwise; rfl
  · have hb : 0 + (x 1).val < 1024 := by clear * - x1_lt; omega
    have er : (⟨0 + (x 1).val, hb⟩ : Fin 1024) = r := Fin.ext (show 0 + (x 1).val = r.val by omega)
    subst er
    have ed : (x 2 : Fin 2048) = d := Fin.ext (show (x 2).val = d.val by omega)
    subst ed
    open_payloads; pointwise; rfl

end Cert.Proof.Ffa
-- ==== Proof.Ffa.Inputs.lean ====
module
public import proofs.«01_k».proof.Proof.Ffa.Blocks
public import Idealize.ShloMosaic.Lib.Claim

/-!
The blocks a grid point of the first feed-forward kernel reads, as entries of the program's arguments.
-/

@[expose] public section
set_option maxRecDepth 16384
noncomputable section
open Idealize.ShloMosaic Idealize.ShloMosaic.TcCoe Idealize.SL.Sem
namespace Cert.Proof.Ffa
open Cert.FfaIdeal Cert.FfaIdeal.Gen
variable (m : (ℓ : Loc nD τ sig) → Buf (Elt Ideal) ℓ)

theorem idx : ∀ t : Fin cfg0.N, win0_0.index t = ![t.val / 176, t.val / 11 % 16, 0] ∧ win0_1.index t = ![t.val / 176, 0, 0]
    ∧ win0_2.index t = ![0, 0] ∧ win0_3.index t = ![0, 0] ∧ win0_4.index t = ![0, 0]
    ∧ win0_5.index t = ![0, t.val % 11] ∧ win0_6.index t = ![0, 11 + t.val % 11] ∧ win0_7.index t = ![t.val % 11, 0] ∧ t.val / 176 < 2 ∧ t.val < 352 :=
  (by decide +kernel : ∀ t : Fin grid0.N, _)

abbrev A0 (c : Dev nD) : FVec Ideal S2x16384x2048 .f32 := m ((c.tc : Thread nD τ).loc main_arg0)
abbrev A1 (c : Dev nD) : FVec Ideal S2x3x3x2048 .f32 := m ((c.tc : Thread nD τ).loc main_arg1)
abbrev A2 (c : Dev nD) : FVec Ideal S1x3x2048 .f32 := m ((c.tc : Thread nD τ).loc main_arg2)
abbrev A3 (c : Dev nD) : FVec Ideal S1x3x2048 .f32 := m ((c.tc : Thread nD τ).loc main_arg3)
abbrev A5 (c : Dev nD) : FVec Ideal S1x2048x11264 .f32 := m ((c.tc : Thread nD τ).loc main_arg5)
abbrev A6 (c : Dev nD) : FVec Ideal S1x5632x2048 .f32 := m ((c.tc : Thread nD τ).loc main_arg6)

theorem i0 (c : Dev nD) (t : Fin cfg0.N) (b : Fin 2) (s : Fin 16384) (r : Fin 1024) (d : Fin 2048) (hb : b.val = t.val / 176) (hs : s.val = 1024 * (t.val / 11 % 16) + r.val) :
    (show FVec Ideal S1x1024x2048 .f32 from iblk m c 0 t) (ix3 0 r d) = A0 m c (ix3 b s d) := by
  blk_point [iblk, V, idx t]

theorem i1 (c : Dev nD) (t : Fin cfg0.N) (b : Fin 2) (j : Fin 3) (k : Fin 9) (d : Fin 2048) (hb : b.val = t.val / 176) (hk : k.val = j.val) :
    (show FVec Ideal S1x9x2048 .f32 from iblk m c 1 t) (ix3 0 k d) = A1 m c (ix4 b 0 j d) := by
  blk_point [iblk, V, idx t]

theorem i2 (c : Dev nD) (t : Fin cfg0.N) (d : Fin 2048) :
    (show FVec Ideal S1x2048 .f32 from iblk m c 2 t) (ix2 0 d) = A2 m c (ix3 0 0 d) := by
  blk_point [iblk, V, idx t]
theorem i3 (c : Dev nD) (t : Fin cfg0.N) (d : Fin 2048) :
    (show FVec Ideal S1x2048 .f32 from iblk m c 3 t) (ix2 0 d) = A3 m c (ix3 0 0 d) := by
  blk_point [iblk, V, idx t]
theorem i5 (c : Dev nD) (t : Fin cfg0.N) (k : Fin 2048) (j : Fin 512) (l : Fin 11264) (hl : l.val = 512 * (t.val % 11) + j.val) :
    (show FVec Ideal S2048x512 .bf16 from iblk m c 5 t) (ix2 k j) = A5 m c (ix3 0 k l) := by
  blk_point [iblk, V, idx t]
theorem i6 (c : Dev nD) (t : Fin cfg0.N) (k : Fin 2048) (j : Fin 512) (l : Fin 11264) (hl : l.val = 5632 + 512 * (t.val % 11) + j.val) :
    (show FVec Ideal S2048x512 .bf16 from iblk m c 6 t) (ix2 k j) = A5 m c (ix3 0 k l) := by
  blk_point [iblk, V, idx t]
theorem i7 (c : Dev nD) (t : Fin cfg0.N) (j : Fin 512) (e : Fin 2048) (l : Fin 5632) (hl : l.val = 512 * (t.val % 11) + j.val) :
    (show FVec Ideal S512x2048 .bf16 from iblk m c 7 t) (ix2 j e) = A6 m c (ix3 0 l e) := by
  blk_point [iblk, V, idx t]
end Cert.Proof.Ffa
-- ==== Proof.Ffa.Fold.lean ====
module
public import proofs.«01_k».proof.Proof.Ffa.Inputs

/-!
The first feed-forward kernel along the eleven chunks of one tile: the scratch keeps the normalised rows, and the
output tile gathers the chunks' parts of the second product.
-/

@[expose] public section
set_option maxRecDepth 16384
noncomputable section
open Idealize.ShloMosaic Idealize.ShloMosaic.TcCoe Idealize.SL.Sem
namespace Cert.Proof.Ffa
open Cert.FfaIdeal Cert.FfaIdeal.Gen
variable (m : (ℓ : Loc nD τ sig) → Buf (Elt Ideal) ℓ)

/-- The normalised, scaled and shifted row of token `s`. -/
def UG (c : Dev nD) (b : Fin 2) (s : Fin 16384) (d : Fin 2048) : EReal :=
  A0 m c (ix3 b s d) * RS (fun d => A0 m c (ix3 b s d)) * (A2 m c (ix3 0 0 d) * (1 + A1 m c (ix4 b 0 1 d))) + A1 m c (ix4 b 0 0 d)

/-- The hidden entry in column `l`, gated. -/
def AG (c : Dev nD) (b : Fin 2) (s : Fin 16384) (l : Fin 5632) : EReal :=
  (∑ k, UG m c b s k * A5 m c (ix3 0 k ⟨l.val, by have := l.isLt; omega⟩)) *
      (Ideal.ofBits FTy.f32 1056964608#32 * Ideal.tanh (Ideal.ofBits FTy.f32 1056964608#32 * ∑ k, UG m c b s k * A5 m c (ix3 0 k ⟨l.val, by have := l.isLt; omega⟩))
        + Ideal.ofBits FTy.f32 1056964608#32) *
    ∑ k, UG m c b s k * A5 m c (ix3 0 k ⟨5632 + l.val, by have := l.isLt; omega⟩)

/-- The part of the second product that chunk `f` gives. -/
def PG (c : Dev nD) (b : Fin 2) (s : Fin 16384) (e : Fin 2048) (f : ℕ) : EReal :=
  ∑ j : Fin 512, AG m c b s ⟨(f * 512 + j.val) % 5632, Nat.mod_lt _ (by norm_num)⟩ * A6 m c (ix3 0 ⟨(f * 512 + j.val) % 5632, Nat.mod_lt _ (by norm_num)⟩ e)

/-- The chunk's part from a scratch that holds the normalised rows. -/
theorem pt_eq (c : Dev nD) (t : Fin cfg0.N) (u : FVec Ideal S1024x2048 .bf16) (b : Fin 2) (s : Fin 16384) (r : Fin 1024) (e : Fin 2048)
    (hu : ∀ d, u (ix2 r d) = UG m c b s d) :
    PT u (iblk m c 5 t) (iblk m c 6 t) (iblk m c 7 t) r e = PG m c b s e (t.val % 11) := by
  refine Finset.sum_congr rfl fun j _ => ?_
  have hj := j.isLt
  have hf : t.val % 11 < 11 := Nat.mod_lt _ (by norm_num)
  have hm : (t.val % 11 * 512 + j.val) % 5632 = t.val % 11 * 512 + j.val := Nat.mod_eq_of_lt (by omega)
  refine congrArg₂ (· * ·) ?_ (i7 m c t j e _ (by show (t.val % 11 * 512 + j.val) % 5632 = _; omega))
  have ha : (∑ k, u (ix2 r k) * (show FVec Ideal S2048x512 .bf16 from iblk m c 5 t) (ix2 k j))
      = ∑ k, UG m c b s k * A5 m c (ix3 0 k ⟨(t.val % 11 * 512 + j.val) % 5632, by omega⟩) :=
    Finset.sum_congr rfl fun k _ => congrArg₂ (· * ·) (hu k) (i5 m c t k j _ (by show (t.val % 11 * 512 + j.val) % 5632 = _; omega))
  have hb : (∑ k, u (ix2 r k) * (show FVec Ideal S2048x512 .bf16 from iblk m c 6 t) (ix2 k j))
      = ∑ k, UG m c b s k * A5 m c (ix3 0 k ⟨5632 + (t.val % 11 * 512 + j.val) % 5632, by omega⟩) :=
    Finset.sum_congr rfl fun k _ => congrArg₂ (· * ·) (hu k) (i6 m c t k j _ (by show 5632 + (t.val % 11 * 512 + j.val) % 5632 = _; omega))
  exact congrArg₂ (· * ·) (congrArg₂ (· * ·) ha (congrArg (fun z => _ * Ideal.tanh (_ * z) + _) ha)) hb

/-- The normalised rows at a first point. -/
theorem ur_eq (c : Dev nD) (t : Fin cfg0.N) (b : Fin 2) (s : Fin 16384) (r : Fin 1024) (d : Fin 2048)
    (hb : b.val = t.val / 176) (hs : s.val = 1024 * (t.val / 11 % 16) + r.val) :
    UR (iblk m c 0 t) (iblk m c 1 t) (iblk m c 2 t) r d = UG m c b s d := by
  have h0 : ∀ d, (show FVec Ideal S1x1024x2048 .f32 from iblk m c 0 t) (ix3 0 r d) = A0 m c (ix3 b s d) := fun d => i0 m c t b s r d hb hs
  exact congrArg₂ (· + ·) (congrArg₂ (· * ·) (congrArg₂ (· * ·) (h0 d) (congrArg RS (funext h0)))
    (congrArg₂ (· * ·) (i2 m c t d) (congrArg (1 + ·) (i1 m c t b 1 1 d hb rfl)))) (i1 m c t b 0 0 d hb rfl)

theorem outs_cong (c : Dev nD) (n n' : ℕ) (h : n < cfg0.N) (h' : n' < cfg0.N) (e : n = n') : outsAt0 m c n h = outsAt0 m c n' h' := by
  subst e; rfl

/-- What a tile's points before the last leave. -/
theorem fold (c : Dev nD) (b : Fin 2) (i : Fin 16) : ∀ (f : ℕ) (hf : f < 10) (n : ℕ) (hn : n < cfg0.N), n = 176 * b.val + 11 * i.val + f →
    ∀ (s : Fin 16384) (r : Fin 1024), s.val = 1024 * i.val + r.val →
      (∀ d, (outsAt0 m c n hn).2 (ix2 r d) = UG m c b s d) ∧ ∀ e, (outsAt0 m c n hn).1 (ix3 0 r e) = ∑ f' ∈ Finset.range (f + 1), PG m c b s e f' := by
  intro f
  induction f with
  | zero =>
    intro _ n hn hne s r hs
    have hb := b.isLt
    have hi := i.isLt
    have hu : ∀ d, (outsAt0 m c n hn).2 (ix2 r d) = UG m c b s d := fun d =>
      (sA m c ⟨n, hn⟩ (by show n % 11 = 0; omega) (by show ¬(1 ≤ n % 11 ∧ n % 11 ≤ 9); omega) (by show ¬n % 11 = 10; omega) (ix2 r d) r d rfl rfl).trans
        (ur_eq m c ⟨n, hn⟩ b s r d (by show _ = n / 176; omega) (by show _ = 1024 * (n / 11 % 16) + _; omega))
    refine ⟨hu, fun e => ?_⟩
    refine (oA m c ⟨n, hn⟩ (by show n % 11 = 0; omega) (by show ¬(1 ≤ n % 11 ∧ n % 11 ≤ 9); omega) (by show ¬n % 11 = 10; omega) (ix3 0 r e) r e rfl rfl).trans ?_
    rw [pt_eq m c ⟨n, hn⟩ _ b s r e hu, Finset.sum_range_one, show (⟨n, hn⟩ : Fin cfg0.N).val % 11 = 0 from (by show n % 11 = 0; omega)]
  | succ f ih =>
    intro hf n hn hne s r hs
    have hb := b.isLt
    have hi := i.isLt
    obtain ⟨hu, hy⟩ := ih (by omega) (n - 1) (Nat.lt_of_le_of_lt (Nat.sub_le _ _) hn) (by omega) s r hs
    have h0 : ¬ n % 11 = 0 := by omega
    have h1 : 1 ≤ n % 11 ∧ n % 11 ≤ 9 := by omega
    have h2 : ¬ n % 11 = 10 := by omega
    refine ⟨fun d => ?_, fun e => ?_⟩
    · have := congrArg Prod.snd (outsAt0_B m c ⟨n, hn⟩ h0 h1 h2)
      exact (congrFun this (ix2 r d)).trans (hu d)
    · refine (oB m c ⟨n, hn⟩ h0 h1 h2 r e).trans ?_
      rw [pt_eq m c ⟨n, hn⟩ _ b s r e hu, Finset.sum_range_succ _ (f + 1)]
      refine congrArg₂ (· + ·) (hy e) (congrArg _ ?_)
      show n % 11 = f + 1
      omega

/-- The second product of token `s`. -/
def YG (c : Dev nD) (b : Fin 2) (s : Fin 16384) (e : Fin 2048) : EReal := ∑ l, AG m c b s l * A6 m c (ix3 0 l e)

/-- The residual row. -/
def XG (c : Dev nD) (b : Fin 2) (s : Fin 16384) (d : Fin 2048) : EReal :=
  A0 m c (ix3 b s d) + YG m c b s d * RS (YG m c b s) * (Ideal.ofBits FTy.f32 1056964608#32 * A1 m c (ix4 b 0 2 d) * A3 m c (ix3 0 0 d))

theorem sumPG (c : Dev nD) (b : Fin 2) (s : Fin 16384) (e : Fin 2048) : ∑ f ∈ Finset.range 11, PG m c b s e f = YG m c b s e := by
  rw [Finset.sum_range]
  refine Fin.sum_mul_add_congr fun f j hl => ?_
  have e1 : (⟨(f.val * 512 + j.val) % 5632, Nat.mod_lt _ (by norm_num)⟩ : Fin 5632) = ⟨f.val * 512 + j.val, hl⟩ := Fin.ext (Nat.mod_eq_of_lt hl)
  rw [e1]

/-- What a tile's last point leaves. -/
theorem last (c : Dev nD) (b : Fin 2) (i : Fin 16) (n : ℕ) (hn : n < cfg0.N) (hne : n = 176 * b.val + 11 * i.val + 10)
    (s : Fin 16384) (r : Fin 1024) (hs : s.val = 1024 * i.val + r.val) (y : S1x1024x2048.Idx) (d : Fin 2048) (hr : (y 1).val = r.val) (hd : (y 2).val = d.val) :
    (outsAt0 m c n hn).1 y = XG m c b s d := by
  have hb := b.isLt
  have hi := i.isLt
  obtain ⟨hu, hy⟩ := fold m c b i 9 (by omega) (n - 1) (Nat.lt_of_le_of_lt (Nat.sub_le _ _) hn) (by omega) s r hs
  refine (oC m c ⟨n, hn⟩ (by show ¬ n % 11 = 0; omega) (by show ¬ (1 ≤ n % 11 ∧ n % 11 ≤ 9); omega) (by show n % 11 = 10; omega) y r d hr hd).trans ?_
  have eY : (fun e => (outsAt0 m c (n - 1) (Nat.lt_of_le_of_lt (Nat.sub_le _ _) hn)).1 (ix3 0 r e)
      + PT (outsAt0 m c (n - 1) (Nat.lt_of_le_of_lt (Nat.sub_le _ _) hn)).2 (iblk m c 5 ⟨n, hn⟩) (iblk m c 6 ⟨n, hn⟩) (iblk m c 7 ⟨n, hn⟩) r e) = YG m c b s := by
    funext e
    rw [pt_eq m c ⟨n, hn⟩ _ b s r e hu, hy e, ← sumPG, Finset.sum_range_succ _ 10]
    refine congrArg (_ + PG m c b s e ·) ?_
    show n % 11 = 10
    omega
  have eX : RES (iblk m c 0 ⟨n, hn⟩) (iblk m c 1 ⟨n, hn⟩) (iblk m c 3 ⟨n, hn⟩) r (YG m c b s) = XG m c b s := by
    funext d
    exact congrArg₂ (· + ·) (i0 m c ⟨n, hn⟩ b s r d (by show _ = n / 176; omega) (by show _ = 1024 * (n / 11 % 16) + _; omega))
      (congrArg₂ (· * ·) rfl (congrArg₂ (· * ·) (congrArg₂ (· * ·) rfl (i1 m c ⟨n, hn⟩ b 2 2 d (by show _ = n / 176; omega) rfl)) (i3 m c ⟨n, hn⟩ d)))
  refine (congrArg (fun Y => RES (iblk m c 0 ⟨n, hn⟩) (iblk m c 1 ⟨n, hn⟩) (iblk m c 3 ⟨n, hn⟩) r Y d) eY).trans ?_
  exact congrFun eX d
end Cert.Proof.Ffa
-- ==== Proof.Ffa.Ref.lean ====
module
public import proofs.«01_k».proof.Proof.Gen.FfaRefIdeal.Run
public import Idealize.ShloMosaic.Lib.Pipeline.ValueKit
public import Idealize.ShloMosaic.Lib.Pointwise

/-!
The first feed-forward reference, stage by stage, and each stage read at an index.
-/

@[expose] public section
set_option maxRecDepth 16384
noncomputable section
open Idealize.ShloMosaic Idealize.ShloMosaic.TcCoe Idealize.SL.Sem
namespace Cert.Proof.Ffa.R
open Cert.FfaRefIdeal Cert.FfaRefIdeal.Gen

abbrev T3 := FVec Ideal S2x16384x2048 .f32

/-- The reciprocal root of each row's mean square, spread over the row. -/
def rn (x : T3) : T3 :=
  broadcastInDim S2x16384x2048 ![0, 1, 2] bcast_S2x16384x1_S2x16384x2048_0_1_2 (Host.rsqrt (addf (Host.divf (broadcastInDim S2x16384x1 ![0, 1] bcast_S2x16384_S2x16384x1_0_1
    (Host.reduceAdd (mulf x x) (constant S_ .f32 0x00000000#32) reducesTo_S2x16384x2048_S2x16384_d2 h_S_))
    (broadcastInDim S2x16384x1 ![] bcast_S_S2x16384x1 (constant S_ .f32 0x45000000#32))) (broadcastInDim S2x16384x1 ![] bcast_S_S2x16384x1 (constant S_ .f32 0x358637BD#32))))

/-- A gain row spread over the batch and the tokens. -/
def gn (g : FVec Ideal S2048 .f32) : T3 :=
  broadcastInDim S2x16384x2048 ![0, 1, 2] bcast_S1x1x2048_S2x16384x2048_0_1_2 (broadcastInDim S1x1x2048 ![2] bcast_S2048_S1x1x2048_2 g)

/-- The first of three gain rows. -/
def g2 (g : FVec Ideal S1x3x2048 .f32) : FVec Ideal S2048 .f32 :=
  shapeCast _ (extractStridedSlice S1x1x2048 ![0, 0, 0] g slices_S1x3x2048_S1x1x2048_0_0_0) shapeCasts_S1x1x2048_S2048

/-- The modulation rows of the first part of the layer. -/
def m2 (mod : FVec Ideal S2x3x3x2048 .f32) : FVec Ideal S2x3x2048 .f32 :=
  shapeCast _ (extractStridedSlice S2x1x3x2048 ![0, 0, 0, 0] mod slices_S2x3x3x2048_S2x1x3x2048_0_0_0_0) shapeCasts_S2x1x3x2048_S2x3x2048

def mShift (mod : FVec Ideal S2x3x3x2048 .f32) : FVec Ideal S2x1x2048 .f32 :=
  broadcastInDim S2x1x2048 ![0, 2] bcast_S2x2048_S2x1x2048_0_2 (shapeCast _ (extractStridedSlice S2x1x2048 ![0, 0, 0] (m2 mod) slices_S2x3x2048_S2x1x2048_0_0_0) shapeCasts_S2x1x2048_S2x2048)
def mScale (mod : FVec Ideal S2x3x3x2048 .f32) : FVec Ideal S2x1x2048 .f32 :=
  broadcastInDim S2x1x2048 ![0, 2] bcast_S2x2048_S2x1x2048_0_2 (shapeCast _ (extractStridedSlice S2x1x2048 ![0, 1, 0] (m2 mod) slices_S2x3x2048_S2x1x2048_0_1_0) shapeCasts_S2x1x2048_S2x2048)
def mGate (mod : FVec Ideal S2x3x3x2048 .f32) : FVec Ideal S2x1x2048 .f32 :=
  broadcastInDim S2x1x2048 ![0, 2] bcast_S2x2048_S2x1x2048_0_2 (shapeCast _ (extractStridedSlice S2x1x2048 ![0, 2, 0] (m2 mod) slices_S2x3x2048_S2x1x2048_0_2_0) shapeCasts_S2x1x2048_S2x2048)

/-- A modulation row spread over the tokens. -/
def sp (a : FVec Ideal S2x1x2048 .f32) : T3 := broadcastInDim S2x16384x2048 ![0, 1, 2] bcast_S2x1x2048_S2x16384x2048_0_1_2 a

/-- The normalised, scaled and shifted input. -/
def uu (x : T3) (mod : FVec Ideal S2x3x3x2048 .f32) (gp : FVec Ideal S1x3x2048 .f32) : T3 :=
  addf (mulf (mulf (mulf x (rn x)) (gn (g2 gp))) (sp (addf (broadcastInDim S2x1x2048 ![] bcast_S_S2x1x2048 (constant S_ .f32 0x3F800000#32)) (mScale mod)))) (sp (mShift mod))

/-- The first product. -/
def hh (u : T3) (wi : FVec Ideal S1x2048x11264 .f32) : FVec Ideal S2x16384x11264 .f32 :=
  Host.dotGeneral dot_S2x16384x2048_S2048x11264_S2x16384x11264_2_0_01_1_n_n none u (shapeCast _ wi shapeCasts_S1x2048x11264_S2048x11264)

/-- The logistic of a whole array. -/
def lg (a : FVec Ideal S2x16384x5632 .f32) : FVec Ideal S2x16384x5632 .f32 :=
  Host.divf (broadcastInDim S2x16384x5632 ![] bcast_S_S2x16384x5632 (constant S_ .f32 0x3F800000#32))
    (addf (broadcastInDim S2x16384x5632 ![] bcast_S_S2x16384x5632 (constant S_ .f32 0x3F800000#32)) (Host.exp (Host.negf a)))

def ha (h : FVec Ideal S2x16384x11264 .f32) : FVec Ideal S2x16384x5632 .f32 := extractStridedSlice S2x16384x5632 ![0, 0, 0] h slices_S2x16384x11264_S2x16384x5632_0_0_0
def hb (h : FVec Ideal S2x16384x11264 .f32) : FVec Ideal S2x16384x5632 .f32 := extractStridedSlice S2x16384x5632 ![0, 0, 5632] h slices_S2x16384x11264_S2x16384x5632_0_0_5632

/-- The gated second product. -/
def yy (h : FVec Ideal S2x16384x11264 .f32) (wo : FVec Ideal S1x5632x2048 .f32) : T3 :=
  Host.dotGeneral dot_S2x16384x5632_S5632x2048_S2x16384x2048_2_0_01_1_n_n none (mulf (mulf (ha h) (lg (ha h))) (hb h)) (shapeCast _ wo shapeCasts_S1x5632x2048_S5632x2048)

/-- The residual sum. -/
def xx (x y : T3) (mod : FVec Ideal S2x3x3x2048 .f32) (gq : FVec Ideal S1x3x2048 .f32) : T3 :=
  addf x (mulf (sp (mulf (broadcastInDim S2x1x2048 ![] bcast_S_S2x1x2048 (constant S_ .f32 0x3F000000#32)) (mGate mod))) (mulf (mulf y (rn y)) (gn (g2 gq))))

theorem res_eq (m : (ℓ : Loc nD τ sig) → Buf (Elt Ideal) ℓ) (c : Dev nD) :
    Cert.FfaRefIdeal.Value.res_main_v59 m c
      = xx (m ((c.tc : Thread nD τ).loc main_arg0)) (yy (hh (uu (m ((c.tc : Thread nD τ).loc main_arg0)) (m ((c.tc : Thread nD τ).loc main_arg1)) (m ((c.tc : Thread nD τ).loc main_arg2)))
          (m ((c.tc : Thread nD τ).loc main_arg5))) (m ((c.tc : Thread nD τ).loc main_arg6))) (m ((c.tc : Thread nD τ).loc main_arg1)) (m ((c.tc : Thread nD τ).loc main_arg3)) := by
  rfl

/-- The reciprocal root of a row's mean square, the small constant added. -/
def RS (f : Fin 2048 → EReal) : EReal :=
  Ideal.rsqrt (Ideal.div (∑ d, f d * f d) (Ideal.ofBits FTy.f32 1157627904#32) + Ideal.ofBits FTy.f32 897988541#32)

theorem rn_at (x : T3) (b : Fin 2) (s : Fin 16384) (d : Fin 2048) : rn x (ix3 b s d) = RS (fun d => x (ix3 b s d)) := by
  pointwise [rn]; rfl
theorem uu_at (x : T3) (mod : FVec Ideal S2x3x3x2048 .f32) (gp : FVec Ideal S1x3x2048 .f32) (b : Fin 2) (s : Fin 16384) (d : Fin 2048) :
    uu x mod gp (ix3 b s d) = x (ix3 b s d) * RS (fun d => x (ix3 b s d)) * gp (ix3 0 0 d) * (1 + mod (ix4 b 0 1 d)) + mod (ix4 b 0 0 d) := by
  rw [← rn_at x b s d]; pointwise [uu, sp, mScale, mShift, m2, gn, g2]
theorem yy_at (u : T3) (wi : FVec Ideal S1x2048x11264 .f32) (wo : FVec Ideal S1x5632x2048 .f32) (b : Fin 2) (s : Fin 16384) (d : Fin 2048) :
    yy (hh u wi) wo (ix3 b s d) = ∑ l : Fin 5632, ((∑ k, u (ix3 b s k) * wi (ix3 0 k ⟨l, by have := l.isLt; omega⟩)) *
            Ideal.div 1 (1 + Ideal.exp (-∑ k, u (ix3 b s k) * wi (ix3 0 k ⟨l, by have := l.isLt; omega⟩))) *
          ∑ k, u (ix3 b s k) * wi (ix3 0 k ⟨5632 + l, by have := l.isLt; omega⟩)) * wo (ix3 0 l d) := by
  pointwise [yy, lg, ha, hb, hh]
theorem xx_at (x y : T3) (mod : FVec Ideal S2x3x3x2048 .f32) (gp : FVec Ideal S1x3x2048 .f32) (b : Fin 2) (s : Fin 16384) (d : Fin 2048) :
    xx x y mod gp (ix3 b s d) = x (ix3 b s d) +
      Ideal.ofBits FTy.f32 1056964608#32 * mod (ix4 b 0 2 d) * (y (ix3 b s d) * RS (fun d => y (ix3 b s d)) * gp (ix3 0 0 d)) := by
  rw [← rn_at y b s d]; pointwise [xx, sp, mGate, m2, gn, g2]
end Cert.Proof.Ffa.R
-- ==== Proof.Ffa.Eq.lean ====
module
public import proofs.«01_k».proof.Proof.Ffa.Fold
public import proofs.«01_k».proof.Proof.Ffa.Ref
public import proofs.«01_k».proof.Proof.Ffn.Logistic

/-!
The first feed-forward kernel's array is its reference's.
-/

@[expose] public section
set_option maxRecDepth 16384
noncomputable section
open Idealize.ShloMosaic Idealize.ShloMosaic.TcCoe Idealize.SL.Sem
namespace Cert.Proof.Ffa
open Cert.FfaIdeal Cert.FfaIdeal.Gen
variable (m : (ℓ : Loc nD τ sig) → Buf (Elt Ideal) ℓ)

/-- The kernel's array at an index. -/
theorem G8_at (c : Dev nD) (b : Fin 2) (s : Fin 16384) (d : Fin 2048) :
    Cert.FfaIdeal.Value.G8 m c (ix3 b s d) = XG m c b s d := by
  have hb := b.isLt
  have hs := s.isLt
  have hd := d.isLt
  have hp : Cert.FfaIdeal.Value.pt8Of (ix3 b s d) = 176 * b.val + 11 * (s.val / 1024) + 10 := by
    show 11 * (16 * (b.val / 1 - 0) + 1 * (s.val / 1024 - 0) + 1 * (d.val / 2048 - 0)) + 10 = _
    omega
  have hN : Cert.FfaIdeal.Value.pt8Of (ix3 b s d) < cfg0.N := by rw [hp, show cfg0.N = 352 from N_0]; omega
  rw [Cert.FfaIdeal.Value.G8, dif_pos hN, ← Cert.FfaIdeal.Value.outsAt0_sweep m c _ hN]
  exact last m c b ⟨s.val / 1024, by omega⟩ _ hN hp s ⟨s.val % 1024, by omega⟩ (by show s.val = 1024 * (s.val / 1024) + s.val % 1024; omega) _ d rfl
    (by show d.val % 2048 = d.val; omega)

/-- The reference's array at an index, over the same arguments. -/
theorem ref_at (c : Dev nD) (b : Fin 2) (s : Fin 16384) (d : Fin 2048) :
    R.xx (A0 m c) (R.yy (R.hh (R.uu (A0 m c) (A1 m c) (A2 m c)) (A5 m c)) (A6 m c)) (A1 m c) (A3 m c) (ix3 b s d)
      = XG m c b s d := by
  have hU : ∀ k, R.uu (A0 m c) (A1 m c) (A2 m c) (ix3 b s k) = UG m c b s k := fun k => by
    rw [R.uu_at, mul_assoc (A0 m c (ix3 b s k) * _)]; rfl
  have hY : ∀ e, R.yy (R.hh (R.uu (A0 m c) (A1 m c) (A2 m c)) (A5 m c)) (A6 m c) (ix3 b s e) = YG m c b s e := fun e => by
    rw [R.yy_at]
    refine Finset.sum_congr rfl fun l _ => ?_
    simp only [hU, ← Cert.Proof.Ffn.logistic]
    rfl
  have hX : ∀ e, R.xx (A0 m c) (R.yy (R.hh (R.uu (A0 m c) (A1 m c) (A2 m c)) (A5 m c)) (A6 m c)) (A1 m c) (A3 m c) (ix3 b s e) = XG m c b s e := fun e => by
    rw [R.xx_at]
    simp only [hY]
    refine congrArg (A0 m c (ix3 b s e) + ·) ?_
    show _ * A1 m c (ix4 b 0 2 e) * (YG m c b s e * RS (YG m c b s) * A3 m c (ix3 0 0 e)) = _
    ac_rfl
  exact hX d

theorem G8_eq (c : Dev nD) : Cert.FfaIdeal.Value.G8 m c
    = R.xx (A0 m c) (R.yy (R.hh (R.uu (A0 m c) (A1 m c) (A2 m c)) (A5 m c)) (A6 m c)) (A1 m c) (A3 m c) := by
  funext y
  obtain ⟨b, s, d, rfl⟩ : ∃ (b : Fin 2) (s : Fin 16384) (d : Fin 2048), y = ix3 b s d := ⟨y 0, y 1, y 2, eq_ix3 (n0 := 2) (n1 := 16384) (n2 := 2048) y⟩
  exact (G8_at m c b s d).trans (ref_at m c b s d).symm
end Cert.Proof.Ffa
-- ==== Proof.Ffa.Algebraic.lean ====
module
public import proofs.«01_k».proof.Defs
public import proofs.«01_k».proof.Proof.Ffa.Eq

/-!
The first feed-forward kernel over the reals computes its reference.
-/

@[expose] public section
set_option maxRecDepth 16384
noncomputable section
open Idealize.ShloMosaic Idealize.ShloMosaic.TcCoe Idealize.SL.Sem
namespace Cert.Proof.Ffa

theorem algebraic_ffa : Cert.algebraic_FfaIdeal_FfaRefIdeal := fun m g m' g' _ h =>
  ⟨fun c => Cert.FfaIdeal.Value.G8 m c, Cert.FfaIdeal.Value.run m g,
    (θ_run _ _ _).mono (fun r hr c => ⟨by
      obtain ⟨h0, h1, h2, h3, h4, h5, h6⟩ := h c
      rw [(hr c).1, R.res_eq, h0, h1, h2, h3, h5, h6]
      exact (G8_eq m c).symm, (hr c).2⟩) (Cert.FfaRefIdeal.Value.run m' g')⟩

end Cert.Proof.Ffa
-- ==== Proof.Proj.Body.lean ====
module

public import proofs.«01_k».proof.Proof.Gen.ProjIdeal.Frame
public import proofs.«01_k».proof.Proof.Gen.ProjIdeal.Skeleton
public import Idealize.ShloMosaic.Lib.Pipeline.FrameBody
public import Idealize.ShloMosaic.Lib.Ring
public import Idealize.ShloMosaic.Lib.Tactic

/-!
One grid point of the projections kernel, by its kind: the first of a row block (norms the rows into the scratch
and stores the first half of the convolution branch), the second (the other half), the queries, the keys and
values, and the gates. Each takes only the buffers that it touches.
-/

@[expose] public section

set_option maxRecDepth 16384

noncomputable section

namespace Cert.Proof.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable {F : FTy → Type} [FloatOps F] [Named F]

local notation "𝕄" => MT nD τ sig Unit (Elt F) ℕ (UR sig nD τ) ℕ

variable (c : Dev nD) (i : grid0.Coords)
  (arg3 : Memref sig .tc .vmem S1x1024x2048 .f32) (harg3 : arg3.IsWhole) (arg4 : Memref sig .tc .vmem S1x9x2048 .f32) (harg4 : arg4.IsWhole)
  (arg5 : Memref sig .tc .vmem S1x2048 .f32) (harg5 : arg5.IsWhole) (arg6 : Memref sig .tc .vmem S2048x1024 .bf16) (harg6 : arg6.IsWhole)
  (arg7 : Memref sig .tc .vmem S1x1024x512 .bf16) (harg7 : arg7.IsWhole) (arg8 : Memref sig .tc .vmem S1x8x1024x128 .bf16) (harg8 : arg8.IsWhole)
  (arg9 : Memref sig .tc .vmem S1x1024x1024 .bf16) (harg9 : arg9.IsWhole) (arg10 : Memref sig .tc .vmem S1024x2048 .bf16) (harg10 : arg10.IsWhole)

set_option maxHeartbeats 1000000 in
/-- The first point of a row block: the pieces stored into the branch's tile and into the scratch, and that the body
    runs from the inputs to them. -/
noncomputable def kernelRun0_A (h1 : k0_cond1 i = 1#1) (h2 : ¬k0_cond2 i = 1#1) (h3 : ¬k0_cond3 i = 1#1) (h4 : ¬k0_cond4 i = 1#1) (h5 : ¬k0_cond5 i = 1#1)
    (x0 : Vec F S1x1024x2048 .f32) (x1 : Vec F S1x9x2048 .f32) (x2 : Vec F S1x2048 .f32) (x3 : Vec F S2048x1024 .bf16) :
    Σ' (L4 : List (View.Piece (Elt F) S1x1024x512 .bf16)), { LS : List (View.Piece (Elt F) S1024x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg10.view.loc (c : Thread nD τ) ↦[arg10.view.set]{fullShare} arg10.view.writes (Elt F) f LS)) -∗ K ⟨⟩))
          ⊢ wp frame (wpE (defs₀ (F := F)) Variants.none c none) E (cc0_proj i arg3 harg3 arg4 harg4 arg5 harg5 arg6 harg6 arg7 harg7 arg8 harg8 arg9 harg9 arg10 harg10) K } := by
  refine ⟨?_, ?_, fun E K => ?run⟩
  case run =>
    simp only [cc0_proj_eq_skeleton]; unfold cc0_proj_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg3.eq_unread hf0; obtain rfl := harg4.eq_unread hf1; obtain rfl := harg5.eq_unread hf2; obtain rfl := harg6.eq_unread hf3
    sl_exec (disch := first | sl_exact h1 | sl_exact h2 | sl_exact h3 | sl_exact h4 | sl_exact h5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

set_option maxHeartbeats 1000000 in
/-- The second point: the other half of the branch, from the scratch. -/
noncomputable def kernelRun0_B (h1 : ¬k0_cond1 i = 1#1) (h2 : k0_cond2 i = 1#1) (h3 : ¬k0_cond3 i = 1#1) (h4 : ¬k0_cond4 i = 1#1) (h5 : ¬k0_cond5 i = 1#1)
    (x3 : Vec F S2048x1024 .bf16) (xs : Vec F S1024x2048 .bf16) :
    { L : List (View.Piece (Elt F) S1x1024x512 .bf16) //
      ∀ (E : Set ℕ) (K : PUnit → sProp 𝕄),
        iprop(owns (c : Thread nD τ) arg6 fullShare x3 ∗ (∃ d, owns (c : Thread nD τ) arg7 fullShare d) ∗ owns (c : Thread nD τ) arg10 fullShare xs
            ∗ (iprop(owns (c : Thread nD τ) arg6 fullShare x3 ∗ (∃ f, arg7.view.loc (c : Thread nD τ) ↦[arg7.view.set]{fullShare} arg7.view.writes (Elt F) f L) ∗ owns (c : Thread nD τ) arg10 fullShare xs) -∗ K ⟨⟩))
          ⊢ wp frame (wpE (defs₀ (F := F)) Variants.none c none) E (cc0_proj i arg3 harg3 arg4 harg4 arg5 harg5 arg6 harg6 arg7 harg7 arg8 harg8 arg9 harg9 arg10 harg10) K } := by
  refine ⟨?_, fun E K => ?run⟩
  case run =>
    simp only [cc0_proj_eq_skeleton]; unfold cc0_proj_skel
    unfold owns
    iintro ⟨⟨%f3, %hf3, H3⟩, ⟨%d4, %f4, -, H4⟩, ⟨%fs, %hfs, HS⟩, Hk⟩
    obtain rfl := harg6.eq_unread hf3; obtain rfl := harg10.eq_unread hfs
    sl_exec (disch := first | sl_exact h1 | sl_exact h2 | sl_exact h3 | sl_exact h4 | sl_exact h5)
    sl_step
    iapply Hk
    isplitl [H3]
    · iexists _; isplitr; · ipureintro; exact harg6.read_unread _
      iexact H3
    isplitl [H4]; · iexists _; iexact H4
    iexists _; isplitr; · ipureintro; exact harg10.read_unread _
    iexact HS

set_option maxHeartbeats 1000000 in
/-- The third point: the queries, head by head. -/
noncomputable def kernelRun0_C (h1 : ¬k0_cond1 i = 1#1) (h2 : ¬k0_cond2 i = 1#1) (h3 : k0_cond3 i = 1#1) (h4 : ¬k0_cond4 i = 1#1) (h5 : ¬k0_cond5 i = 1#1)
    (x3 : Vec F S2048x1024 .bf16) (xs : Vec F S1024x2048 .bf16) :
    { L : List (View.Piece (Elt F) S1x8x1024x128 .bf16) //
      ∀ (E : Set ℕ) (K : PUnit → sProp 𝕄),
        iprop(owns (c : Thread nD τ) arg6 fullShare x3 ∗ (∃ d, owns (c : Thread nD τ) arg8 fullShare d) ∗ owns (c : Thread nD τ) arg10 fullShare xs
            ∗ (iprop(owns (c : Thread nD τ) arg6 fullShare x3 ∗ (∃ f, arg8.view.loc (c : Thread nD τ) ↦[arg8.view.set]{fullShare} arg8.view.writes (Elt F) f L) ∗ owns (c : Thread nD τ) arg10 fullShare xs) -∗ K ⟨⟩))
          ⊢ wp frame (wpE (defs₀ (F := F)) Variants.none c none) E (cc0_proj i arg3 harg3 arg4 harg4 arg5 harg5 arg6 harg6 arg7 harg7 arg8 harg8 arg9 harg9 arg10 harg10) K } := by
  refine ⟨?_, fun E K => ?run⟩
  case run =>
    simp only [cc0_proj_eq_skeleton]; unfold cc0_proj_skel
    simp only [k0_part5_eq_skeleton]
    unfold owns
    iintro ⟨⟨%f3, %hf3, H3⟩, ⟨%d4, %f4, -, H4⟩, ⟨%fs, %hfs, HS⟩, Hk⟩
    obtain rfl := harg6.eq_unread hf3; obtain rfl := harg10.eq_unread hfs
    sl_exec (disch := first | sl_exact h1 | sl_exact h2 | sl_exact h3 | sl_exact h4 | sl_exact h5)
    sl_step
    iapply Hk
    isplitl [H3]
    · iexists _; isplitr; · ipureintro; exact harg6.read_unread _
      iexact H3
    isplitl [H4]; · iexists _; iexact H4
    iexists _; isplitr; · ipureintro; exact harg10.read_unread _
    iexact HS

set_option maxHeartbeats 1000000 in
/-- The keys and the values, head by head. -/
noncomputable def kernelRun0_D (h1 : ¬k0_cond1 i = 1#1) (h2 : ¬k0_cond2 i = 1#1) (h3 : ¬k0_cond3 i = 1#1) (h4 : k0_cond4 i = 1#1) (h5 : ¬k0_cond5 i = 1#1)
    (x3 : Vec F S2048x1024 .bf16) (xs : Vec F S1024x2048 .bf16) :
    { L : List (View.Piece (Elt F) S1x8x1024x128 .bf16) //
      ∀ (E : Set ℕ) (K : PUnit → sProp 𝕄),
        iprop(owns (c : Thread nD τ) arg6 fullShare x3 ∗ (∃ d, owns (c : Thread nD τ) arg8 fullShare d) ∗ owns (c : Thread nD τ) arg10 fullShare xs
            ∗ (iprop(owns (c : Thread nD τ) arg6 fullShare x3 ∗ (∃ f, arg8.view.loc (c : Thread nD τ) ↦[arg8.view.set]{fullShare} arg8.view.writes (Elt F) f L) ∗ owns (c : Thread nD τ) arg10 fullShare xs) -∗ K ⟨⟩))
          ⊢ wp frame (wpE (defs₀ (F := F)) Variants.none c none) E (cc0_proj i arg3 harg3 arg4 harg4 arg5 harg5 arg6 harg6 arg7 harg7 arg8 harg8 arg9 harg9 arg10 harg10) K } := by
  refine ⟨?_, fun E K => ?run⟩
  case run =>
    simp only [cc0_proj_eq_skeleton]; unfold cc0_proj_skel
    simp only [k0_part6_eq_skeleton]
    unfold owns
    iintro ⟨⟨%f3, %hf3, H3⟩, ⟨%d4, %f4, -, H4⟩, ⟨%fs, %hfs, HS⟩, Hk⟩
    obtain rfl := harg6.eq_unread hf3; obtain rfl := harg10.eq_unread hfs
    sl_exec (disch := first | sl_exact h1 | sl_exact h2 | sl_exact h3 | sl_exact h4 | sl_exact h5)
    sl_step
    iapply Hk
    isplitl [H3]
    · iexists _; isplitr; · ipureintro; exact harg6.read_unread _
      iexact H3
    isplitl [H4]; · iexists _; iexact H4
    iexists _; isplitr; · ipureintro; exact harg10.read_unread _
    iexact HS

set_option maxHeartbeats 1000000 in
/-- A point of the gates. -/
noncomputable def kernelRun0_E (h1 : ¬k0_cond1 i = 1#1) (h2 : ¬k0_cond2 i = 1#1) (h3 : ¬k0_cond3 i = 1#1) (h4 : ¬k0_cond4 i = 1#1) (h5 : k0_cond5 i = 1#1)
    (x3 : Vec F S2048x1024 .bf16) (xs : Vec F S1024x2048 .bf16) :
    { L : List (View.Piece (Elt F) S1x1024x1024 .bf16) //
      ∀ (E : Set ℕ) (K : PUnit → sProp 𝕄),
        iprop(owns (c : Thread nD τ) arg6 fullShare x3 ∗ (∃ d, owns (c : Thread nD τ) arg9 fullShare d) ∗ owns (c : Thread nD τ) arg10 fullShare xs
            ∗ (iprop(owns (c : Thread nD τ) arg6 fullShare x3 ∗ (∃ f, arg9.view.loc (c : Thread nD τ) ↦[arg9.view.set]{fullShare} arg9.view.writes (Elt F) f L) ∗ owns (c : Thread nD τ) arg10 fullShare xs) -∗ K ⟨⟩))
          ⊢ wp frame (wpE (defs₀ (F := F)) Variants.none c none) E (cc0_proj i arg3 harg3 arg4 harg4 arg5 harg5 arg6 harg6 arg7 harg7 arg8 harg8 arg9 harg9 arg10 harg10) K } := by
  refine ⟨?_, fun E K => ?run⟩
  case run =>
    simp only [cc0_proj_eq_skeleton]; unfold cc0_proj_skel
    unfold owns
    iintro ⟨⟨%f3, %hf3, H3⟩, ⟨%d4, %f4, -, H4⟩, ⟨%fs, %hfs, HS⟩, Hk⟩
    obtain rfl := harg6.eq_unread hf3; obtain rfl := harg10.eq_unread hfs
    sl_exec (disch := first | sl_exact h1 | sl_exact h2 | sl_exact h3 | sl_exact h4 | sl_exact h5)
    sl_step
    iapply Hk
    isplitl [H3]
    · iexists _; isplitr; · ipureintro; exact harg6.read_unread _
      iexact H3
    isplitl [H4]; · iexists _; iexact H4
    iexists _; isplitr; · ipureintro; exact harg10.read_unread _
    iexact HS

end Cert.Proof.Proj

end
-- ==== Proof.Proj.Table.lean ====
module

public import proofs.«01_k».proof.Proof.Gen.ProjIdeal.Frame
public import proofs.«01_k».proof.Proof.Gen.ProjIdeal.Points

/-!
The kinds of the grid's points: which branch the body takes, which windows a point leaves alone, and where each
window's block is written back, all by the point's place among the nine of its row block.
-/

@[expose] public section

set_option maxRecDepth 16384

noncomputable section

namespace Cert.Proof.Proj

open Idealize.ShloMosaic Idealize.ShloMosaic.TcCoe
open Cert.ProjIdeal Cert.ProjIdeal.Gen

theorem cond1_iff : ∀ t : Fin grid0.N, k0_cond1 (grid0.coords t) = 1#1 ↔ t.val % 9 = 0 := by decide +kernel
theorem cond2_iff : ∀ t : Fin grid0.N, k0_cond2 (grid0.coords t) = 1#1 ↔ t.val % 9 = 1 := by decide +kernel
theorem cond3_iff : ∀ t : Fin grid0.N, k0_cond3 (grid0.coords t) = 1#1 ↔ t.val % 9 = 2 := by decide +kernel
theorem cond4_iff : ∀ t : Fin grid0.N, k0_cond4 (grid0.coords t) = 1#1 ↔ 3 ≤ t.val % 9 ∧ t.val % 9 ≤ 4 := by decide +kernel
theorem cond5_iff : ∀ t : Fin grid0.N, k0_cond5 (grid0.coords t) = 1#1 ↔ 5 ≤ t.val % 9 := by decide +kernel

theorem idle4_iff : ∀ t : Fin grid0.N, idle0 4 (grid0.coords t) = true ↔ 2 ≤ t.val % 9 := by decide +kernel
theorem idle5_iff : ∀ t : Fin grid0.N, idle0 5 (grid0.coords t) = true ↔ (t.val % 9 < 2 ∨ 5 ≤ t.val % 9) := by decide +kernel
theorem idle6_iff : ∀ t : Fin grid0.N, idle0 6 (grid0.coords t) = true ↔ t.val % 9 < 5 := by decide +kernel

theorem flush4_iff : ∀ t : Fin grid0.N, win0_4.flush t = true ↔ (t.val % 9 = 0 ∨ t.val % 9 = 8) := by decide +kernel
theorem flush5_iff : ∀ t : Fin grid0.N, win0_5.flush t = true ↔ (t.val % 9 = 2 ∨ t.val % 9 = 3 ∨ t.val % 9 = 8) := by decide +kernel
theorem flush6_iff : ∀ t : Fin grid0.N, win0_6.flush t = true ↔ 5 ≤ t.val % 9 := by decide +kernel

theorem grid_N : grid0.N = 288 := by decide

end Cert.Proof.Proj
-- ==== Proof.Proj.Run.lean ====
module

public import proofs.«01_k».proof.Proof.Proj.Body
public import proofs.«01_k».proof.Proof.Proj.Table
public import proofs.«01_k».proof.Proof.Gen.ProjIdeal.Launch
public import Idealize.ShloMosaic.Lib.Pipeline.FrameBody
public import Idealize.ShloMosaic.Lib.Ring
public import Idealize.ShloMosaic.Lib.Claim
public import Idealize.ShloMosaic.Lib.Tactic

/-!
The whole projections program: every run ends, its arguments end unchanged, its counters at zero, and the arrays of
its three results hold, block by block, what the points of each row block store.
-/

@[expose] public section

set_option maxRecDepth 16384

noncomputable section

namespace Cert.Proof.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev Pt : Type := Fin grid0.N

/-- The scratch that holds a row block's normed rows. -/
abbrev scM : Memref sig .tc .vmem S1024x2048 .bf16 := Memref.whole cc0_scratch0

theorem PhiA_eq (c : Dev nD) : (Pipeline.ΦA spec0 c : sProp 𝕄) =
    iprop(iprop((∃ d, owns (c : Thread nD τ) scM fullShare d)) ∗ (∃ r, prngReg c r)) := by
  unfold Pipeline.ΦA; rw [scopedRest0_eq]; simp only [scM, owns_whole]; try rfl

/-! ## What each kind of point leaves -/

/-- The body at the first point of a row block, -/
abbrev runA (c : Dev nD) (s : Pt) (h : s.val % 9 = 0) :=
  kernelRun0_A (F := F) c (grid0.coords s) (win0_0.stage (cfg0.slots s 0)) (hstage0_0 ((cfg0.slots s 0).cast nbuf0_0))
    (win0_1.stage (cfg0.slots s 1)) (hstage0_1 ((cfg0.slots s 1).cast nbuf0_1)) (win0_2.stage (cfg0.slots s 2)) (hstage0_2 ((cfg0.slots s 2).cast nbuf0_2))
    (win0_3.stage (cfg0.slots s 3)) (hstage0_3 ((cfg0.slots s 3).cast nbuf0_3)) (win0_4.stage (cfg0.slots s 4)) (hstage0_4 ((cfg0.slots s 4).cast nbuf0_4))
    (win0_5.stage (cfg0.slots s 5)) (hstage0_5 ((cfg0.slots s 5).cast nbuf0_5)) (win0_6.stage (cfg0.slots s 6)) (hstage0_6 ((cfg0.slots s 6).cast nbuf0_6))
    scM (Memref.isWhole_whole _)
    ((cond1_iff s).mpr h) (fun e => by have := (cond2_iff s).mp e; omega) (fun e => by have := (cond3_iff s).mp e; omega)
    (fun e => by have := (cond4_iff s).mp e; omega) (fun e => by have := (cond5_iff s).mp e; omega)
    (iblk m c 0 s) (iblk m c 1 s) (iblk m c 2 s) (iblk m c 3 s)

/-- at the second, -/
abbrev runB (c : Dev nD) (s : Pt) (h : s.val % 9 = 1) (xs : Vec F S1024x2048 .bf16) :=
  kernelRun0_B (F := F) c (grid0.coords s) (win0_0.stage (cfg0.slots s 0)) (hstage0_0 ((cfg0.slots s 0).cast nbuf0_0))
    (win0_1.stage (cfg0.slots s 1)) (hstage0_1 ((cfg0.slots s 1).cast nbuf0_1)) (win0_2.stage (cfg0.slots s 2)) (hstage0_2 ((cfg0.slots s 2).cast nbuf0_2))
    (win0_3.stage (cfg0.slots s 3)) (hstage0_3 ((cfg0.slots s 3).cast nbuf0_3)) (win0_4.stage (cfg0.slots s 4)) (hstage0_4 ((cfg0.slots s 4).cast nbuf0_4))
    (win0_5.stage (cfg0.slots s 5)) (hstage0_5 ((cfg0.slots s 5).cast nbuf0_5)) (win0_6.stage (cfg0.slots s 6)) (hstage0_6 ((cfg0.slots s 6).cast nbuf0_6))
    scM (Memref.isWhole_whole _)
    (fun e => by have := (cond1_iff s).mp e; omega) ((cond2_iff s).mpr h) (fun e => by have := (cond3_iff s).mp e; omega)
    (fun e => by have := (cond4_iff s).mp e; omega) (fun e => by have := (cond5_iff s).mp e; omega)
    (iblk m c 3 s) xs

/-- at the queries' point, -/
abbrev runC (c : Dev nD) (s : Pt) (h : s.val % 9 = 2) (xs : Vec F S1024x2048 .bf16) :=
  kernelRun0_C (F := F) c (grid0.coords s) (win0_0.stage (cfg0.slots s 0)) (hstage0_0 ((cfg0.slots s 0).cast nbuf0_0))
    (win0_1.stage (cfg0.slots s 1)) (hstage0_1 ((cfg0.slots s 1).cast nbuf0_1)) (win0_2.stage (cfg0.slots s 2)) (hstage0_2 ((cfg0.slots s 2).cast nbuf0_2))
    (win0_3.stage (cfg0.slots s 3)) (hstage0_3 ((cfg0.slots s 3).cast nbuf0_3)) (win0_4.stage (cfg0.slots s 4)) (hstage0_4 ((cfg0.slots s 4).cast nbuf0_4))
    (win0_5.stage (cfg0.slots s 5)) (hstage0_5 ((cfg0.slots s 5).cast nbuf0_5)) (win0_6.stage (cfg0.slots s 6)) (hstage0_6 ((cfg0.slots s 6).cast nbuf0_6))
    scM (Memref.isWhole_whole _)
    (fun e => by have := (cond1_iff s).mp e; omega) (fun e => by have := (cond2_iff s).mp e; omega) ((cond3_iff s).mpr h)
    (fun e => by have := (cond4_iff s).mp e; omega) (fun e => by have := (cond5_iff s).mp e; omega)
    (iblk m c 3 s) xs

/-- at the keys' and the values' points, -/
abbrev runD (c : Dev nD) (s : Pt) (h : 3 ≤ s.val % 9 ∧ s.val % 9 ≤ 4) (xs : Vec F S1024x2048 .bf16) :=
  kernelRun0_D (F := F) c (grid0.coords s) (win0_0.stage (cfg0.slots s 0)) (hstage0_0 ((cfg0.slots s 0).cast nbuf0_0))
    (win0_1.stage (cfg0.slots s 1)) (hstage0_1 ((cfg0.slots s 1).cast nbuf0_1)) (win0_2.stage (cfg0.slots s 2)) (hstage0_2 ((cfg0.slots s 2).cast nbuf0_2))
    (win0_3.stage (cfg0.slots s 3)) (hstage0_3 ((cfg0.slots s 3).cast nbuf0_3)) (win0_4.stage (cfg0.slots s 4)) (hstage0_4 ((cfg0.slots s 4).cast nbuf0_4))
    (win0_5.stage (cfg0.slots s 5)) (hstage0_5 ((cfg0.slots s 5).cast nbuf0_5)) (win0_6.stage (cfg0.slots s 6)) (hstage0_6 ((cfg0.slots s 6).cast nbuf0_6))
    scM (Memref.isWhole_whole _)
    (fun e => by have := (cond1_iff s).mp e; omega) (fun e => by have := (cond2_iff s).mp e; omega) (fun e => by have := (cond3_iff s).mp e; omega)
    ((cond4_iff s).mpr h) (fun e => by have := (cond5_iff s).mp e; omega)
    (iblk m c 3 s) xs

/-- and at a gates' point. -/
abbrev runE (c : Dev nD) (s : Pt) (h : 5 ≤ s.val % 9) (xs : Vec F S1024x2048 .bf16) :=
  kernelRun0_E (F := F) c (grid0.coords s) (win0_0.stage (cfg0.slots s 0)) (hstage0_0 ((cfg0.slots s 0).cast nbuf0_0))
    (win0_1.stage (cfg0.slots s 1)) (hstage0_1 ((cfg0.slots s 1).cast nbuf0_1)) (win0_2.stage (cfg0.slots s 2)) (hstage0_2 ((cfg0.slots s 2).cast nbuf0_2))
    (win0_3.stage (cfg0.slots s 3)) (hstage0_3 ((cfg0.slots s 3).cast nbuf0_3)) (win0_4.stage (cfg0.slots s 4)) (hstage0_4 ((cfg0.slots s 4).cast nbuf0_4))
    (win0_5.stage (cfg0.slots s 5)) (hstage0_5 ((cfg0.slots s 5).cast nbuf0_5)) (win0_6.stage (cfg0.slots s 6)) (hstage0_6 ((cfg0.slots s 6).cast nbuf0_6))
    scM (Memref.isWhole_whole _)
    (fun e => by have := (cond1_iff s).mp e; omega) (fun e => by have := (cond2_iff s).mp e; omega) (fun e => by have := (cond3_iff s).mp e; omega)
    (fun e => by have := (cond4_iff s).mp e; omega) ((cond5_iff s).mpr h)
    (iblk m c 3 s) xs

/-- What is left in the branch's tile and in the scratch after the first point, -/
def oA (c : Dev nD) (s : Pt) (h : s.val % 9 = 0) : Vec F S1x1024x512 .bf16 := View.canon (runA m c s h).1
def uA (c : Dev nD) (s : Pt) (h : s.val % 9 = 0) : Vec F S1024x2048 .bf16 := View.canon (runA m c s h).2.1
/-- and in each tile after the points that store it. -/
def oB (c : Dev nD) (s : Pt) (h : s.val % 9 = 1) (xs : Vec F S1024x2048 .bf16) : Vec F S1x1024x512 .bf16 := View.canon (runB m c s h xs).1
def oC (c : Dev nD) (s : Pt) (h : s.val % 9 = 2) (xs : Vec F S1024x2048 .bf16) : Vec F S1x8x1024x128 .bf16 := View.canon (runC m c s h xs).1
def oD (c : Dev nD) (s : Pt) (h : 3 ≤ s.val % 9 ∧ s.val % 9 ≤ 4) (xs : Vec F S1024x2048 .bf16) : Vec F S1x8x1024x128 .bf16 := View.canon (runD m c s h xs).1
def oE (c : Dev nD) (s : Pt) (h : 5 ≤ s.val % 9) (xs : Vec F S1024x2048 .bf16) : Vec F S1x1024x1024 .bf16 := View.canon (runE m c s h xs).1

theorem coverA (c : Dev nD) (s : Pt) (h : s.val % 9 = 0) (y : S1x1024x512.Idx) : ∃ p ∈ (runA m c s h).1, y ∈ p.1.set :=
  View.cover_of_tiledL (runA m c s h).1 S1x256x512.size (by sl_kernel_rfl) y
theorem coverU (c : Dev nD) (s : Pt) (h : s.val % 9 = 0) (y : S1024x2048.Idx) : ∃ p ∈ (runA m c s h).2.1, y ∈ p.1.set :=
  View.cover_of_tiledL (runA m c s h).2.1 S256x2048.size (by sl_kernel_rfl) y
theorem coverB (c : Dev nD) (s : Pt) (h : s.val % 9 = 1) (xs) (y : S1x1024x512.Idx) : ∃ p ∈ (runB m c s h xs).1, y ∈ p.1.set :=
  View.cover_of_tiledL (runB m c s h xs).1 S1x1024x512.size (by sl_kernel_rfl) y
theorem coverC (c : Dev nD) (s : Pt) (h : s.val % 9 = 2) (xs) (y : S1x8x1024x128.Idx) : ∃ p ∈ (runC m c s h xs).1, y ∈ p.1.set :=
  View.cover_of_tiledL (runC m c s h xs).1 S1x1x1024x128.size (by sl_kernel_rfl) y
theorem coverD (c : Dev nD) (s : Pt) (h : 3 ≤ s.val % 9 ∧ s.val % 9 ≤ 4) (xs) (y : S1x8x1024x128.Idx) : ∃ p ∈ (runD m c s h xs).1, y ∈ p.1.set :=
  View.cover_of_tiledL (runD m c s h xs).1 S1x1x1024x128.size (by sl_kernel_rfl) y
theorem coverE (c : Dev nD) (s : Pt) (h : 5 ≤ s.val % 9) (xs) (y : S1x1024x1024.Idx) : ∃ p ∈ (runE m c s h xs).1, y ∈ p.1.set :=
  View.cover_of_tiledL (runE m c s h xs).1 S1x1024x1024.size (by sl_kernel_rfl) y

theorem pt_lt (t : Pt) (k : ℕ) (hk : k < 9) : t.val - t.val % 9 + k < grid0.N := by
  refine lt_of_lt_of_eq (b := 288) ?_ grid_N.symm
  have := lt_of_lt_of_eq t.isLt grid_N; omega

/-- The `k`th point of a point's row block. -/
def pt (t : Pt) (k : ℕ) (hk : k < 9) : Pt := ⟨t.val - t.val % 9 + k, pt_lt t k hk⟩

theorem pt_mod (t : Pt) (k : ℕ) (hk : k < 9) : (pt t k hk).val % 9 = k := by
  show (t.val - t.val % 9 + k) % 9 = k; omega

theorem pt_self (t : Pt) (k : ℕ) (hk : k < 9) (h : t.val % 9 = k) : pt t k hk = t := Fin.ext (by show t.val - t.val % 9 + k = t.val; omega)

/-- The normed rows of a point's row block; -/
def uAt (c : Dev nD) (t : Pt) : Vec F S1024x2048 .bf16 := uA m c (pt t 0 (by omega)) (pt_mod t 0 _)

/-- and what the three tiles are to hold after a point. -/
def at4 (c : Dev nD) (t : Pt) : Vec F S1x1024x512 .bf16 :=
  if t.val % 9 = 0 then oA m c (pt t 0 (by omega)) (pt_mod t 0 _) else oB m c (pt t 1 (by omega)) (pt_mod t 1 _) (uAt m c t)
def at5 (c : Dev nD) (t : Pt) : Vec F S1x8x1024x128 .bf16 :=
  if t.val % 9 ≤ 2 then oC m c (pt t 2 (by omega)) (pt_mod t 2 _) (uAt m c t)
  else oD m c (pt t (min (max (t.val % 9) 3) 4) (by omega)) (by rw [pt_mod]; omega) (uAt m c t)
def at6 (c : Dev nD) (t : Pt) : Vec F S1x1024x1024 .bf16 :=
  oE m c (pt t (max (t.val % 9) 5) (by omega)) (by rw [pt_mod]; omega) (uAt m c t)

theorem pt_congr (s t : Pt) (e : s.val - s.val % 9 = t.val - t.val % 9) (k l : ℕ) (hk : k < 9) (hl : l < 9) (ekl : k = l) : pt s k hk = pt t l hl := by
  subst ekl; exact Fin.ext (by show s.val - s.val % 9 + k = t.val - t.val % 9 + k; rw [e])
theorem uA_congr (c : Dev nD) (s t : Pt) (hs ht) (e : s = t) : uA m c s hs = uA m c t ht := by subst e; rfl
theorem oA_congr (c : Dev nD) (s t : Pt) (hs ht) (e : s = t) : oA m c s hs = oA m c t ht := by subst e; rfl
theorem oB_congr (c : Dev nD) (s t : Pt) (hs ht) (xs) (e : s = t) : oB m c s hs xs = oB m c t ht xs := by subst e; rfl
theorem oC_congr (c : Dev nD) (s t : Pt) (hs ht) (xs) (e : s = t) : oC m c s hs xs = oC m c t ht xs := by subst e; rfl
theorem oD_congr (c : Dev nD) (s t : Pt) (hs ht) (xs) (e : s = t) : oD m c s hs xs = oD m c t ht xs := by subst e; rfl
theorem oE_congr (c : Dev nD) (s t : Pt) (hs ht) (xs) (e : s = t) : oE m c s hs xs = oE m c t ht xs := by subst e; rfl

theorem uAt_congr (c : Dev nD) (s t : Pt) (e : s.val - s.val % 9 = t.val - t.val % 9) : uAt m c s = uAt m c t :=
  uA_congr m c _ _ _ _ (pt_congr s t e 0 0 _ _ rfl)
theorem uAt_first (c : Dev nD) (t : Pt) (h : t.val % 9 = 0) : uAt m c t = uA m c t h := uA_congr m c _ _ _ _ (pt_self t 0 _ h)
theorem at4_first (c : Dev nD) (t : Pt) (h : t.val % 9 = 0) : at4 m c t = oA m c t h := by
  unfold at4; rw [if_pos h]; exact oA_congr m c _ _ _ _ (pt_self t 0 _ h)
theorem at4_second (c : Dev nD) (t : Pt) (h : t.val % 9 = 1) : at4 m c t = oB m c t h (uAt m c t) := by
  unfold at4; rw [if_neg (by omega)]; exact oB_congr m c _ _ _ _ _ (pt_self t 1 _ h)
theorem at5_queries (c : Dev nD) (t : Pt) (h : t.val % 9 = 2) : at5 m c t = oC m c t h (uAt m c t) := by
  unfold at5; rw [if_pos (by omega)]; exact oC_congr m c _ _ _ _ _ (pt_self t 2 _ h)
theorem at5_rest (c : Dev nD) (t : Pt) (h : 3 ≤ t.val % 9 ∧ t.val % 9 ≤ 4) : at5 m c t = oD m c t h (uAt m c t) := by
  unfold at5; rw [if_neg (by omega)]; exact oD_congr m c _ _ _ _ _ (pt_self t _ _ (by omega))
theorem at6_gates (c : Dev nD) (t : Pt) (h : 5 ≤ t.val % 9) : at6 m c t = oE m c t h (uAt m c t) := by
  unfold at6; exact oE_congr m c _ _ _ _ _ (pt_self t _ _ (by omega))

/-- After its last store, a tile stays through the rest of the row block. -/
theorem at4_stays (c : Dev nD) (s t : Pt) (e : s.val - s.val % 9 = t.val - t.val % 9) (hs : 1 ≤ s.val % 9) (ht : 1 ≤ t.val % 9) : at4 m c s = at4 m c t := by
  unfold at4; rw [if_neg (by omega), if_neg (by omega), uAt_congr m c s t e]; exact oB_congr m c _ _ _ _ _ (pt_congr s t e 1 1 _ _ rfl)
theorem at5_stays (c : Dev nD) (s t : Pt) (e : s.val - s.val % 9 = t.val - t.val % 9) (hs : 4 ≤ s.val % 9) (ht : 4 ≤ t.val % 9) : at5 m c s = at5 m c t := by
  unfold at5; rw [if_neg (by omega), if_neg (by omega), uAt_congr m c s t e]; exact oD_congr m c _ _ _ _ _ (pt_congr s t e _ _ _ _ (by omega))

/-! ## The pipeline's proof data -/

/-- Before a point, the scratch: at anything before the first of a row block, at the block's normed rows before the
    others. -/
def PhiS (c : Dev nD) (n : ℕ) : sProp 𝕄 :=
  iprop((∃ d, ⌜∀ t : Pt, n % 9 ≠ 0 → t.val - t.val % 9 = n - n % 9 → d = uAt m c t⌝ ∗ owns (c : Thread nD τ) scM fullShare d) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => at4 m c t
    | ⟨5, _⟩ => at5 m c t
    | ⟨6, _⟩ => at6 m c t
    | ⟨_ + 7, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = at4 m c t := by dsimp only [dats]
theorem after_5 (c : Dev nD) (t : Fin cfg0.N) : (dats m 0 c).after 5 t = at5 m c t := by dsimp only [dats]
theorem after_6 (c : Dev nD) (t : Fin cfg0.N) : (dats m 0 c).after 6 t = at6 m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

/-- A tile that is stored at a point `s` and then left alone is found as it was stored, as long as nothing writes it back
    in between. -/
theorem before_run (c : Dev nD) (w : Fin cfg0.W) (hout : ∀ t, (cfg0.win w).fetch t = false) (s : Fin cfg0.N)
    (hk : ∀ d, (dats m 0 c).kept w s d = (dats m 0 c).after w s) (hs : cfg0.idle w (cfg0.grid.coords s) = false) (d) :
    ∀ (n : ℕ) (t : Fin cfg0.N), t.val = s.val + n + 1
      → (∀ u : Fin cfg0.N, s.val ≤ u.val → u.val < t.val → (cfg0.win w).flush u = false)
      → (∀ u : Fin cfg0.N, s.val < u.val → u.val < t.val → cfg0.idle w (cfg0.grid.coords u) = true)
      → (dats m 0 c).before w t d = (dats m 0 c).after w s
  | 0, t, ht, hf, hi => by
    rw [Dat.before_of_pos _ w t (by omega) (hout t) d]
    have e : (⟨t.val - 1, Nat.lt_of_le_of_lt (Nat.sub_le _ _) t.isLt⟩ : Fin cfg0.N) = s := Fin.ext (by show t.val - 1 = s.val; omega)
    rw [e, hf s le_rfl (by omega), if_neg Bool.false_ne_true]
    unfold Dat.left; rw [hs]; exact hk d
  | n + 1, t, ht, hf, hi => by
    rw [Dat.before_of_pos _ w t (by omega) (hout t) d]
    have hv : ((⟨t.val - 1, Nat.lt_of_le_of_lt (Nat.sub_le _ _) t.isLt⟩ : Fin cfg0.N)).val = t.val - 1 := rfl
    revert hv; generalize (⟨t.val - 1, Nat.lt_of_le_of_lt (Nat.sub_le _ _) t.isLt⟩ : Fin cfg0.N) = p; intro hv
    rw [hf p (by omega) (by omega), if_neg Bool.false_ne_true]
    unfold Dat.left; rw [hi p (by omega) (by omega)]
    exact before_run c w hout s hk hs d n p (by omega) (fun u h1 h2 => hf u h1 (by omega)) (fun u h1 h2 => hi u h1 (by omega))

theorem before_4 (c : Dev nD) (t : Fin cfg0.N) (h : 2 ≤ t.val % 9) (d) : (dats m 0 c).before 4 t d = (dats m 0 c).after 4 t := by
  have hv : (pt t 1 (by omega)).val = t.val - t.val % 9 + 1 := rfl
  have h1 := pt_mod t 1 (by omega)
  rw [before_run m c 4 (fun _ => rfl) (pt t 1 (by omega)) (fun _ => rfl)
    (Bool.eq_false_iff.mpr fun e => by have := (idle4_iff _).mp e; omega) d (t.val % 9 - 2) t (by omega)
    (fun u a b => Bool.eq_false_iff.mpr fun e => by have := (flush4_iff u).mp e; omega)
    (fun u a b => (idle4_iff u).mpr (by omega))]
  rw [after_4, after_4]
  exact at4_stays m c _ _ (by omega) (by omega) (by omega)

theorem before_5 (c : Dev nD) (t : Fin cfg0.N) (h : 5 ≤ t.val % 9) (d) : (dats m 0 c).before 5 t d = (dats m 0 c).after 5 t := by
  have hv : (pt t 4 (by omega)).val = t.val - t.val % 9 + 4 := rfl
  have h1 := pt_mod t 4 (by omega)
  rw [before_run m c 5 (fun _ => rfl) (pt t 4 (by omega)) (fun _ => rfl)
    (Bool.eq_false_iff.mpr fun e => by have := (idle5_iff _).mp e; omega) d (t.val % 9 - 5) t (by omega)
    (fun u a b => Bool.eq_false_iff.mpr fun e => by have := (flush5_iff u).mp e; omega)
    (fun u a b => (idle5_iff u).mpr (by omega))]
  rw [after_5, after_5]
  exact at5_stays m c _ _ (by omega) (by omega) (by omega)

/-- The current tile of each window. -/
abbrev ms0 (t : Fin cfg0.N) : Memref sig .tc .vmem S1x1024x2048 .f32 := win0_0.stage (cfg0.slots t 0)
abbrev ms1 (t : Fin cfg0.N) : Memref sig .tc .vmem S1x9x2048 .f32 := win0_1.stage (cfg0.slots t 1)
abbrev ms2 (t : Fin cfg0.N) : Memref sig .tc .vmem S1x2048 .f32 := win0_2.stage (cfg0.slots t 2)
abbrev ms3 (t : Fin cfg0.N) : Memref sig .tc .vmem S2048x1024 .bf16 := win0_3.stage (cfg0.slots t 3)
abbrev ms4 (t : Fin cfg0.N) : Memref sig .tc .vmem S1x1024x512 .bf16 := win0_4.stage (cfg0.slots t 4)
abbrev ms5 (t : Fin cfg0.N) : Memref sig .tc .vmem S1x8x1024x128 .bf16 := win0_5.stage (cfg0.slots t 5)
abbrev ms6 (t : Fin cfg0.N) : Memref sig .tc .vmem S1x1024x1024 .bf16 := win0_6.stage (cfg0.slots t 6)

theorem leaves_0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after_3]

/-- At a point that stores it, a tile is left at what is to be written back; -/
theorem live_4 (c : Dev nD) (t : Fin cfg0.N) (h : t.val % 9 < 2) : (dats m 0 c).leavesExact 4 t = owns (c : Thread nD τ) (ms4 t) fullShare (at4 m c t) := by
  unfold Dat.leavesExact; rw [show cfg0.idle 4 (cfg0.grid.coords t) = false from Bool.eq_false_iff.mpr fun e => by have := (idle4_iff t).mp e; omega, after_4]
theorem live_5 (c : Dev nD) (t : Fin cfg0.N) (h : 2 ≤ t.val % 9 ∧ t.val % 9 ≤ 4) : (dats m 0 c).leavesExact 5 t = owns (c : Thread nD τ) (ms5 t) fullShare (at5 m c t) := by
  unfold Dat.leavesExact; rw [show cfg0.idle 5 (cfg0.grid.coords t) = false from Bool.eq_false_iff.mpr fun e => by have := (idle5_iff t).mp e; omega, after_5]
theorem live_6 (c : Dev nD) (t : Fin cfg0.N) (h : 5 ≤ t.val % 9) : (dats m 0 c).leavesExact 6 t = owns (c : Thread nD τ) (ms6 t) fullShare (at6 m c t) := by
  unfold Dat.leavesExact; rw [show cfg0.idle 6 (cfg0.grid.coords t) = false from Bool.eq_false_iff.mpr fun e => by have := (idle6_iff t).mp e; omega, after_6]

/-- at one that leaves it alone, as it was found. -/
theorem idle_4 (c : Dev nD) (t : Fin cfg0.N) (h : 2 ≤ t.val % 9) (d) :
    (owns (c : Thread nD τ) (ms4 t) fullShare ((dats m 0 c).before 4 t d) : sProp 𝕄) ⊢ (dats m 0 c).leavesExact 4 t := by
  by_cases hf : (cfg0.win 4).flush t = true
  · unfold Dat.leavesExact; rw [show cfg0.idle 4 (cfg0.grid.coords t) = true from (idle4_iff t).mpr h, hf, before_4 m c t h]
  · rw [Dat.leavesExact_idle _ 4 t (show cfg0.idle 4 (cfg0.grid.coords t) = true from (idle4_iff t).mpr h) (Bool.eq_false_iff.mpr hf)]
    iintro H; iexists _; iexact H
theorem idle_5 (c : Dev nD) (t : Fin cfg0.N) (h : t.val % 9 < 2 ∨ 5 ≤ t.val % 9) (d) :
    (owns (c : Thread nD τ) (ms5 t) fullShare ((dats m 0 c).before 5 t d) : sProp 𝕄) ⊢ (dats m 0 c).leavesExact 5 t := by
  by_cases hf : (cfg0.win 5).flush t = true
  · have := (flush5_iff t).mp hf
    unfold Dat.leavesExact; rw [show cfg0.idle 5 (cfg0.grid.coords t) = true from (idle5_iff t).mpr h, hf, before_5 m c t (by omega)]
  · rw [Dat.leavesExact_idle _ 5 t (show cfg0.idle 5 (cfg0.grid.coords t) = true from (idle5_iff t).mpr h) (Bool.eq_false_iff.mpr hf)]
    iintro H; iexists _; iexact H
theorem idle_6 (c : Dev nD) (t : Fin cfg0.N) (h : t.val % 9 < 5) (d) :
    (owns (c : Thread nD τ) (ms6 t) fullShare ((dats m 0 c).before 6 t d) : sProp 𝕄) ⊢ (dats m 0 c).leavesExact 6 t := by
  rw [Dat.leavesExact_idle _ 6 t (show cfg0.idle 6 (cfg0.grid.coords t) = true from (idle6_iff t).mpr h) (Bool.eq_false_iff.mpr fun e => by have := (flush6_iff t).mp e; omega)]
  iintro H; iexists _; iexact H

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem mod_succ (n : ℕ) (t : Pt) (h1 : (n + 1) % 9 ≠ 0) (h2 : t.val - t.val % 9 = (n + 1) - (n + 1) % 9) : t.val - t.val % 9 = n - n % 9 := by omega

/-- At a point that is not a row block's first, the scratch is at the block's normed rows before and after. -/
theorem scratch_kept (c : Dev nD) (t : Pt) : (owns (c : Thread nD τ) scM fullShare (uAt m c t) : sProp 𝕄)
    ⊢ iprop(∃ d, ⌜∀ u : Pt, (t.val + 1) % 9 ≠ 0 → u.val - u.val % 9 = (t.val + 1) - (t.val + 1) % 9 → d = uAt m c u⌝ ∗ owns (c : Thread nD τ) scM fullShare d) := by
  iintro H; iexists _; isplitr
  swap; · iexact H
  ipureintro; intro u h1 h2; exact uAt_congr m c _ _ (mod_succ t.val u h1 h2).symm

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl, leaves_0, leaves_1, leaves_2, leaves_3,
    show (dats m 0 c).Φ t.succ = PhiS m c (t.val + 1) from rfl, show (dats m 0 c).Φ t.castSucc = PhiS m c t.val from rfl]
  unfold PhiS
  iintro ⟨⟨⟨%o, %ho, HS⟩, Hg⟩, Ho, ⟨%d0, H0⟩, ⟨%d1, H1⟩, ⟨%d2, H2⟩, ⟨%d3, H3⟩, ⟨%d4, H4⟩, ⟨%d5, H5⟩, ⟨%d6, H6⟩⟩
  by_cases hA : t.val % 9 = 0
  · rw [live_4 m c t (by omega), at4_first m c t hA]
    iapply ((runA m c t hA).2.2 Set.univ _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, ⟨%e4, H4⟩, ⟨%es, HS⟩⟩
    isplitl [HS Hg]
    · isplitl [HS]
      · iapply (scratch_kept m c t)
        rw [uAt_first m c t hA]
        unfold owns; iexists _; isplitr
        swap; · iexact HS
        ipureintro; exact View.read_writes_eq_canon _ _ _ (coverU m c t hA)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (coverA m c t hA)
    isplitl [H5]; · iapply (idle_5 m c t (by omega) d5); iexact H5
    iapply (idle_6 m c t (by omega) d6); iexact H6
  obtain rfl := ho t hA rfl
  by_cases hB : t.val % 9 = 1
  · rw [live_4 m c t (by omega), at4_second m c t hB]
    iapply ((runB m c t hB (uAt m c t)).2 Set.univ _)
    isplitl [H3]; · iexact H3
    isplitl [H4]; · iexists _; iexact H4
    isplitl [HS]; · iexact HS
    iintro ⟨H3, ⟨%e4, H4⟩, HS⟩
    isplitl [HS Hg]
    · isplitl [HS]
      · iapply (scratch_kept m c t); iexact HS
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (coverB m c t hB _)
    isplitl [H5]; · iapply (idle_5 m c t (by omega) d5); iexact H5
    iapply (idle_6 m c t (by omega) d6); iexact H6
  by_cases hC : t.val % 9 = 2
  · rw [live_5 m c t (by omega), at5_queries m c t hC]
    iapply ((runC m c t hC (uAt m c t)).2 Set.univ _)
    isplitl [H3]; · iexact H3
    isplitl [H5]; · iexists _; iexact H5
    isplitl [HS]; · iexact HS
    iintro ⟨H3, ⟨%e5, H5⟩, HS⟩
    isplitl [HS Hg]
    · isplitl [HS]
      · iapply (scratch_kept m c t); iexact HS
      iexact Hg
    isplitl [Ho]; · iexact Ho
    isplitl [H0]; · iexact H0
    isplitl [H1]; · iexact H1
    isplitl [H2]; · iexact H2
    isplitl [H3]; · iexact H3
    isplitl [H4]; · iapply (idle_4 m c t (by omega) d4); iexact H4
    isplitl [H5]
    · unfold owns; iexists _; isplitr
      swap; · iexact H5
      ipureintro; exact View.read_writes_eq_canon _ _ _ (coverC m c t hC _)
    iapply (idle_6 m c t (by omega) d6); iexact H6
  by_cases hD : 3 ≤ t.val % 9 ∧ t.val % 9 ≤ 4
  · rw [live_5 m c t (by omega), at5_rest m c t hD]
    iapply ((runD m c t hD (uAt m c t)).2 Set.univ _)
    isplitl [H3]; · iexact H3
    isplitl [H5]; · iexists _; iexact H5
    isplitl [HS]; · iexact HS
    iintro ⟨H3, ⟨%e5, H5⟩, HS⟩
    isplitl [HS Hg]
    · isplitl [HS]
      · iapply (scratch_kept m c t); iexact HS
      iexact Hg
    isplitl [Ho]; · iexact Ho
    isplitl [H0]; · iexact H0
    isplitl [H1]; · iexact H1
    isplitl [H2]; · iexact H2
    isplitl [H3]; · iexact H3
    isplitl [H4]; · iapply (idle_4 m c t (by omega) d4); iexact H4
    isplitl [H5]
    · unfold owns; iexists _; isplitr
      swap; · iexact H5
      ipureintro; exact View.read_writes_eq_canon _ _ _ (coverD m c t hD _)
    iapply (idle_6 m c t (by omega) d6); iexact H6
  have hE : 5 ≤ t.val % 9 := by omega
  rw [live_6 m c t hE, at6_gates m c t hE]
  iapply ((runE m c t hE (uAt m c t)).2 Set.univ _)
  isplitl [H3]; · iexact H3
  isplitl [H6]; · iexists _; iexact H6
  isplitl [HS]; · iexact HS
  iintro ⟨H3, ⟨%e6, H6⟩, HS⟩
  isplitl [HS Hg]
  · isplitl [HS]
    · iapply (scratch_kept m c t); iexact HS
    iexact Hg
  isplitl [Ho]; · iexact Ho
  isplitl [H0]; · iexact H0
  isplitl [H1]; · iexact H1
  isplitl [H2]; · iexact H2
  isplitl [H3]; · iexact H3
  isplitl [H4]; · iapply (idle_4 m c t (by omega) d4); iexact H4
  isplitl [H5]; · iapply (idle_5 m c t (by omega) d5); iexact H5
  unfold owns; iexists _; isplitr
  swap; · iexact H6
  ipureintro; exact View.read_writes_eq_canon _ _ _ (coverE m c t hE _)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

theorem first_in (c : Dev nD) : (Pipeline.ΦA spec0 c : sProp 𝕄) ⊢ PhiS m c 0 := by
  rw [PhiA_eq]; unfold PhiS
  iintro ⟨⟨%d, HS⟩, Hg⟩
  isplitl [HS]
  · iexists _; isplitr
    swap; · iexact HS
    ipureintro; intro t h; exact absurd rfl h
  iexact Hg

theorem last_out (c : Dev nD) (n : ℕ) : (PhiS m c n : sProp 𝕄) ⊢ Pipeline.ΦA spec0 c := by
  rw [PhiA_eq]; unfold PhiS
  iintro ⟨⟨%d, %hd, HS⟩, Hg⟩
  isplitl [HS]; · iexists _; iexact HS
  iexact Hg

set_option backward.isDefEq.respectTransparency.types false in
/-- Every run ends with the arrays at what the blocks say and the counters at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => first_in m c) (hout := fun c => last_out m c _)

/-- The frame of the projections program. -/
theorem frame_proj : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Proof.Proj
-- ==== Proof.Proj.Blocks.lean ====
module
public import proofs.«01_k».proof.Proof.Proj.Run
public import Idealize.ShloMosaic.Lib.Pipeline.ValueKit
public import Idealize.ShloMosaic.Lib.Pointwise
public import Idealize.ShloMosaic.Lib.Pipeline.ReadBack
/-!
What the kinds of grid point of the projections kernel leave in the scratch and in the tiles, entry by entry.
-/

@[expose] public section
set_option maxRecDepth 16384
noncomputable section
open Idealize.ShloMosaic Idealize.ShloMosaic.TcCoe Idealize.SL.Sem
open Idealize.ShloMosaic.Pipeline (Dat)
namespace Cert.Proof.Proj
open Cert.ProjIdeal Cert.ProjIdeal.Gen
variable (m : (ℓ : Loc nD τ sig) → Buf (Elt Ideal) ℓ)

/-- The reciprocal root of a row's mean square, the small constant added. -/
def RS (f : Fin 2048 → EReal) : EReal :=
  Ideal.rsqrt (Ideal.div (∑ d, f d * f d) (Ideal.ofBits FTy.f32 1157627904#32) + Ideal.ofBits FTy.f32 897988541#32)

/-- Row `r` of the normalised, scaled and shifted block. -/
def UR (X : FVec Ideal S1x1024x2048 .f32) (M : FVec Ideal S1x9x2048 .f32) (G : FVec Ideal S1x2048 .f32) (r : Fin 1024) (d : Fin 2048) : EReal :=
  X (ix3 0 r d) * RS (fun d => X (ix3 0 r d)) * (G (ix2 0 d) * (1 + M (ix3 0 4 d))) + M (ix3 0 3 d)

/-- An entry of the product with one chunk of the weights. -/
def DT (u : FVec Ideal S1024x2048 .bf16) (w : FVec Ideal S2048x1024 .bf16) (r : Fin 1024) (j : Fin 1024) : EReal := ∑ k, u (ix2 r k) * w (ix2 k j)

/-- The logistic as the kernel computes it. -/
def LG (z : EReal) : EReal :=
  Ideal.ofBits FTy.f32 1056964608#32 * Ideal.tanh (Ideal.ofBits FTy.f32 1056964608#32 * z) + Ideal.ofBits FTy.f32 1056964608#32

/-- A gated entry: a chunk's first half holds the branch's columns, its second half their gates. -/
def GLU (u : FVec Ideal S1024x2048 .bf16) (w : FVec Ideal S2048x1024 .bf16) (r : Fin 1024) (j : Fin 512) : EReal :=
  DT u w r ⟨j.val, by have := j.isLt; omega⟩ * LG (DT u w r ⟨512 + j.val, by have := j.isLt; omega⟩)

/-- A load after the stores, whatever they cover, reads what the stores leave. -/
theorem readCov_ld {Val : EltTy → Type} [∀ e, Nonempty (Val e)] {sg : RefSig} {κ : Kind} {sp : Space} {s : Shape} {e : EltTy} (v : View sg κ sp s e)
    (L : List (View.Piece Val s e)) (r : Rect s) : v.readCov L r.toLoadRect = View.ld (View.canon L) r := View.readCov_eq_canon' v L _

theorem oE_at (c : Dev nD) (t : Pt) (h) (xs : FVec Ideal S1024x2048 .bf16) (r : Fin 1024) (j : Fin 1024) :
    oE (F := Ideal) m c t h xs (ix3 0 r j) = LG (DT xs (iblk m c 3 t) r j) := by
  unfold oE runE
  frame_out
  rw [read_unread_whole]
  pointwise [k0_pay10]
  rfl

theorem oB_at (c : Dev nD) (t : Pt) (h) (xs : FVec Ideal S1024x2048 .bf16) (r : Fin 1024) (j : Fin 512) :
    oB (F := Ideal) m c t h xs (ix3 0 r j) = GLU xs (iblk m c 3 t) r j := by
  unfold oB runB
  frame_out
  rw [read_unread_whole]
  pointwise [k0_pay2]
  rfl

/-- The scratch after the first point holds the normalised rows. -/
theorem uA_at (c : Dev nD) (t : Pt) (h0 : t.val % 9 = 0) (y : S1024x2048.Idx)
    (r : Fin 1024) (d : Fin 2048) (hr : (y 0).val = r.val) (hd : (y 1).val = d.val) :
    uA (F := Ideal) m c t h0 y = UR (iblk m c 0 t) (iblk m c 1 t) (iblk m c 2 t) r d := by
  unfold uA runA
  frame_out
  clear h0
  canon_tiles x h
  · have hb : 768 + (x 0).val < 1024 := by clear * - x0_lt; omega
    have er : (⟨768 + (x 0).val, hb⟩ : Fin 1024) = r := Fin.ext (show 768 + (x 0).val = r.val by omega)
    subst er
    have ed : (x 1 : Fin 2048) = d := Fin.ext (show (x 1).val = d.val by omega)
    subst ed
    open_payloads; pointwise; rfl
  · have hb : 512 + (x 0).val < 1024 := by clear * - x0_lt; omega
    have er : (⟨512 + (x 0).val, hb⟩ : Fin 1024) = r := Fin.ext (show 512 + (x 0).val = r.val by omega)
    subst er
    have ed : (x 1 : Fin 2048) = d := Fin.ext (show (x 1).val = d.val by omega)
    subst ed
    open_payloads; pointwise; rfl
  · have hb : 256 + (x 0).val < 1024 := by clear * - x0_lt; omega
    have er : (⟨256 + (x 0).val, hb⟩ : Fin 1024) = r := Fin.ext (show 256 + (x 0).val = r.val by omega)
    subst er
    have ed : (x 1 : Fin 2048) = d := Fin.ext (show (x 1).val = d.val by omega)
    subst ed
    open_payloads; pointwise; rfl
  · have hb : 0 + (x 0).val < 1024 := by clear * - x0_lt; omega
    have er : (⟨0 + (x 0).val, hb⟩ : Fin 1024) = r := Fin.ext (show 0 + (x 0).val = r.val by omega)
    subst er
    have ed : (x 1 : Fin 2048) = d := Fin.ext (show (x 1).val = d.val by omega)
    subst ed
    open_payloads; pointwise; rfl

theorem oA_at (c : Dev nD) (t : Pt) (h0 : t.val % 9 = 0) (y : S1x1024x512.Idx)
    (r : Fin 1024) (j : Fin 512) (hr : (y 1).val = r.val) (hd : (y 2).val = j.val) :
    oA (F := Ideal) m c t h0 y = GLU (uA m c t h0) (iblk m c 3 t) r j := by
  unfold oA uA runA
  frame_out
  clear h0
  simp only [readCov_ld]
  generalize View.canon (Val := Elt Ideal) (s := S1024x2048) (e := .bf16) _ = u
  canon_tiles x h
  · have hb : 768 + (x 1).val < 1024 := by clear * - x1_lt; omega
    have er : (⟨768 + (x 1).val, hb⟩ : Fin 1024) = r := Fin.ext (show 768 + (x 1).val = r.val by omega)
    subst er
    have ed : (x 2 : Fin 512) = j := Fin.ext (show (x 2).val = j.val by omega)
    subst ed
    open_payloads; pointwise; rfl
  · have hb : 512 + (x 1).val < 1024 := by clear * - x1_lt; omega
    have er : (⟨512 + (x 1).val, hb⟩ : Fin 1024) = r := Fin.ext (show 512 + (x 1).val = r.val by omega)
    subst er
    have ed : (x 2 : Fin 512) = j := Fin.ext (show (x 2).val = j.val by omega)
    subst ed
    open_payloads; pointwise; rfl
  · have hb : 256 + (x 1).val < 1024 := by clear * - x1_lt; omega
    have er : (⟨256 + (x 1).val, hb⟩ : Fin 1024) = r := Fin.ext (show 256 + (x 1).val = r.val by omega)
    subst er
    have ed : (x 2 : Fin 512) = j := Fin.ext (show (x 2).val = j.val by omega)
    subst ed
    open_payloads; pointwise; rfl
  · have hb : 0 + (x 1).val < 1024 := by clear * - x1_lt; omega
    have er : (⟨0 + (x 1).val, hb⟩ : Fin 1024) = r := Fin.ext (show 0 + (x 1).val = r.val by omega)
    subst er
    have ed : (x 2 : Fin 512) = j := Fin.ext (show (x 2).val = j.val by omega)
    subst ed
    open_payloads; pointwise; rfl

theorem dt_of (u : FVec Ideal S1024x2048 .bf16) (w : FVec Ideal S2048x1024 .bf16) (r r' j j' : Fin 1024) (er : r' = r) (ej : j' = j) :
    ∑ k, u (ix2 r' k) * w (ix2 k j') = DT u w r j := by subst er; subst ej; rfl

/-- The queries' scale as named. -/
theorem scale_named : (Named.named κ "q_scale" (0x3E0293EE#32 : BitVec FTy.f32.bits) : Ideal .f32) = ((((Real.log 2) * (Real.sqrt 128))⁻¹ : ℝ) : EReal) :=
  IdealRules.named_const.ideal_named_scalar κ "q_scale" _ _ rfl

theorem oC_at (c : Dev nD) (t : Pt) (h0) (xs : FVec Ideal S1024x2048 .bf16) (y : S1x8x1024x128.Idx)
    (r : Fin 1024) (j : Fin 1024) (hr : (y 2).val = r.val) (hj : j.val = 128 * (y 1).val + (y 3).val) :
    oC (F := Ideal) m c t h0 xs y = DT xs (iblk m c 3 t) r j * ((((Real.log 2) * (Real.sqrt 128))⁻¹ : ℝ) : EReal) := by
  unfold oC runC
  frame_out
  clear h0
  rw [read_unread_whole]
  canon_tiles x h
  all_goals
    open_payloads; pointwise
    exact congrArg₂ (· * ·) (dt_of xs _ _ _ _ _ (Fin.ext (by clear * - h2 hr; omega)) (Fin.ext (by clear * - h1 x1_lt h3 hj; simp only []; omega))) scale_named

theorem oD_at (c : Dev nD) (t : Pt) (h0) (xs : FVec Ideal S1024x2048 .bf16) (y : S1x8x1024x128.Idx)
    (r : Fin 1024) (j : Fin 1024) (hr : (y 2).val = r.val) (hj : j.val = 128 * (y 1).val + (y 3).val) :
    oD (F := Ideal) m c t h0 xs y = DT xs (iblk m c 3 t) r j := by
  unfold oD runD
  frame_out
  clear h0
  rw [read_unread_whole]
  canon_tiles x h
  all_goals
    open_payloads; pointwise
    exact dt_of xs _ _ _ _ _ (Fin.ext (by clear * - h2 hr; omega)) (Fin.ext (by clear * - h1 x1_lt h3 hj; simp only []; omega))
end Cert.Proof.Proj
-- ==== Proof.Proj.Inputs.lean ====
module
public import proofs.«01_k».proof.Proof.Proj.Blocks
public import Idealize.ShloMosaic.Lib.Claim

/-!
The blocks a grid point of the projections kernel reads, as entries of the program's arguments.
-/

@[expose] public section
set_option maxRecDepth 16384
noncomputable section
open Idealize.ShloMosaic Idealize.ShloMosaic.TcCoe Idealize.SL.Sem
namespace Cert.Proof.Proj
open Cert.ProjIdeal Cert.ProjIdeal.Gen
variable (m : (ℓ : Loc nD τ sig) → Buf (Elt Ideal) ℓ)

theorem idx : ∀ t : Fin cfg0.N, win0_0.index t = ![t.val / 144, t.val / 9 % 16, 0] ∧ win0_1.index t = ![t.val / 144, 0, 0]
    ∧ win0_2.index t = ![0, 0] ∧ win0_3.index t = ![0, t.val % 9] ∧ win0_4.index t = ![t.val / 144, t.val / 9 % 16, min (t.val % 9) 1]
    ∧ win0_5.index t = ![t.val / 144, min (t.val % 9 - 2) 2, t.val / 9 % 16, 0] ∧ win0_6.index t = ![t.val / 144, t.val / 9 % 16, min (t.val % 9 - 5) 3]
    ∧ t.val / 144 < 2 ∧ t.val < 288 :=
  (by decide +kernel : ∀ t : Fin grid0.N, _)

abbrev A0 (c : Dev nD) : FVec Ideal S2x16384x2048 .f32 := m ((c.tc : Thread nD τ).loc main_arg0)
abbrev A1 (c : Dev nD) : FVec Ideal S2x3x3x2048 .f32 := m ((c.tc : Thread nD τ).loc main_arg1)
abbrev A2 (c : Dev nD) : FVec Ideal S1x3x2048 .f32 := m ((c.tc : Thread nD τ).loc main_arg2)
abbrev A3 (c : Dev nD) : FVec Ideal S1x2048x9216 .f32 := m ((c.tc : Thread nD τ).loc main_arg3)

theorem i0 (c : Dev nD) (t : Fin cfg0.N) (b : Fin 2) (s : Fin 16384) (r : Fin 1024) (d : Fin 2048) (hb : b.val = t.val / 144) (hs : s.val = 1024 * (t.val / 9 % 16) + r.val) :
    (show FVec Ideal S1x1024x2048 .f32 from iblk m c 0 t) (ix3 0 r d) = A0 m c (ix3 b s d) := by
  blk_point [iblk, V, idx t]

theorem i1 (c : Dev nD) (t : Fin cfg0.N) (b : Fin 2) (j : Fin 3) (k : Fin 9) (d : Fin 2048) (hb : b.val = t.val / 144) (hk : k.val = 3 + j.val) :
    (show FVec Ideal S1x9x2048 .f32 from iblk m c 1 t) (ix3 0 k d) = A1 m c (ix4 b 1 j d) := by
  blk_point [iblk, V, idx t]

theorem i2 (c : Dev nD) (t : Fin cfg0.N) (d : Fin 2048) :
    (show FVec Ideal S1x2048 .f32 from iblk m c 2 t) (ix2 0 d) = A2 m c (ix3 0 1 d) := by
  blk_point [iblk, V, idx t]

/-- The column of the weights that the reordered weights hold in column `n`: the branch and its gates come in alternating half chunks. -/
def col (n : ℕ) : ℕ := if n < 512 then n else if n < 1024 then 512 + n else if n < 1536 then n - 512 else n

theorem v13_at (c : Dev nD) (k : Fin 2048) (n l : Fin 9216) (hl : l.val = col n.val) :
    (show FVec Ideal S2048x9216 .bf16 from V m c main_v13) (ix2 k n) = A3 m c (ix3 0 k l) := by
  unfold V
  have hn := n.isLt
  after_results_simp
  pointwise
  after_results_simp
  pointwise
  unfold col at hl
  split_ifs <;> exact congrArg (fun i => A3 m c (ix3 0 k i)) (Fin.ext (by split_ifs at hl <;> simp only [hl] <;> omega))

theorem i3 (c : Dev nD) (t : Fin cfg0.N) (k : Fin 2048) (j : Fin 1024) (l : Fin 9216) (hl : l.val = col (1024 * (t.val % 9) + j.val)) :
    (show FVec Ideal S2048x1024 .bf16 from iblk m c 3 t) (ix2 k j) = A3 m c (ix3 0 k l) := by
  have hj := j.isLt
  refine Eq.trans ?_ (v13_at m c k ⟨1024 * (t.val % 9) + j.val, by omega⟩ l hl)
  blk_point [iblk, idx t]
end Cert.Proof.Proj
-- ==== Proof.Proj.Ref.lean ====
module
public import proofs.«01_k».proof.Proof.Gen.ProjRefIdeal.Run
public import Idealize.ShloMosaic.Lib.Pipeline.ValueKit
public import Idealize.ShloMosaic.Lib.Pointwise

/-!
The projections reference, stage by stage, and each stage read at an index.
-/

@[expose] public section
set_option maxRecDepth 16384
noncomputable section
open Idealize.ShloMosaic Idealize.ShloMosaic.TcCoe Idealize.SL.Sem
namespace Cert.Proof.Proj.R
open Cert.ProjRefIdeal Cert.ProjRefIdeal.Gen

abbrev T3 := FVec Ideal S2x16384x2048 .f32
abbrev TH := FVec Ideal S2x16384x9216 .f32

/-- The reciprocal root of each row's mean square, spread over the row. -/
def rn (x : T3) : T3 :=
  broadcastInDim S2x16384x2048 ![0, 1, 2] bcast_S2x16384x1_S2x16384x2048_0_1_2 (Host.rsqrt (addf (Host.divf (broadcastInDim S2x16384x1 ![0, 1] bcast_S2x16384_S2x16384x1_0_1
    (Host.reduceAdd (mulf x x) (constant S_ .f32 0x00000000#32) reducesTo_S2x16384x2048_S2x16384_d2 h_S_))
    (broadcastInDim S2x16384x1 ![] bcast_S_S2x16384x1 (constant S_ .f32 0x45000000#32))) (broadcastInDim S2x16384x1 ![] bcast_S_S2x16384x1 (constant S_ .f32 0x358637BD#32))))

/-- The second gain row spread over the batch and the tokens. -/
def gn (g : FVec Ideal S1x3x2048 .f32) : T3 :=
  broadcastInDim S2x16384x2048 ![0, 1, 2] bcast_S1x1x2048_S2x16384x2048_0_1_2 (broadcastInDim S1x1x2048 ![2] bcast_S2048_S1x1x2048_2
    (shapeCast _ (extractStridedSlice S1x1x2048 ![0, 1, 0] g slices_S1x3x2048_S1x1x2048_0_1_0) shapeCasts_S1x1x2048_S2048))

def mShift (mod : FVec Ideal S2x3x3x2048 .f32) : FVec Ideal S2x1x2048 .f32 :=
  broadcastInDim S2x1x2048 ![0, 2] bcast_S2x2048_S2x1x2048_0_2 (shapeCast _ (extractStridedSlice S2x1x1x2048 ![0, 1, 0, 0] mod slices_S2x3x3x2048_S2x1x1x2048_0_1_0_0) shapeCasts_S2x1x1x2048_S2x2048)
def mScale (mod : FVec Ideal S2x3x3x2048 .f32) : FVec Ideal S2x1x2048 .f32 :=
  broadcastInDim S2x1x2048 ![0, 2] bcast_S2x2048_S2x1x2048_0_2 (shapeCast _ (extractStridedSlice S2x1x1x2048 ![0, 1, 1, 0] mod slices_S2x3x3x2048_S2x1x1x2048_0_1_1_0) shapeCasts_S2x1x1x2048_S2x2048)

/-- A modulation row spread over the tokens. -/
def sp (a : FVec Ideal S2x1x2048 .f32) : T3 := broadcastInDim S2x16384x2048 ![0, 1, 2] bcast_S2x1x2048_S2x16384x2048_0_1_2 a

/-- The normalised, scaled and shifted input. -/
def uu (x : T3) (mod : FVec Ideal S2x3x3x2048 .f32) (gp : FVec Ideal S1x3x2048 .f32) : T3 :=
  addf (mulf (mulf (mulf x (rn x)) (gn gp)) (sp (addf (broadcastInDim S2x1x2048 ![] bcast_S_S2x1x2048 (constant S_ .f32 0x3F800000#32)) (mScale mod)))) (sp (mShift mod))

/-- The product with the weights. -/
def hh (u : T3) (wi : FVec Ideal S1x2048x9216 .f32) : TH :=
  Host.dotGeneral dot_S2x16384x2048_S2048x9216_S2x16384x9216_2_0_01_1_n_n none u (shapeCast _ wi shapeCasts_S1x2048x9216_S2048x9216)

/-- The gated branch. -/
def o0 (h : TH) : FVec Ideal S2x16384x1024 .bf16 :=
  truncf .bf16 (mulf (extractStridedSlice S2x16384x1024 ![0, 0, 0] h slices_S2x16384x9216_S2x16384x1024_0_0_0)
    (Host.divf (broadcastInDim S2x16384x1024 ![] bcast_S_S2x16384x1024 (constant S_ .f32 0x3F800000#32))
      (addf (broadcastInDim S2x16384x1024 ![] bcast_S_S2x16384x1024 (constant S_ .f32 0x3F800000#32))
        (Host.exp (Host.negf (extractStridedSlice S2x16384x1024 ![0, 0, 1024] h slices_S2x16384x9216_S2x16384x1024_0_0_1024)))))) bitsLt_bf16_f32

/-- Columns laid out by heads. -/
def hd (a : FVec Ideal S2x16384x1024 .f32) : FVec Ideal S2x8x16384x128 .f32 :=
  transpose S2x8x16384x128 [0, 2, 1, 3] (shapeCast S2x16384x8x128 a shapeCasts_S2x16384x1024_S2x16384x8x128) transposes_S2x16384x8x128_S2x8x16384x128_0_2_1_3

/-- The queries, scaled, then the keys and the values, by heads. -/
def o1 (h : TH) : FVec Ideal S2x24x16384x128 .bf16 :=
  truncf .bf16 (Cert.ProjRefIdeal.Value.fn_main_v46 (F := Ideal)
    (hd (Host.divf (extractStridedSlice S2x16384x1024 ![0, 0, 2048] h slices_S2x16384x9216_S2x16384x1024_0_0_2048)
      (broadcastInDim S2x16384x1024 ![] bcast_S_S2x16384x1024 (mulf (Host.sqrt (constant S_ .f32 0x43000000#32)) (Host.log (constant S_ .f32 0x40000000#32))))))
    (hd (extractStridedSlice S2x16384x1024 ![0, 0, 3072] h slices_S2x16384x9216_S2x16384x1024_0_0_3072))
    (hd (extractStridedSlice S2x16384x1024 ![0, 0, 4096] h slices_S2x16384x9216_S2x16384x1024_0_0_4096))) bitsLt_bf16_f32

/-- The merge gates. -/
def o2 (h : TH) : FVec Ideal S2x16384x4096 .bf16 :=
  truncf .bf16 (Host.divf (broadcastInDim S2x16384x4096 ![] bcast_S_S2x16384x4096 (constant S_ .f32 0x3F800000#32))
    (addf (broadcastInDim S2x16384x4096 ![] bcast_S_S2x16384x4096 (constant S_ .f32 0x3F800000#32))
      (Host.exp (Host.negf (extractStridedSlice S2x16384x4096 ![0, 0, 5120] h slices_S2x16384x9216_S2x16384x4096_0_0_5120))))) bitsLt_bf16_f32

/-- The product of the normalised input with the weights, of the program's arguments. -/
def HH (m : (ℓ : Loc nD τ sig) → Buf (Elt Ideal) ℓ) (c : Dev nD) : TH :=
  hh (uu (m ((c.tc : Thread nD τ).loc main_arg0)) (m ((c.tc : Thread nD τ).loc main_arg1)) (m ((c.tc : Thread nD τ).loc main_arg2))) (m ((c.tc : Thread nD τ).loc main_arg3))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v54) = o0 (HH m c)
      ∧ r.2.mem ((c.tc : Thread nD τ).loc main_v55) = o1 (HH m c)
      ∧ r.2.mem ((c.tc : Thread nD τ).loc main_v62) = o2 (HH m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2.1.trans rfl, (h c).2.2.2⟩)
    (Cert.ProjRefIdeal.Value.run m ρ)

/-- The reciprocal root of a row's mean square, the small constant added. -/
def RS (f : Fin 2048 → EReal) : EReal :=
  Ideal.rsqrt (Ideal.div (∑ d, f d * f d) (Ideal.ofBits FTy.f32 1157627904#32) + Ideal.ofBits FTy.f32 897988541#32)

theorem rn_at (x : T3) (b : Fin 2) (s : Fin 16384) (d : Fin 2048) : rn x (ix3 b s d) = RS (fun d => x (ix3 b s d)) := by
  pointwise [rn]; rfl
theorem uu_at (x : T3) (mod : FVec Ideal S2x3x3x2048 .f32) (gp : FVec Ideal S1x3x2048 .f32) (b : Fin 2) (s : Fin 16384) (d : Fin 2048) :
    uu x mod gp (ix3 b s d) = x (ix3 b s d) * RS (fun d => x (ix3 b s d)) * gp (ix3 0 1 d) * (1 + mod (ix4 b 1 1 d)) + mod (ix4 b 1 0 d) := by
  rw [← rn_at x b s d]; pointwise [uu, sp, mScale, mShift, gn]
theorem hh_at (u : T3) (wi : FVec Ideal S1x2048x9216 .f32) (b : Fin 2) (s : Fin 16384) (n : Fin 9216) :
    hh u wi (ix3 b s n) = ∑ k, u (ix3 b s k) * wi (ix3 0 k n) := by
  pointwise [hh]
theorem o0_at (h : TH) (b : Fin 2) (s : Fin 16384) (n : Fin 1024) :
    o0 h (ix3 b s n) = h (ix3 b s ⟨n.val, by have := n.isLt; omega⟩) * Ideal.div 1 (1 + Ideal.exp (-h (ix3 b s ⟨1024 + n.val, by have := n.isLt; omega⟩))) := by
  pointwise [o0]
theorem o2_at (h : TH) (b : Fin 2) (s : Fin 16384) (n : Fin 4096) :
    o2 h (ix3 b s n) = Ideal.div 1 (1 + Ideal.exp (-h (ix3 b s ⟨5120 + n.val, by have := n.isLt; omega⟩))) := by
  pointwise [o2]
/-- The divisor of the queries. -/
theorem scale : Ideal.sqrt (Ideal.ofBits FTy.f32 1124073472#32) * Ideal.log (Ideal.ofBits FTy.f32 1073741824#32) = ((Real.sqrt 128 * Real.log 2 : ℝ) : EReal) := by
  have h1 : Ideal.ofBits FTy.f32 1124073472#32 = ((128 : ℝ) : EReal) := by simp [Ideal.ofBits, Ideal.ieee, -EReal.coe_mul]; norm_num
  have h2 : Ideal.ofBits FTy.f32 1073741824#32 = ((2 : ℝ) : EReal) := by simp [Ideal.ofBits, Ideal.ieee, -EReal.coe_mul]; norm_num
  rw [h1, h2, Ideal.sqrt_coe, Ideal.log_coe, if_neg (by norm_num), if_neg (by norm_num), EReal.coe_mul]
/-- A head of the queries. -/
theorem o1_q (h : TH) (b : Fin 2) (d : Fin 24) (s : Fin 16384) (l : Fin 128) (hq : d.val < 8) (n : Fin 9216) (hn : n.val = 2048 + 128 * d.val + l.val) :
    o1 h (ix4 b d s l) = h (ix3 b s n) * (((Real.log 2 * Real.sqrt 128)⁻¹ : ℝ) : EReal) := by
  have hz : Real.sqrt 128 * Real.log 2 ≠ 0 := mul_ne_zero (Real.sqrt_ne_zero'.2 (by norm_num)) (Real.log_pos (by norm_num)).ne'
  pointwise [o1, Cert.ProjRefIdeal.Value.fn_main_v46, hd]
  rw [dif_pos hq, scale, Ideal.div_coe hz, one_div, mul_comm (Real.sqrt 128)]
  exact congrArg (fun i => h (ix3 b s i) * _) (Fin.ext (by show 2048 + (d.val * 128 + l.val) = n.val; omega))
/-- A head of the keys or the values. -/
theorem o1_kv (h : TH) (b : Fin 2) (d : Fin 24) (s : Fin 16384) (l : Fin 128) (hq : 8 ≤ d.val) (n : Fin 9216) (hn : n.val = 2048 + 128 * d.val + l.val) :
    o1 h (ix4 b d s l) = h (ix3 b s n) := by
  pointwise [o1, Cert.ProjRefIdeal.Value.fn_main_v46, hd]
  rw [dif_neg (by omega)]
  have hd := d.isLt
  split
  · exact congrArg (fun i => h (ix3 b s i)) (Fin.ext (by show 3072 + ((d.val - 8) * 128 + l.val) = n.val; omega))
  · exact congrArg (fun i => h (ix3 b s i)) (Fin.ext (by show 4096 + ((d.val - 8 - 8) * 128 + l.val) = n.val; omega))
end Cert.Proof.Proj.R
-- ==== Proof.Proj.Fold.lean ====
module
public import proofs.«01_k».proof.Proof.Proj.Inputs
public import proofs.«01_k».proof.Proof.Proj.Ref
public import proofs.«01_k».proof.Proof.Ffn.Logistic

/-!
The projections kernel's three arrays are its reference's.
-/

@[expose] public section
set_option maxRecDepth 16384
noncomputable section
open Idealize.ShloMosaic Idealize.ShloMosaic.TcCoe Idealize.SL.Sem
open Idealize.ShloMosaic.Pipeline (Dat)
namespace Cert.Proof.Proj
open Cert.ProjIdeal Cert.ProjIdeal.Gen
variable (m : (ℓ : Loc nD τ sig) → Buf (Elt Ideal) ℓ)

/-- The normalised, scaled and shifted row of token `s`. -/
def UG (c : Dev nD) (b : Fin 2) (s : Fin 16384) (d : Fin 2048) : EReal :=
  A0 m c (ix3 b s d) * RS (fun d => A0 m c (ix3 b s d)) * (A2 m c (ix3 0 1 d) * (1 + A1 m c (ix4 b 1 1 d))) + A1 m c (ix4 b 1 0 d)

/-- The reference's product over the kernel's arguments. -/
def HG (c : Dev nD) : R.TH := R.hh (R.uu (A0 m c) (A1 m c) (A2 m c)) (A3 m c)

theorem HG_at (c : Dev nD) (b : Fin 2) (s : Fin 16384) (n : Fin 9216) : HG m c (ix3 b s n) = ∑ k, UG m c b s k * A3 m c (ix3 0 k n) := by
  unfold HG
  rw [R.hh_at]
  refine Finset.sum_congr rfl fun k _ => congrArg (· * _) ?_
  rw [R.uu_at, mul_assoc (A0 m c (ix3 b s k) * _)]; rfl

/-- The normalised rows a point's row block works from. -/
theorem uAt_at (c : Dev nD) (t : Pt) (b : Fin 2) (s : Fin 16384) (r : Fin 1024) (hb : b.val = t.val / 144) (hs : s.val = 1024 * (t.val / 9 % 16) + r.val) (d : Fin 2048) :
    uAt (F := Ideal) m c t (ix2 r d) = UG m c b s d := by
  have hq : (pt t 0 (by omega)).val = t.val - t.val % 9 := rfl
  unfold uAt
  refine (uA_at m c (pt t 0 (by omega)) (pt_mod t 0 _) (ix2 r d) r d rfl rfl).trans ?_
  have hb' : b.val = (pt t 0 (by omega)).val / 144 := by rw [hq]; omega
  have h0 : ∀ d, (show FVec Ideal S1x1024x2048 .f32 from iblk m c 0 (pt t 0 (by omega))) (ix3 0 r d) = A0 m c (ix3 b s d) :=
    fun d => i0 m c _ b s r d hb' (by rw [hq]; omega)
  exact congrArg₂ (· + ·) (congrArg₂ (· * ·) (congrArg₂ (· * ·) (h0 d) (congrArg RS (funext h0)))
    (congrArg₂ (· * ·) (i2 m c _ d) (congrArg (1 + ·) (i1 m c _ b 1 4 d hb' rfl)))) (i1 m c _ b 0 3 d hb' rfl)

/-- A point's product, read in the reference's columns. -/
theorem dt_eq (c : Dev nD) (t : Pt) (u : FVec Ideal S1024x2048 .bf16) (b : Fin 2) (s : Fin 16384) (r : Fin 1024) (j : Fin 1024) (n : Fin 9216)
    (hu : ∀ d, u (ix2 r d) = UG m c b s d) (hn : n.val = col (1024 * (t.val % 9) + j.val)) : DT u (iblk m c 3 t) r j = HG m c (ix3 b s n) := by
  rw [HG_at]
  exact Finset.sum_congr rfl fun k _ => congrArg₂ (· * ·) (hu k) (i3 m c t k j n hn)

theorem col_of (q j n : ℕ) (hq : 2 ≤ q) (h : n = 1024 * q + j) : n = col (1024 * q + j) := by
  unfold col; rw [if_neg (by omega), if_neg (by omega), if_neg (by omega)]; exact h

theorem lg_eq (z : EReal) : LG z = Ideal.div 1 (1 + Ideal.exp (-z)) := Cert.Proof.Ffn.logistic z

/-- A gated entry of a first or second point. -/
theorem glu_eq (c : Dev nD) (t : Pt) (ht : t.val % 9 ≤ 1) (u : FVec Ideal S1024x2048 .bf16) (b : Fin 2) (s : Fin 16384) (r : Fin 1024) (j : Fin 512) (n : Fin 1024)
    (hu : ∀ d, u (ix2 r d) = UG m c b s d) (hn : n.val = 512 * (t.val % 9) + j.val) : GLU u (iblk m c 3 t) r j = R.o0 (HG m c) (ix3 b s n) := by
  have hj := j.isLt
  rw [R.o0_at, GLU, lg_eq,
    dt_eq m c t u b s r ⟨j.val, by omega⟩ ⟨n.val, by omega⟩ hu (by show n.val = col (1024 * (t.val % 9) + j.val); unfold col; split_ifs <;> omega),
    dt_eq m c t u b s r ⟨512 + j.val, by omega⟩ ⟨1024 + n.val, by omega⟩ hu (by show 1024 + n.val = col (1024 * (t.val % 9) + (512 + j.val)); unfold col; split_ifs <;> omega)]

/-- The first tile where it is written back. -/
theorem v4 (c : Dev nD) (t : Pt) (hf : t.val % 9 = 0 ∨ t.val % 9 = 8) (b : Fin 2) (s : Fin 16384) (r : Fin 1024) (j : Fin 512) (n : Fin 1024)
    (hb : b.val = t.val / 144) (hs : s.val = 1024 * (t.val / 9 % 16) + r.val) (hn : n.val = 512 * min (t.val % 9) 1 + j.val) :
    at4 (F := Ideal) m c t (ix3 0 r j) = R.o0 (HG m c) (ix3 b s n) := by
  rcases hf with h | h
  · rw [at4_first m c t h]
    refine (oA_at m c t h (ix3 0 r j) r j rfl rfl).trans ?_
    rw [← uAt_first m c t h]
    exact glu_eq m c t (by omega) _ b s r j n (uAt_at m c t b s r hb hs) (by omega)
  · have hq : (pt t 1 (by omega)).val = t.val - t.val % 9 + 1 := rfl
    rw [at4_stays m c t (pt t 1 (by omega)) (by rw [hq]; omega) (by omega) (by rw [hq]; omega), at4_second m c _ (pt_mod t 1 _)]
    refine (oB_at m c _ _ _ r j).trans ?_
    exact glu_eq m c _ (by rw [hq]; omega) _ b s r j n (uAt_at m c _ b s r (by rw [hq]; omega) (by rw [hq]; omega)) (by rw [hq]; omega)

/-- The second tile where it is written back. -/
theorem v5 (c : Dev nD) (t : Pt) (hf : t.val % 9 = 2 ∨ t.val % 9 = 3 ∨ t.val % 9 = 8) (b : Fin 2) (d : Fin 24) (s : Fin 16384) (e : Fin 8) (r : Fin 1024) (l : Fin 128)
    (hb : b.val = t.val / 144) (hd : d.val = 8 * min (t.val % 9 - 2) 2 + e.val) (hs : s.val = 1024 * (t.val / 9 % 16) + r.val) :
    at5 (F := Ideal) m c t (ix4 0 e r l) = R.o1 (HG m c) (ix4 b d s l) := by
  have he := e.isLt
  have hl := l.isLt
  have hd' := d.isLt
  have hn : 2048 + 128 * d.val + l.val < 9216 := by omega
  have hj : 128 * e.val + l.val < 1024 := by omega
  rcases hf with h | h | h
  · have hc : 2048 + 128 * d.val + l.val = col (1024 * (t.val % 9) + (128 * e.val + l.val)) := col_of _ _ _ (by omega) (by omega)
    rw [at5_queries m c t h, R.o1_q (HG m c) b d s l (by omega) ⟨2048 + 128 * d.val + l.val, hn⟩ rfl]
    have hD := dt_eq m c t (uAt (F := Ideal) m c t) b s r ⟨128 * e.val + l.val, hj⟩ ⟨2048 + 128 * d.val + l.val, hn⟩ (uAt_at m c t b s r hb hs) hc
    rw [← hD]
    exact oC_at m c t h _ (ix4 0 e r l) r ⟨128 * e.val + l.val, hj⟩ rfl rfl
  · have hc : 2048 + 128 * d.val + l.val = col (1024 * (t.val % 9) + (128 * e.val + l.val)) := col_of _ _ _ (by omega) (by omega)
    rw [at5_rest m c t (by omega), R.o1_kv (HG m c) b d s l (by omega) ⟨2048 + 128 * d.val + l.val, hn⟩ rfl]
    refine (oD_at m c t _ _ (ix4 0 e r l) r ⟨128 * e.val + l.val, hj⟩ rfl rfl).trans ?_
    exact dt_eq m c t _ b s r ⟨128 * e.val + l.val, hj⟩ ⟨2048 + 128 * d.val + l.val, hn⟩ (uAt_at m c t b s r hb hs) hc
  · have hq : (pt t 4 (by omega)).val = t.val - t.val % 9 + 4 := rfl
    generalize pt t 4 (by omega) = q at hq
    have hc : 2048 + 128 * d.val + l.val = col (1024 * (q.val % 9) + (128 * e.val + l.val)) := col_of _ _ _ (by omega) (by omega)
    rw [at5_stays m c t q (by omega) (by omega) (by omega), at5_rest m c q (by omega), R.o1_kv (HG m c) b d s l (by omega) ⟨2048 + 128 * d.val + l.val, hn⟩ rfl]
    refine (oD_at m c q _ _ (ix4 0 e r l) r ⟨128 * e.val + l.val, hj⟩ rfl rfl).trans ?_
    exact dt_eq m c q _ b s r ⟨128 * e.val + l.val, hj⟩ ⟨2048 + 128 * d.val + l.val, hn⟩ (uAt_at m c q b s r (by omega) (by omega)) hc

/-- The third tile where it is written back. -/
theorem v6 (c : Dev nD) (t : Pt) (hf : 5 ≤ t.val % 9) (b : Fin 2) (s : Fin 16384) (r : Fin 1024) (j : Fin 1024) (n : Fin 4096)
    (hb : b.val = t.val / 144) (hs : s.val = 1024 * (t.val / 9 % 16) + r.val) (hn : n.val = 1024 * min (t.val % 9 - 5) 3 + j.val) :
    at6 (F := Ideal) m c t (ix3 0 r j) = R.o2 (HG m c) (ix3 b s n) := by
  have hj := j.isLt
  rw [at6_gates m c t hf, R.o2_at, ← lg_eq]
  refine (oE_at m c t hf _ r j).trans (congrArg LG ?_)
  exact dt_eq m c t _ b s r j _ (uAt_at m c t b s r hb hs) (by show 5120 + n.val = col (1024 * (t.val % 9) + j.val); exact col_of _ _ _ (by omega) (by omega))

theorem arr4 (c : Dev nD) : (dats (F := Ideal) m 0 c).arrAt 4 cfg0.N = R.o0 (HG m c) := by
  refine (dats (F := Ideal) m 0 c).arrAt_eq_of_covers 4 _ (by decide +kernel) fun t hf y => ?_
  obtain ⟨-, -, -, -, e, -, -, h2, h288⟩ := idx t
  blk_simp
  rw [after_4]
  obtain ⟨r, j, rfl⟩ : ∃ (r : Fin 1024) (j : Fin 512), y = ix3 0 r j := ⟨y 1, y 2, (eq_ix3 (n0 := 1) (n1 := 1024) (n2 := 512) y).trans (congrArg (fun z => ix3 z _ _) (Subsingleton.elim _ _))⟩
  have hr := r.isLt
  have hj := j.isLt
  refine (v4 m c t ((flush4_iff t).1 hf) ⟨t.val / 144, h2⟩ ⟨1024 * (t.val / 9 % 16) + r.val, by omega⟩ r j ⟨512 * min (t.val % 9) 1 + j.val, by omega⟩ rfl rfl rfl).trans (congrArg (R.o0 (HG m c)) ?_)
  funext a; apply Fin.ext
  match a with
  | ⟨0, _⟩ => blk_simp [e]; rfl
  | ⟨1, _⟩ => blk_simp [e]; show 1024 * (t.val / 9 % 16) + r.val = _; omega
  | ⟨2, _⟩ => blk_simp [e]; show 512 * min (t.val % 9) 1 + j.val = _; omega

theorem arr5 (c : Dev nD) : (dats (F := Ideal) m 0 c).arrAt 5 cfg0.N = R.o1 (HG m c) := by
  refine (dats (F := Ideal) m 0 c).arrAt_eq_of_covers 5 _ (by decide +kernel) fun t hf y => ?_
  obtain ⟨-, -, -, -, -, e, -, h2, h288⟩ := idx t
  blk_simp
  rw [after_5]
  obtain ⟨k, r, l, rfl⟩ : ∃ (k : Fin 8) (r : Fin 1024) (l : Fin 128), y = ix4 0 k r l :=
    ⟨y 1, y 2, y 3, (eq_ix4 (n0 := 1) (n1 := 8) (n2 := 1024) (n3 := 128) y).trans (congrArg (fun z => ix4 z _ _ _) (Subsingleton.elim _ _))⟩
  have hr := r.isLt
  have hk := k.isLt
  refine (v5 m c t ((flush5_iff t).1 hf) ⟨t.val / 144, h2⟩ ⟨8 * min (t.val % 9 - 2) 2 + k.val, by omega⟩ ⟨1024 * (t.val / 9 % 16) + r.val, by omega⟩ k r l rfl rfl rfl).trans
    (congrArg (R.o1 (HG m c)) ?_)
  funext a; apply Fin.ext
  match a with
  | ⟨0, _⟩ => blk_simp [e]; rfl
  | ⟨1, _⟩ => blk_simp [e]; show 8 * min (t.val % 9 - 2) 2 + k.val = _; omega
  | ⟨2, _⟩ => blk_simp [e]; show 1024 * (t.val / 9 % 16) + r.val = _; omega
  | ⟨3, _⟩ => blk_simp [e]

theorem arr6 (c : Dev nD) : (dats (F := Ideal) m 0 c).arrAt 6 cfg0.N = R.o2 (HG m c) := by
  refine (dats (F := Ideal) m 0 c).arrAt_eq_of_covers 6 _ (by decide +kernel) fun t hf y => ?_
  obtain ⟨-, -, -, -, -, -, e, h2, h288⟩ := idx t
  blk_simp
  rw [after_6]
  obtain ⟨r, j, rfl⟩ : ∃ (r : Fin 1024) (j : Fin 1024), y = ix3 0 r j := ⟨y 1, y 2, (eq_ix3 (n0 := 1) (n1 := 1024) (n2 := 1024) y).trans (congrArg (fun z => ix3 z _ _) (Subsingleton.elim _ _))⟩
  have hr := r.isLt
  have hj := j.isLt
  refine (v6 m c t ((flush6_iff t).1 hf) ⟨t.val / 144, h2⟩ ⟨1024 * (t.val / 9 % 16) + r.val, by omega⟩ r j ⟨1024 * min (t.val % 9 - 5) 3 + j.val, by omega⟩ rfl rfl rfl).trans (congrArg (R.o2 (HG m c)) ?_)
  funext a; apply Fin.ext
  match a with
  | ⟨0, _⟩ => blk_simp [e]; rfl
  | ⟨1, _⟩ => blk_simp [e]; show 1024 * (t.val / 9 % 16) + r.val = _; omega
  | ⟨2, _⟩ => blk_simp [e]; show 1024 * min (t.val % 9 - 5) 3 + j.val = _; omega

/-- The run with its three results. -/
theorem run_value (ρ : Dev nD → PrngReg) : θ_run defs (onTc (τ := τ) (main (F := Ideal))) ⟨m, fun _ => 0, ρ⟩ fun r => ∀ c : Dev nD,
      r.2.mem ((c.tc : Thread nD τ).loc main_v14_0) = R.o0 (HG m c)
      ∧ r.2.mem ((c.tc : Thread nD τ).loc main_v14_1) = R.o1 (HG m c)
      ∧ r.2.mem ((c.tc : Thread nD τ).loc main_v14_2) = R.o2 (HG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1.1 c).1 4).trans (arr4 m c), ((h.1.1 c).1 5).trans (arr5 m c), ((h.1.1 c).1 6).trans (arr6 m c), h.2.1 c⟩)
    (θ_run_and (run_quiescent m ρ) (frame_proj m ρ))
end Cert.Proof.Proj
-- ==== Proof.Proj.Algebraic.lean ====
module
public import proofs.«01_k».proof.Defs
public import proofs.«01_k».proof.Proof.Proj.Fold

/-!
The projections kernel over the extended reals computes its reference's three results.
-/

@[expose] public section
set_option maxRecDepth 16384
noncomputable section
open Idealize.ShloMosaic Idealize.ShloMosaic.TcCoe Idealize.SL.Sem
namespace Cert.Proof.Proj

theorem algebraic_proj : Cert.algebraic_ProjIdeal_ProjRefIdeal := fun m g m' g' _ h =>
  ⟨fun c => R.o0 (HG m c), fun c => R.o1 (HG m c), fun c => R.o2 (HG m c), run_value m g,
    (θ_run _ _ _).mono (fun r hr c => by
      have e : R.HH m' c = HG m c := by
        obtain ⟨h0, h1, h2, h3⟩ := h c
        unfold R.HH HG
        rw [h0, h1, h2, h3]
      obtain ⟨r0, r1, r2, ra⟩ := hr c
      exact ⟨r0.trans (congrArg R.o0 e), r1.trans (congrArg R.o1 e), r2.trans (congrArg R.o2 e), ra⟩) (R.run m' g')⟩

end Cert.Proof.Proj
-- ==== Proof.lean ====
module

public import proofs.«01_k».proof.Defs
public import proofs.«01_k».proof.Proof.Attn.Algebraic
public import proofs.«01_k».proof.Proof.Gen.ReferenceIdeal.Run
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Ffn.Algebraic
public import proofs.«01_k».proof.Proof.Gen.Ada.Frame
public import proofs.«01_k».proof.Proof.Gen.AdaIdeal.Frame
public import proofs.«01_k».proof.Proof.Gen.AdaIdeal.Value
public import proofs.«01_k».proof.Proof.Gen.AdaRefIdeal.Run
public import proofs.«01_k».proof.Proof.Ada.Algebraic
public import proofs.«01_k».proof.Proof.Gen.Ffa.Frame
public import proofs.«01_k».proof.Proof.Gen.FfaIdeal.Frame
public import proofs.«01_k».proof.Proof.Gen.FfaIdeal.Value
public import proofs.«01_k».proof.Proof.Gen.FfaRefIdeal.Run
public import proofs.«01_k».proof.Proof.Ffa.Algebraic
public import proofs.«01_k».proof.Proof.Gen.Proj.Frame
public import proofs.«01_k».proof.Proof.Gen.Proj.Skeleton
public import proofs.«01_k».proof.Proof.Gen.ProjIdeal.Frame
public import proofs.«01_k».proof.Proof.Gen.ProjIdeal.Skeleton
public import proofs.«01_k».proof.Proof.Gen.ProjRefIdeal.Run
public import proofs.«01_k».proof.Proof.Proj.Algebraic
public import proofs.«01_k».proof.Proof.ProjW.Run
public import Idealize.ShloMosaic.Lib.Quiescent

@[expose] public section

noncomputable section

namespace Cert.Proof

open Idealize.ShloMosaic Idealize.SL.Sem

theorem frame_attn_ref : Cert.quiescent_ReferenceIdeal := fun m ρ _ =>
  (θ_run _ _ _).mono (fun r h => ⟨fun c => (h c).2, sem_eq_zero_of_no_sems (by decide) r.2⟩) (Cert.ReferenceIdeal.Value.run m ρ)

theorem frame_ffn_ref : Cert.quiescent_FfnRefIdeal := fun m ρ _ =>
  (θ_run _ _ _).mono (fun r h => ⟨fun c => (h c).2, sem_eq_zero_of_no_sems (by decide) r.2⟩) (Cert.FfnRefIdeal.Value.run m ρ)

theorem frame_ada_ref : Cert.quiescent_AdaRefIdeal := fun m ρ _ =>
  (θ_run _ _ _).mono (fun r h => ⟨fun c => (h c).2, sem_eq_zero_of_no_sems (by decide) r.2⟩) (Cert.AdaRefIdeal.Value.run m ρ)

theorem frame_ffa_ref : Cert.quiescent_FfaRefIdeal := fun m ρ _ =>
  (θ_run _ _ _).mono (fun r h => ⟨fun c => (h c).2, sem_eq_zero_of_no_sems (by decide) r.2⟩) (Cert.FfaRefIdeal.Value.run m ρ)

theorem frame_proj_ref : Cert.quiescent_ProjRefIdeal := fun m ρ _ =>
  (θ_run _ _ _).mono (fun r h => ⟨fun c => (h c).2.2.2, sem_eq_zero_of_no_sems (by decide) r.2⟩) (Cert.ProjRefIdeal.Value.run m ρ)

theorem preserves_proj : Cert.preserves_Proj_ProjIdeal := IdealRules.named_const.statement Cert.ProjIdeal.κ "q_scale" _ _ _ rfl

theorem claim : Cert.Claim :=
  ⟨Cert.KernelIdeal.Gen.facts, Cert.ReferenceIdeal.Gen.facts, Cert.Ffn.Gen.facts, Cert.FfnIdeal.Gen.facts, Cert.FfnRefIdeal.Gen.facts,
    Cert.Ada.Gen.facts, Cert.AdaIdeal.Gen.facts, Cert.AdaRefIdeal.Gen.facts, Cert.Ffa.Gen.facts, Cert.FfaIdeal.Gen.facts, Cert.FfaRefIdeal.Gen.facts,
    Cert.Proj.Gen.facts, Cert.ProjIdeal.Gen.facts, Cert.ProjRefIdeal.Gen.facts,
    fun m ρ _ => Cert.Proof.Attn.frame_attn m ρ, frame_attn_ref, fun m ρ _ => Cert.Ffn.Gen.frame m ρ,
    fun m ρ _ => Cert.FfnIdeal.Gen.frame m ρ, frame_ffn_ref,
    fun m ρ _ => Cert.Ada.Gen.frame m ρ, fun m ρ _ => Cert.AdaIdeal.Gen.frame m ρ, frame_ada_ref,
    fun m ρ _ => Cert.Ffa.Gen.frame m ρ, fun m ρ _ => Cert.FfaIdeal.Gen.frame m ρ, frame_ffa_ref,
    fun m ρ _ => Cert.Proof.ProjW.frame_proj m ρ, fun m ρ _ => Cert.Proof.Proj.frame_proj m ρ, frame_proj_ref,
    Cert.Proof.Attn.algebraic_attn, trivial, Cert.Proof.Ffn.algebraic_ffn, trivial, Cert.Proof.Ada.algebraic_ada, trivial, Cert.Proof.Ffa.algebraic_ffa,
    preserves_proj, Cert.Proof.Proj.algebraic_proj⟩

end Cert.Proof

end
